-- ==== Defs.lean ====
def Pre_KWo (m : (ℓ : Loc Cert.KWo.nD Cert.KWo.τ Cert.KWo.sig) → Buf (Elt Bits) ℓ) : Prop :=
  True

def Pre_KWoIdeal (m : (ℓ : Loc Cert.KWoIdeal.nD Cert.KWoIdeal.τ Cert.KWoIdeal.sig) → Buf (Elt Ideal) ℓ) : Prop :=
  True

def Pre_KWoIdeal_wo_meta_ordered [hPre_wo_meta_ordered : Cert.Pre_wo_meta_ordered.Facts] (m : (ℓ : Loc Cert.KWoIdeal.nD Cert.KWoIdeal.τ Cert.KWoIdeal.sig) → Buf (Elt Ideal) ℓ) : Prop :=
  ∀ c : Dev Cert.KWoIdeal.nD,
    (Cert.Pre_wo_meta_ordered.fn (F := Ideal) (m ((c.tc : Thread Cert.KWoIdeal.nD Cert.KWoIdeal.τ).loc Cert.KWoIdeal.main_arg0)) (m ((c.tc : Thread Cert.KWoIdeal.nD Cert.KWoIdeal.τ).loc Cert.KWoIdeal.main_arg1)) (m ((c.tc : Thread Cert.KWoIdeal.nD Cert.KWoIdeal.τ).loc Cert.KWoIdeal.main_arg2)) (m ((c.tc : Thread Cert.KWoIdeal.nD Cert.KWoIdeal.τ).loc Cert.KWoIdeal.main_arg3)) (m ((c.tc : Thread Cert.KWoIdeal.nD Cert.KWoIdeal.τ).loc Cert.KWoIdeal.main_arg4))) = (fun _ => 1#1)

def Pre_RWoIdeal (m : (ℓ : Loc Cert.RWoIdeal.nD Cert.RWoIdeal.τ Cert.RWoIdeal.sig) → Buf (Elt Ideal) ℓ) : Prop :=
  True

def Pre_RWoIdeal_wo_meta_ordered [hPre_wo_meta_ordered : Cert.Pre_wo_meta_ordered.Facts] (m : (ℓ : Loc Cert.RWoIdeal.nD Cert.RWoIdeal.τ Cert.RWoIdeal.sig) → Buf (Elt Ideal) ℓ) : Prop :=
  ∀ c : Dev Cert.RWoIdeal.nD,
    (Cert.Pre_wo_meta_ordered.fn (F := Ideal) (m ((c.tc : Thread Cert.RWoIdeal.nD Cert.RWoIdeal.τ).loc Cert.RWoIdeal.main_arg0)) (m ((c.tc : Thread Cert.RWoIdeal.nD Cert.RWoIdeal.τ).loc Cert.RWoIdeal.main_arg1)) (m ((c.tc : Thread Cert.RWoIdeal.nD Cert.RWoIdeal.τ).loc Cert.RWoIdeal.main_arg2)) (m ((c.tc : Thread Cert.RWoIdeal.nD Cert.RWoIdeal.τ).loc Cert.RWoIdeal.main_arg3)) (m ((c.tc : Thread Cert.RWoIdeal.nD Cert.RWoIdeal.τ).loc Cert.RWoIdeal.main_arg4))) = (fun _ => 1#1)

def Pre_KGu (m : (ℓ : Loc Cert.KGu.nD Cert.KGu.τ Cert.KGu.sig) → Buf (Elt Bits) ℓ) : Prop :=
  True

def Pre_KGuIdeal (m : (ℓ : Loc Cert.KGuIdeal.nD Cert.KGuIdeal.τ Cert.KGuIdeal.sig) → Buf (Elt Ideal) ℓ) : Prop :=
  True

def Pre_KGuIdeal_gu_meta_ordered [hPre_gu_meta_ordered : Cert.Pre_gu_meta_ordered.Facts] (m : (ℓ : Loc Cert.KGuIdeal.nD Cert.KGuIdeal.τ Cert.KGuIdeal.sig) → Buf (Elt Ideal) ℓ) : Prop :=
  ∀ c : Dev Cert.KGuIdeal.nD,
    (Cert.Pre_gu_meta_ordered.fn (F := Ideal) (m ((c.tc : Thread Cert.KGuIdeal.nD Cert.KGuIdeal.τ).loc Cert.KGuIdeal.main_arg0)) (m ((c.tc : Thread Cert.KGuIdeal.nD Cert.KGuIdeal.τ).loc Cert.KGuIdeal.main_arg1)) (m ((c.tc : Thread Cert.KGuIdeal.nD Cert.KGuIdeal.τ).loc Cert.KGuIdeal.main_arg2)) (m ((c.tc : Thread Cert.KGuIdeal.nD Cert.KGuIdeal.τ).loc Cert.KGuIdeal.main_arg3)) (m ((c.tc : Thread Cert.KGuIdeal.nD Cert.KGuIdeal.τ).loc Cert.KGuIdeal.main_arg4))) = (fun _ => 1#1)

def Pre_RGuIdeal (m : (ℓ : Loc Cert.RGuIdeal.nD Cert.RGuIdeal.τ Cert.RGuIdeal.sig) → Buf (Elt Ideal) ℓ) : Prop :=
  True

def Pre_RGuIdeal_gu_meta_ordered [hPre_gu_meta_ordered : Cert.Pre_gu_meta_ordered.Facts] (m : (ℓ : Loc Cert.RGuIdeal.nD Cert.RGuIdeal.τ Cert.RGuIdeal.sig) → Buf (Elt Ideal) ℓ) : Prop :=
  ∀ c : Dev Cert.RGuIdeal.nD,
    (Cert.Pre_gu_meta_ordered.fn (F := Ideal) (m ((c.tc : Thread Cert.RGuIdeal.nD Cert.RGuIdeal.τ).loc Cert.RGuIdeal.main_arg0)) (m ((c.tc : Thread Cert.RGuIdeal.nD Cert.RGuIdeal.τ).loc Cert.RGuIdeal.main_arg1)) (m ((c.tc : Thread Cert.RGuIdeal.nD Cert.RGuIdeal.τ).loc Cert.RGuIdeal.main_arg2)) (m ((c.tc : Thread Cert.RGuIdeal.nD Cert.RGuIdeal.τ).loc Cert.RGuIdeal.main_arg3)) (m ((c.tc : Thread Cert.RGuIdeal.nD Cert.RGuIdeal.τ).loc Cert.RGuIdeal.main_arg4))) = (fun _ => 1#1)

def Pre_KWd (m : (ℓ : Loc Cert.KWd.nD Cert.KWd.τ Cert.KWd.sig) → Buf (Elt Bits) ℓ) : Prop :=
  True

def Pre_KWdIdeal (m : (ℓ : Loc Cert.KWdIdeal.nD Cert.KWdIdeal.τ Cert.KWdIdeal.sig) → Buf (Elt Ideal) ℓ) : Prop :=
  True

def Pre_KWdIdeal_wd_meta_ordered [hPre_wd_meta_ordered : Cert.Pre_wd_meta_ordered.Facts] (m : (ℓ : Loc Cert.KWdIdeal.nD Cert.KWdIdeal.τ Cert.KWdIdeal.sig) → Buf (Elt Ideal) ℓ) : Prop :=
  ∀ c : Dev Cert.KWdIdeal.nD,
    (Cert.Pre_wd_meta_ordered.fn (F := Ideal) (m ((c.tc : Thread Cert.KWdIdeal.nD Cert.KWdIdeal.τ).loc Cert.KWdIdeal.main_arg0)) (m ((c.tc : Thread Cert.KWdIdeal.nD Cert.KWdIdeal.τ).loc Cert.KWdIdeal.main_arg1)) (m ((c.tc : Thread Cert.KWdIdeal.nD Cert.KWdIdeal.τ).loc Cert.KWdIdeal.main_arg2)) (m ((c.tc : Thread Cert.KWdIdeal.nD Cert.KWdIdeal.τ).loc Cert.KWdIdeal.main_arg3)) (m ((c.tc : Thread Cert.KWdIdeal.nD Cert.KWdIdeal.τ).loc Cert.KWdIdeal.main_arg4))) = (fun _ => 1#1)

def Pre_RWdIdeal (m : (ℓ : Loc Cert.RWdIdeal.nD Cert.RWdIdeal.τ Cert.RWdIdeal.sig) → Buf (Elt Ideal) ℓ) : Prop :=
  True

def Pre_RWdIdeal_wd_meta_ordered [hPre_wd_meta_ordered : Cert.Pre_wd_meta_ordered.Facts] (m : (ℓ : Loc Cert.RWdIdeal.nD Cert.RWdIdeal.τ Cert.RWdIdeal.sig) → Buf (Elt Ideal) ℓ) : Prop :=
  ∀ c : Dev Cert.RWdIdeal.nD,
    (Cert.Pre_wd_meta_ordered.fn (F := Ideal) (m ((c.tc : Thread Cert.RWdIdeal.nD Cert.RWdIdeal.τ).loc Cert.RWdIdeal.main_arg0)) (m ((c.tc : Thread Cert.RWdIdeal.nD Cert.RWdIdeal.τ).loc Cert.RWdIdeal.main_arg1)) (m ((c.tc : Thread Cert.RWdIdeal.nD Cert.RWdIdeal.τ).loc Cert.RWdIdeal.main_arg2)) (m ((c.tc : Thread Cert.RWdIdeal.nD Cert.RWdIdeal.τ).loc Cert.RWdIdeal.main_arg3)) (m ((c.tc : Thread Cert.RWdIdeal.nD Cert.RWdIdeal.τ).loc Cert.RWdIdeal.main_arg4))) = (fun _ => 1#1)

def Pre_KQkv (m : (ℓ : Loc Cert.KQkv.nD Cert.KQkv.τ Cert.KQkv.sig) → Buf (Elt Bits) ℓ) : Prop :=
  True

def Pre_KQkvIdeal (m : (ℓ : Loc Cert.KQkvIdeal.nD Cert.KQkvIdeal.τ Cert.KQkvIdeal.sig) → Buf (Elt Ideal) ℓ) : Prop :=
  True

def Pre_KQkvIdeal_qkv_meta_ordered [hPre_qkv_meta_ordered : Cert.Pre_qkv_meta_ordered.Facts] (m : (ℓ : Loc Cert.KQkvIdeal.nD Cert.KQkvIdeal.τ Cert.KQkvIdeal.sig) → Buf (Elt Ideal) ℓ) : Prop :=
  ∀ c : Dev Cert.KQkvIdeal.nD,
    (Cert.Pre_qkv_meta_ordered.fn (F := Ideal) (m ((c.tc : Thread Cert.KQkvIdeal.nD Cert.KQkvIdeal.τ).loc Cert.KQkvIdeal.main_arg0)) (m ((c.tc : Thread Cert.KQkvIdeal.nD Cert.KQkvIdeal.τ).loc Cert.KQkvIdeal.main_arg1)) (m ((c.tc : Thread Cert.KQkvIdeal.nD Cert.KQkvIdeal.τ).loc Cert.KQkvIdeal.main_arg2)) (m ((c.tc : Thread Cert.KQkvIdeal.nD Cert.KQkvIdeal.τ).loc Cert.KQkvIdeal.main_arg3)) (m ((c.tc : Thread Cert.KQkvIdeal.nD Cert.KQkvIdeal.τ).loc Cert.KQkvIdeal.main_arg4)) (m ((c.tc : Thread Cert.KQkvIdeal.nD Cert.KQkvIdeal.τ).loc Cert.KQkvIdeal.main_arg5)) (m ((c.tc : Thread Cert.KQkvIdeal.nD Cert.KQkvIdeal.τ).loc Cert.KQkvIdeal.main_arg6)) (m ((c.tc : Thread Cert.KQkvIdeal.nD Cert.KQkvIdeal.τ).loc Cert.KQkvIdeal.main_arg7)) (m ((c.tc : Thread Cert.KQkvIdeal.nD Cert.KQkvIdeal.τ).loc Cert.KQkvIdeal.main_arg8))) = (fun _ => 1#1)

def Pre_RQkvIdeal (m : (ℓ : Loc Cert.RQkvIdeal.nD Cert.RQkvIdeal.τ Cert.RQkvIdeal.sig) → Buf (Elt Ideal) ℓ) : Prop :=
  True

def Pre_RQkvIdeal_qkv_meta_ordered [hPre_qkv_meta_ordered : Cert.Pre_qkv_meta_ordered.Facts] (m : (ℓ : Loc Cert.RQkvIdeal.nD Cert.RQkvIdeal.τ Cert.RQkvIdeal.sig) → Buf (Elt Ideal) ℓ) : Prop :=
  ∀ c : Dev Cert.RQkvIdeal.nD,
    (Cert.Pre_qkv_meta_ordered.fn (F := Ideal) (m ((c.tc : Thread Cert.RQkvIdeal.nD Cert.RQkvIdeal.τ).loc Cert.RQkvIdeal.main_arg0)) (m ((c.tc : Thread Cert.RQkvIdeal.nD Cert.RQkvIdeal.τ).loc Cert.RQkvIdeal.main_arg1)) (m ((c.tc : Thread Cert.RQkvIdeal.nD Cert.RQkvIdeal.τ).loc Cert.RQkvIdeal.main_arg2)) (m ((c.tc : Thread Cert.RQkvIdeal.nD Cert.RQkvIdeal.τ).loc Cert.RQkvIdeal.main_arg3)) (m ((c.tc : Thread Cert.RQkvIdeal.nD Cert.RQkvIdeal.τ).loc Cert.RQkvIdeal.main_arg4)) (m ((c.tc : Thread Cert.RQkvIdeal.nD Cert.RQkvIdeal.τ).loc Cert.RQkvIdeal.main_arg5)) (m ((c.tc : Thread Cert.RQkvIdeal.nD Cert.RQkvIdeal.τ).loc Cert.RQkvIdeal.main_arg6)) (m ((c.tc : Thread Cert.RQkvIdeal.nD Cert.RQkvIdeal.τ).loc Cert.RQkvIdeal.main_arg7)) (m ((c.tc : Thread Cert.RQkvIdeal.nD Cert.RQkvIdeal.τ).loc Cert.RQkvIdeal.main_arg8))) = (fun _ => 1#1)

def Pre_KAttn [hPre_cache_len_within : Cert.Pre_cache_len_within.Facts] (m : (ℓ : Loc Cert.KAttn.nD Cert.KAttn.τ Cert.KAttn.sig) → Buf (Elt Bits) ℓ) : Prop :=
  ∀ c : Dev Cert.KAttn.nD,
    (Cert.Pre_cache_len_within.fn (F := Bits) (m ((c.tc : Thread Cert.KAttn.nD Cert.KAttn.τ).loc Cert.KAttn.main_arg0)) (m ((c.tc : Thread Cert.KAttn.nD Cert.KAttn.τ).loc Cert.KAttn.main_arg1)) (m ((c.tc : Thread Cert.KAttn.nD Cert.KAttn.τ).loc Cert.KAttn.main_arg2)) (m ((c.tc : Thread Cert.KAttn.nD Cert.KAttn.τ).loc Cert.KAttn.main_arg3)) (m ((c.tc : Thread Cert.KAttn.nD Cert.KAttn.τ).loc Cert.KAttn.main_arg4)) (m ((c.tc : Thread Cert.KAttn.nD Cert.KAttn.τ).loc Cert.KAttn.main_arg5)) (m ((c.tc : Thread Cert.KAttn.nD Cert.KAttn.τ).loc Cert.KAttn.main_arg6)) (m ((c.tc : Thread Cert.KAttn.nD Cert.KAttn.τ).loc Cert.KAttn.main_arg7))) = (fun _ => 1#1)

def Pre_KAttnIdeal [hPre_cache_len_within : Cert.Pre_cache_len_within.Facts] (m : (ℓ : Loc Cert.KAttnIdeal.nD Cert.KAttnIdeal.τ Cert.KAttnIdeal.sig) → Buf (Elt Ideal) ℓ) : Prop :=
  ∀ c : Dev Cert.KAttnIdeal.nD,
    (Cert.Pre_cache_len_within.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2)) (m ((c.tc : Thread Cert.KAttnIdeal.nD Cert.KAttnIdeal.τ).loc Cert.KAttnIdeal.main_arg3)) (m ((c.tc : Thread Cert.KAttnIdeal.nD Cert.KAttnIdeal.τ).loc Cert.KAttnIdeal.main_arg4)) (m ((c.tc : Thread Cert.KAttnIdeal.nD Cert.KAttnIdeal.τ).loc Cert.KAttnIdeal.main_arg5)) (m ((c.tc : Thread Cert.KAttnIdeal.nD Cert.KAttnIdeal.τ).loc Cert.KAttnIdeal.main_arg6)) (m ((c.tc : Thread Cert.KAttnIdeal.nD Cert.KAttnIdeal.τ).loc Cert.KAttnIdeal.main_arg7))) = (fun _ => 1#1)

def quiescent_KWo [hKWo : Cert.KWo.Facts] : Prop :=
  ∀ (m : (ℓ : Loc Cert.KWo.nD Cert.KWo.τ Cert.KWo.sig) → Buf (Elt Bits) ℓ) (g : Dev Cert.KWo.nD → PrngReg), Pre_KWo m →
    θ_run (Cert.KWo.defs (F := Bits)) (onTc (τ := Cert.KWo.τ) (Cert.KWo.main (F := Bits))) ⟨m, fun _ => 0, g⟩ (fun r => (∀ c : Dev Cert.KWo.nD,
      r.2.mem ((c.tc : Thread Cert.KWo.nD Cert.KWo.τ).loc Cert.KWo.main_arg0) = m ((c.tc : Thread Cert.KWo.nD Cert.KWo.τ).loc Cert.KWo.main_arg0)
      ∧ r.2.mem ((c.tc : Thread Cert.KWo.nD Cert.KWo.τ).loc Cert.KWo.main_arg1) = m ((c.tc : Thread Cert.KWo.nD Cert.KWo.τ).loc Cert.KWo.main_arg1)
      ∧ r.2.mem ((c.tc : Thread Cert.KWo.nD Cert.KWo.τ).loc Cert.KWo.main_arg2) = m ((c.tc : Thread Cert.KWo.nD Cert.KWo.τ).loc Cert.KWo.main_arg2)
      ∧ r.2.mem ((c.tc : Thread Cert.KWo.nD Cert.KWo.τ).loc Cert.KWo.main_arg3) = m ((c.tc : Thread Cert.KWo.nD Cert.KWo.τ).loc Cert.KWo.main_arg3)
      ∧ r.2.mem ((c.tc : Thread Cert.KWo.nD Cert.KWo.τ).loc Cert.KWo.main_arg4) = m ((c.tc : Thread Cert.KWo.nD Cert.KWo.τ).loc Cert.KWo.main_arg4))
      ∧ r.2.sem = fun _ => 0)

def quiescent_KWoIdeal [hKWoIdeal : Cert.KWoIdeal.Facts] : Prop :=
  ∀ (m : (ℓ : Loc Cert.KWoIdeal.nD Cert.KWoIdeal.τ Cert.KWoIdeal.sig) → Buf (Elt Ideal) ℓ) (g : Dev Cert.KWoIdeal.nD → PrngReg), Pre_KWoIdeal m →
    θ_run (Cert.KWoIdeal.defs (F := Ideal)) (onTc (τ := Cert.KWoIdeal.τ) (Cert.KWoIdeal.main (F := Ideal))) ⟨m, fun _ => 0, g⟩ (fun r => (∀ c : Dev Cert.KWoIdeal.nD,
      r.2.mem ((c.tc : Thread Cert.KWoIdeal.nD Cert.KWoIdeal.τ).loc Cert.KWoIdeal.main_arg0) = m ((c.tc : Thread Cert.KWoIdeal.nD Cert.KWoIdeal.τ).loc Cert.KWoIdeal.main_arg0)
      ∧ r.2.mem ((c.tc : Thread Cert.KWoIdeal.nD Cert.KWoIdeal.τ).loc Cert.KWoIdeal.main_arg1) = m ((c.tc : Thread Cert.KWoIdeal.nD Cert.KWoIdeal.τ).loc Cert.KWoIdeal.main_arg1)
      ∧ r.2.mem ((c.tc : Thread Cert.KWoIdeal.nD Cert.KWoIdeal.τ).loc Cert.KWoIdeal.main_arg2) = m ((c.tc : Thread Cert.KWoIdeal.nD Cert.KWoIdeal.τ).loc Cert.KWoIdeal.main_arg2)
      ∧ r.2.mem ((c.tc : Thread Cert.KWoIdeal.nD Cert.KWoIdeal.τ).loc Cert.KWoIdeal.main_arg3) = m ((c.tc : Thread Cert.KWoIdeal.nD Cert.KWoIdeal.τ).loc Cert.KWoIdeal.main_arg3)
      ∧ r.2.mem ((c.tc : Thread Cert.KWoIdeal.nD Cert.KWoIdeal.τ).loc Cert.KWoIdeal.main_arg4) = m ((c.tc : Thread Cert.KWoIdeal.nD Cert.KWoIdeal.τ).loc Cert.KWoIdeal.main_arg4))
      ∧ r.2.sem = fun _ => 0)

def quiescent_KWoIdeal_pre_wo_meta_ordered [hKWoIdeal : Cert.KWoIdeal.Facts] [hPre_wo_meta_ordered : Cert.Pre_wo_meta_ordered.Facts] : Prop :=
  ∀ (m : (ℓ : Loc Cert.KWoIdeal.nD Cert.KWoIdeal.τ Cert.KWoIdeal.sig) → Buf (Elt Ideal) ℓ) (g : Dev Cert.KWoIdeal.nD → PrngReg), Pre_KWoIdeal_wo_meta_ordered m →
    θ_run (Cert.KWoIdeal.defs (F := Ideal)) (onTc (τ := Cert.KWoIdeal.τ) (Cert.KWoIdeal.main (F := Ideal))) ⟨m, fun _ => 0, g⟩ (fun r => (∀ c : Dev Cert.KWoIdeal.nD,
      r.2.mem ((c.tc : Thread Cert.KWoIdeal.nD Cert.KWoIdeal.τ).loc Cert.KWoIdeal.main_arg0) = m ((c.tc : Thread Cert.KWoIdeal.nD Cert.KWoIdeal.τ).loc Cert.KWoIdeal.main_arg0)
      ∧ r.2.mem ((c.tc : Thread Cert.KWoIdeal.nD Cert.KWoIdeal.τ).loc Cert.KWoIdeal.main_arg1) = m ((c.tc : Thread Cert.KWoIdeal.nD Cert.KWoIdeal.τ).loc Cert.KWoIdeal.main_arg1)
      ∧ r.2.mem ((c.tc : Thread Cert.KWoIdeal.nD Cert.KWoIdeal.τ).loc Cert.KWoIdeal.main_arg2) = m ((c.tc : Thread Cert.KWoIdeal.nD Cert.KWoIdeal.τ).loc Cert.KWoIdeal.main_arg2)
      ∧ r.2.mem ((c.tc : Thread Cert.KWoIdeal.nD Cert.KWoIdeal.τ).loc Cert.KWoIdeal.main_arg3) = m ((c.tc : Thread Cert.KWoIdeal.nD Cert.KWoIdeal.τ).loc Cert.KWoIdeal.main_arg3)
      ∧ r.2.mem ((c.tc : Thread Cert.KWoIdeal.nD Cert.KWoIdeal.τ).loc Cert.KWoIdeal.main_arg4) = m ((c.tc : Thread Cert.KWoIdeal.nD Cert.KWoIdeal.τ).loc Cert.KWoIdeal.main_arg4))
      ∧ r.2.sem = fun _ => 0)

def quiescent_RWoIdeal [hRWoIdeal : Cert.RWoIdeal.Facts] : Prop :=
  ∀ (m : (ℓ : Loc Cert.RWoIdeal.nD Cert.RWoIdeal.τ Cert.RWoIdeal.sig) → Buf (Elt Ideal) ℓ) (g : Dev Cert.RWoIdeal.nD → PrngReg), Pre_RWoIdeal m →
    θ_run (Cert.RWoIdeal.defs (F := Ideal)) (onTc (τ := Cert.RWoIdeal.τ) (Cert.RWoIdeal.main (F := Ideal))) ⟨m, fun _ => 0, g⟩ (fun r => (∀ c : Dev Cert.RWoIdeal.nD,
      r.2.mem ((c.tc : Thread Cert.RWoIdeal.nD Cert.RWoIdeal.τ).loc Cert.RWoIdeal.main_arg0) = m ((c.tc : Thread Cert.RWoIdeal.nD Cert.RWoIdeal.τ).loc Cert.RWoIdeal.main_arg0)
      ∧ r.2.mem ((c.tc : Thread Cert.RWoIdeal.nD Cert.RWoIdeal.τ).loc Cert.RWoIdeal.main_arg1) = m ((c.tc : Thread Cert.RWoIdeal.nD Cert.RWoIdeal.τ).loc Cert.RWoIdeal.main_arg1)
      ∧ r.2.mem ((c.tc : Thread Cert.RWoIdeal.nD Cert.RWoIdeal.τ).loc Cert.RWoIdeal.main_arg2) = m ((c.tc : Thread Cert.RWoIdeal.nD Cert.RWoIdeal.τ).loc Cert.RWoIdeal.main_arg2)
      ∧ r.2.mem ((c.tc : Thread Cert.RWoIdeal.nD Cert.RWoIdeal.τ).loc Cert.RWoIdeal.main_arg3) = m ((c.tc : Thread Cert.RWoIdeal.nD Cert.RWoIdeal.τ).loc Cert.RWoIdeal.main_arg3)
      ∧ r.2.mem ((c.tc : Thread Cert.RWoIdeal.nD Cert.RWoIdeal.τ).loc Cert.RWoIdeal.main_arg4) = m ((c.tc : Thread Cert.RWoIdeal.nD Cert.RWoIdeal.τ).loc Cert.RWoIdeal.main_arg4))
      ∧ r.2.sem = fun _ => 0)

def quiescent_RWoIdeal_pre_wo_meta_ordered [hRWoIdeal : Cert.RWoIdeal.Facts] [hPre_wo_meta_ordered : Cert.Pre_wo_meta_ordered.Facts] : Prop :=
  ∀ (m : (ℓ : Loc Cert.RWoIdeal.nD Cert.RWoIdeal.τ Cert.RWoIdeal.sig) → Buf (Elt Ideal) ℓ) (g : Dev Cert.RWoIdeal.nD → PrngReg), Pre_RWoIdeal_wo_meta_ordered m →
    θ_run (Cert.RWoIdeal.defs (F := Ideal)) (onTc (τ := Cert.RWoIdeal.τ) (Cert.RWoIdeal.main (F := Ideal))) ⟨m, fun _ => 0, g⟩ (fun r => (∀ c : Dev Cert.RWoIdeal.nD,
      r.2.mem ((c.tc : Thread Cert.RWoIdeal.nD Cert.RWoIdeal.τ).loc Cert.RWoIdeal.main_arg0) = m ((c.tc : Thread Cert.RWoIdeal.nD Cert.RWoIdeal.τ).loc Cert.RWoIdeal.main_arg0)
      ∧ r.2.mem ((c.tc : Thread Cert.RWoIdeal.nD Cert.RWoIdeal.τ).loc Cert.RWoIdeal.main_arg1) = m ((c.tc : Thread Cert.RWoIdeal.nD Cert.RWoIdeal.τ).loc Cert.RWoIdeal.main_arg1)
      ∧ r.2.mem ((c.tc : Thread Cert.RWoIdeal.nD Cert.RWoIdeal.τ).loc Cert.RWoIdeal.main_arg2) = m ((c.tc : Thread Cert.RWoIdeal.nD Cert.RWoIdeal.τ).loc Cert.RWoIdeal.main_arg2)
      ∧ r.2.mem ((c.tc : Thread Cert.RWoIdeal.nD Cert.RWoIdeal.τ).loc Cert.RWoIdeal.main_arg3) = m ((c.tc : Thread Cert.RWoIdeal.nD Cert.RWoIdeal.τ).loc Cert.RWoIdeal.main_arg3)
      ∧ r.2.mem ((c.tc : Thread Cert.RWoIdeal.nD Cert.RWoIdeal.τ).loc Cert.RWoIdeal.main_arg4) = m ((c.tc : Thread Cert.RWoIdeal.nD Cert.RWoIdeal.τ).loc Cert.RWoIdeal.main_arg4))
      ∧ r.2.sem = fun _ => 0)

def quiescent_KGu [hKGu : Cert.KGu.Facts] : Prop :=
  ∀ (m : (ℓ : Loc Cert.KGu.nD Cert.KGu.τ Cert.KGu.sig) → Buf (Elt Bits) ℓ) (g : Dev Cert.KGu.nD → PrngReg), Pre_KGu m →
    θ_run (Cert.KGu.defs (F := Bits)) (onTc (τ := Cert.KGu.τ) (Cert.KGu.main (F := Bits))) ⟨m, fun _ => 0, g⟩ (fun r => (∀ c : Dev Cert.KGu.nD,
      r.2.mem ((c.tc : Thread Cert.KGu.nD Cert.KGu.τ).loc Cert.KGu.main_arg0) = m ((c.tc : Thread Cert.KGu.nD Cert.KGu.τ).loc Cert.KGu.main_arg0)
      ∧ r.2.mem ((c.tc : Thread Cert.KGu.nD Cert.KGu.τ).loc Cert.KGu.main_arg1) = m ((c.tc : Thread Cert.KGu.nD Cert.KGu.τ).loc Cert.KGu.main_arg1)
      ∧ r.2.mem ((c.tc : Thread Cert.KGu.nD Cert.KGu.τ).loc Cert.KGu.main_arg2) = m ((c.tc : Thread Cert.KGu.nD Cert.KGu.τ).loc Cert.KGu.main_arg2)
      ∧ r.2.mem ((c.tc : Thread Cert.KGu.nD Cert.KGu.τ).loc Cert.KGu.main_arg3) = m ((c.tc : Thread Cert.KGu.nD Cert.KGu.τ).loc Cert.KGu.main_arg3)
      ∧ r.2.mem ((c.tc : Thread Cert.KGu.nD Cert.KGu.τ).loc Cert.KGu.main_arg4) = m ((c.tc : Thread Cert.KGu.nD Cert.KGu.τ).loc Cert.KGu.main_arg4))
      ∧ r.2.sem = fun _ => 0)

def quiescent_KGuIdeal [hKGuIdeal : Cert.KGuIdeal.Facts] : Prop :=
  ∀ (m : (ℓ : Loc Cert.KGuIdeal.nD Cert.KGuIdeal.τ Cert.KGuIdeal.sig) → Buf (Elt Ideal) ℓ) (g : Dev Cert.KGuIdeal.nD → PrngReg), Pre_KGuIdeal m →
    θ_run (Cert.KGuIdeal.defs (F := Ideal)) (onTc (τ := Cert.KGuIdeal.τ) (Cert.KGuIdeal.main (F := Ideal))) ⟨m, fun _ => 0, g⟩ (fun r => (∀ c : Dev Cert.KGuIdeal.nD,
      r.2.mem ((c.tc : Thread Cert.KGuIdeal.nD Cert.KGuIdeal.τ).loc Cert.KGuIdeal.main_arg0) = m ((c.tc : Thread Cert.KGuIdeal.nD Cert.KGuIdeal.τ).loc Cert.KGuIdeal.main_arg0)
      ∧ r.2.mem ((c.tc : Thread Cert.KGuIdeal.nD Cert.KGuIdeal.τ).loc Cert.KGuIdeal.main_arg1) = m ((c.tc : Thread Cert.KGuIdeal.nD Cert.KGuIdeal.τ).loc Cert.KGuIdeal.main_arg1)
      ∧ r.2.mem ((c.tc : Thread Cert.KGuIdeal.nD Cert.KGuIdeal.τ).loc Cert.KGuIdeal.main_arg2) = m ((c.tc : Thread Cert.KGuIdeal.nD Cert.KGuIdeal.τ).loc Cert.KGuIdeal.main_arg2)
      ∧ r.2.mem ((c.tc : Thread Cert.KGuIdeal.nD Cert.KGuIdeal.τ).loc Cert.KGuIdeal.main_arg3) = m ((c.tc : Thread Cert.KGuIdeal.nD Cert.KGuIdeal.τ).loc Cert.KGuIdeal.main_arg3)
      ∧ r.2.mem ((c.tc : Thread Cert.KGuIdeal.nD Cert.KGuIdeal.τ).loc Cert.KGuIdeal.main_arg4) = m ((c.tc : Thread Cert.KGuIdeal.nD Cert.KGuIdeal.τ).loc Cert.KGuIdeal.main_arg4))
      ∧ r.2.sem = fun _ => 0)

def quiescent_KGuIdeal_pre_gu_meta_ordered [hKGuIdeal : Cert.KGuIdeal.Facts] [hPre_gu_meta_ordered : Cert.Pre_gu_meta_ordered.Facts] : Prop :=
  ∀ (m : (ℓ : Loc Cert.KGuIdeal.nD Cert.KGuIdeal.τ Cert.KGuIdeal.sig) → Buf (Elt Ideal) ℓ) (g : Dev Cert.KGuIdeal.nD → PrngReg), Pre_KGuIdeal_gu_meta_ordered m →
    θ_run (Cert.KGuIdeal.defs (F := Ideal)) (onTc (τ := Cert.KGuIdeal.τ) (Cert.KGuIdeal.main (F := Ideal))) ⟨m, fun _ => 0, g⟩ (fun r => (∀ c : Dev Cert.KGuIdeal.nD,
      r.2.mem ((c.tc : Thread Cert.KGuIdeal.nD Cert.KGuIdeal.τ).loc Cert.KGuIdeal.main_arg0) = m ((c.tc : Thread Cert.KGuIdeal.nD Cert.KGuIdeal.τ).loc Cert.KGuIdeal.main_arg0)
      ∧ r.2.mem ((c.tc : Thread Cert.KGuIdeal.nD Cert.KGuIdeal.τ).loc Cert.KGuIdeal.main_arg1) = m ((c.tc : Thread Cert.KGuIdeal.nD Cert.KGuIdeal.τ).loc Cert.KGuIdeal.main_arg1)
      ∧ r.2.mem ((c.tc : Thread Cert.KGuIdeal.nD Cert.KGuIdeal.τ).loc Cert.KGuIdeal.main_arg2) = m ((c.tc : Thread Cert.KGuIdeal.nD Cert.KGuIdeal.τ).loc Cert.KGuIdeal.main_arg2)
      ∧ r.2.mem ((c.tc : Thread Cert.KGuIdeal.nD Cert.KGuIdeal.τ).loc Cert.KGuIdeal.main_arg3) = m ((c.tc : Thread Cert.KGuIdeal.nD Cert.KGuIdeal.τ).loc Cert.KGuIdeal.main_arg3)
      ∧ r.2.mem ((c.tc : Thread Cert.KGuIdeal.nD Cert.KGuIdeal.τ).loc Cert.KGuIdeal.main_arg4) = m ((c.tc : Thread Cert.KGuIdeal.nD Cert.KGuIdeal.τ).loc Cert.KGuIdeal.main_arg4))
      ∧ r.2.sem = fun _ => 0)

def quiescent_RGuIdeal [hRGuIdeal : Cert.RGuIdeal.Facts] : Prop :=
  ∀ (m : (ℓ : Loc Cert.RGuIdeal.nD Cert.RGuIdeal.τ Cert.RGuIdeal.sig) → Buf (Elt Ideal) ℓ) (g : Dev Cert.RGuIdeal.nD → PrngReg), Pre_RGuIdeal m →
    θ_run (Cert.RGuIdeal.defs (F := Ideal)) (onTc (τ := Cert.RGuIdeal.τ) (Cert.RGuIdeal.main (F := Ideal))) ⟨m, fun _ => 0, g⟩ (fun r => (∀ c : Dev Cert.RGuIdeal.nD,
      r.2.mem ((c.tc : Thread Cert.RGuIdeal.nD Cert.RGuIdeal.τ).loc Cert.RGuIdeal.main_arg0) = m ((c.tc : Thread Cert.RGuIdeal.nD Cert.RGuIdeal.τ).loc Cert.RGuIdeal.main_arg0)
      ∧ r.2.mem ((c.tc : Thread Cert.RGuIdeal.nD Cert.RGuIdeal.τ).loc Cert.RGuIdeal.main_arg1) = m ((c.tc : Thread Cert.RGuIdeal.nD Cert.RGuIdeal.τ).loc Cert.RGuIdeal.main_arg1)
      ∧ r.2.mem ((c.tc : Thread Cert.RGuIdeal.nD Cert.RGuIdeal.τ).loc Cert.RGuIdeal.main_arg2) = m ((c.tc : Thread Cert.RGuIdeal.nD Cert.RGuIdeal.τ).loc Cert.RGuIdeal.main_arg2)
      ∧ r.2.mem ((c.tc : Thread Cert.RGuIdeal.nD Cert.RGuIdeal.τ).loc Cert.RGuIdeal.main_arg3) = m ((c.tc : Thread Cert.RGuIdeal.nD Cert.RGuIdeal.τ).loc Cert.RGuIdeal.main_arg3)
      ∧ r.2.mem ((c.tc : Thread Cert.RGuIdeal.nD Cert.RGuIdeal.τ).loc Cert.RGuIdeal.main_arg4) = m ((c.tc : Thread Cert.RGuIdeal.nD Cert.RGuIdeal.τ).loc Cert.RGuIdeal.main_arg4))
      ∧ r.2.sem = fun _ => 0)

def quiescent_RGuIdeal_pre_gu_meta_ordered [hRGuIdeal : Cert.RGuIdeal.Facts] [hPre_gu_meta_ordered : Cert.Pre_gu_meta_ordered.Facts] : Prop :=
  ∀ (m : (ℓ : Loc Cert.RGuIdeal.nD Cert.RGuIdeal.τ Cert.RGuIdeal.sig) → Buf (Elt Ideal) ℓ) (g : Dev Cert.RGuIdeal.nD → PrngReg), Pre_RGuIdeal_gu_meta_ordered m →
    θ_run (Cert.RGuIdeal.defs (F := Ideal)) (onTc (τ := Cert.RGuIdeal.τ) (Cert.RGuIdeal.main (F := Ideal))) ⟨m, fun _ => 0, g⟩ (fun r => (∀ c : Dev Cert.RGuIdeal.nD,
      r.2.mem ((c.tc : Thread Cert.RGuIdeal.nD Cert.RGuIdeal.τ).loc Cert.RGuIdeal.main_arg0) = m ((c.tc : Thread Cert.RGuIdeal.nD Cert.RGuIdeal.τ).loc Cert.RGuIdeal.main_arg0)
      ∧ r.2.mem ((c.tc : Thread Cert.RGuIdeal.nD Cert.RGuIdeal.τ).loc Cert.RGuIdeal.main_arg1) = m ((c.tc : Thread Cert.RGuIdeal.nD Cert.RGuIdeal.τ).loc Cert.RGuIdeal.main_arg1)
      ∧ r.2.mem ((c.tc : Thread Cert.RGuIdeal.nD Cert.RGuIdeal.τ).loc Cert.RGuIdeal.main_arg2) = m ((c.tc : Thread Cert.RGuIdeal.nD Cert.RGuIdeal.τ).loc Cert.RGuIdeal.main_arg2)
      ∧ r.2.mem ((c.tc : Thread Cert.RGuIdeal.nD Cert.RGuIdeal.τ).loc Cert.RGuIdeal.main_arg3) = m ((c.tc : Thread Cert.RGuIdeal.nD Cert.RGuIdeal.τ).loc Cert.RGuIdeal.main_arg3)
      ∧ r.2.mem ((c.tc : Thread Cert.RGuIdeal.nD Cert.RGuIdeal.τ).loc Cert.RGuIdeal.main_arg4) = m ((c.tc : Thread Cert.RGuIdeal.nD Cert.RGuIdeal.τ).loc Cert.RGuIdeal.main_arg4))
      ∧ r.2.sem = fun _ => 0)

def quiescent_KWd [hKWd : Cert.KWd.Facts] : Prop :=
  ∀ (m : (ℓ : Loc Cert.KWd.nD Cert.KWd.τ Cert.KWd.sig) → Buf (Elt Bits) ℓ) (g : Dev Cert.KWd.nD → PrngReg), Pre_KWd m →
    θ_run (Cert.KWd.defs (F := Bits)) (onTc (τ := Cert.KWd.τ) (Cert.KWd.main (F := Bits))) ⟨m, fun _ => 0, g⟩ (fun r => (∀ c : Dev Cert.KWd.nD,
      r.2.mem ((c.tc : Thread Cert.KWd.nD Cert.KWd.τ).loc Cert.KWd.main_arg0) = m ((c.tc : Thread Cert.KWd.nD Cert.KWd.τ).loc Cert.KWd.main_arg0)
      ∧ r.2.mem ((c.tc : Thread Cert.KWd.nD Cert.KWd.τ).loc Cert.KWd.main_arg1) = m ((c.tc : Thread Cert.KWd.nD Cert.KWd.τ).loc Cert.KWd.main_arg1)
      ∧ r.2.mem ((c.tc : Thread Cert.KWd.nD Cert.KWd.τ).loc Cert.KWd.main_arg2) = m ((c.tc : Thread Cert.KWd.nD Cert.KWd.τ).loc Cert.KWd.main_arg2)
      ∧ r.2.mem ((c.tc : Thread Cert.KWd.nD Cert.KWd.τ).loc Cert.KWd.main_arg3) = m ((c.tc : Thread Cert.KWd.nD Cert.KWd.τ).loc Cert.KWd.main_arg3)
      ∧ r.2.mem ((c.tc : Thread Cert.KWd.nD Cert.KWd.τ).loc Cert.KWd.main_arg4) = m ((c.tc : Thread Cert.KWd.nD Cert.KWd.τ).loc Cert.KWd.main_arg4))
      ∧ r.2.sem = fun _ => 0)

def quiescent_KWdIdeal [hKWdIdeal : Cert.KWdIdeal.Facts] : Prop :=
  ∀ (m : (ℓ : Loc Cert.KWdIdeal.nD Cert.KWdIdeal.τ Cert.KWdIdeal.sig) → Buf (Elt Ideal) ℓ) (g : Dev Cert.KWdIdeal.nD → PrngReg), Pre_KWdIdeal m →
    θ_run (Cert.KWdIdeal.defs (F := Ideal)) (onTc (τ := Cert.KWdIdeal.τ) (Cert.KWdIdeal.main (F := Ideal))) ⟨m, fun _ => 0, g⟩ (fun r => (∀ c : Dev Cert.KWdIdeal.nD,
      r.2.mem ((c.tc : Thread Cert.KWdIdeal.nD Cert.KWdIdeal.τ).loc Cert.KWdIdeal.main_arg0) = m ((c.tc : Thread Cert.KWdIdeal.nD Cert.KWdIdeal.τ).loc Cert.KWdIdeal.main_arg0)
      ∧ r.2.mem ((c.tc : Thread Cert.KWdIdeal.nD Cert.KWdIdeal.τ).loc Cert.KWdIdeal.main_arg1) = m ((c.tc : Thread Cert.KWdIdeal.nD Cert.KWdIdeal.τ).loc Cert.KWdIdeal.main_arg1)
      ∧ r.2.mem ((c.tc : Thread Cert.KWdIdeal.nD Cert.KWdIdeal.τ).loc Cert.KWdIdeal.main_arg2) = m ((c.tc : Thread Cert.KWdIdeal.nD Cert.KWdIdeal.τ).loc Cert.KWdIdeal.main_arg2)
      ∧ r.2.mem ((c.tc : Thread Cert.KWdIdeal.nD Cert.KWdIdeal.τ).loc Cert.KWdIdeal.main_arg3) = m ((c.tc : Thread Cert.KWdIdeal.nD Cert.KWdIdeal.τ).loc Cert.KWdIdeal.main_arg3)
      ∧ r.2.mem ((c.tc : Thread Cert.KWdIdeal.nD Cert.KWdIdeal.τ).loc Cert.KWdIdeal.main_arg4) = m ((c.tc : Thread Cert.KWdIdeal.nD Cert.KWdIdeal.τ).loc Cert.KWdIdeal.main_arg4))
      ∧ r.2.sem = fun _ => 0)

def quiescent_KWdIdeal_pre_wd_meta_ordered [hKWdIdeal : Cert.KWdIdeal.Facts] [hPre_wd_meta_ordered : Cert.Pre_wd_meta_ordered.Facts] : Prop :=
  ∀ (m : (ℓ : Loc Cert.KWdIdeal.nD Cert.KWdIdeal.τ Cert.KWdIdeal.sig) → Buf (Elt Ideal) ℓ) (g : Dev Cert.KWdIdeal.nD → PrngReg), Pre_KWdIdeal_wd_meta_ordered m →
    θ_run (Cert.KWdIdeal.defs (F := Ideal)) (onTc (τ := Cert.KWdIdeal.τ) (Cert.KWdIdeal.main (F := Ideal))) ⟨m, fun _ => 0, g⟩ (fun r => (∀ c : Dev Cert.KWdIdeal.nD,
      r.2.mem ((c.tc : Thread Cert.KWdIdeal.nD Cert.KWdIdeal.τ).loc Cert.KWdIdeal.main_arg0) = m ((c.tc : Thread Cert.KWdIdeal.nD Cert.KWdIdeal.τ).loc Cert.KWdIdeal.main_arg0)
      ∧ r.2.mem ((c.tc : Thread Cert.KWdIdeal.nD Cert.KWdIdeal.τ).loc Cert.KWdIdeal.main_arg1) = m ((c.tc : Thread Cert.KWdIdeal.nD Cert.KWdIdeal.τ).loc Cert.KWdIdeal.main_arg1)
      ∧ r.2.mem ((c.tc : Thread Cert.KWdIdeal.nD Cert.KWdIdeal.τ).loc Cert.KWdIdeal.main_arg2) = m ((c.tc : Thread Cert.KWdIdeal.nD Cert.KWdIdeal.τ).loc Cert.KWdIdeal.main_arg2)
      ∧ r.2.mem ((c.tc : Thread Cert.KWdIdeal.nD Cert.KWdIdeal.τ).loc Cert.KWdIdeal.main_arg3) = m ((c.tc : Thread Cert.KWdIdeal.nD Cert.KWdIdeal.τ).loc Cert.KWdIdeal.main_arg3)
      ∧ r.2.mem ((c.tc : Thread Cert.KWdIdeal.nD Cert.KWdIdeal.τ).loc Cert.KWdIdeal.main_arg4) = m ((c.tc : Thread Cert.KWdIdeal.nD Cert.KWdIdeal.τ).loc Cert.KWdIdeal.main_arg4))
      ∧ r.2.sem = fun _ => 0)

def quiescent_RWdIdeal [hRWdIdeal : Cert.RWdIdeal.Facts] : Prop :=
  ∀ (m : (ℓ : Loc Cert.RWdIdeal.nD Cert.RWdIdeal.τ Cert.RWdIdeal.sig) → Buf (Elt Ideal) ℓ) (g : Dev Cert.RWdIdeal.nD → PrngReg), Pre_RWdIdeal m →
    θ_run (Cert.RWdIdeal.defs (F := Ideal)) (onTc (τ := Cert.RWdIdeal.τ) (Cert.RWdIdeal.main (F := Ideal))) ⟨m, fun _ => 0, g⟩ (fun r => (∀ c : Dev Cert.RWdIdeal.nD,
      r.2.mem ((c.tc : Thread Cert.RWdIdeal.nD Cert.RWdIdeal.τ).loc Cert.RWdIdeal.main_arg0) = m ((c.tc : Thread Cert.RWdIdeal.nD Cert.RWdIdeal.τ).loc Cert.RWdIdeal.main_arg0)
      ∧ r.2.mem ((c.tc : Thread Cert.RWdIdeal.nD Cert.RWdIdeal.τ).loc Cert.RWdIdeal.main_arg1) = m ((c.tc : Thread Cert.RWdIdeal.nD Cert.RWdIdeal.τ).loc Cert.RWdIdeal.main_arg1)
      ∧ r.2.mem ((c.tc : Thread Cert.RWdIdeal.nD Cert.RWdIdeal.τ).loc Cert.RWdIdeal.main_arg2) = m ((c.tc : Thread Cert.RWdIdeal.nD Cert.RWdIdeal.τ).loc Cert.RWdIdeal.main_arg2)
      ∧ r.2.mem ((c.tc : Thread Cert.RWdIdeal.nD Cert.RWdIdeal.τ).loc Cert.RWdIdeal.main_arg3) = m ((c.tc : Thread Cert.RWdIdeal.nD Cert.RWdIdeal.τ).loc Cert.RWdIdeal.main_arg3)
      ∧ r.2.mem ((c.tc : Thread Cert.RWdIdeal.nD Cert.RWdIdeal.τ).loc Cert.RWdIdeal.main_arg4) = m ((c.tc : Thread Cert.RWdIdeal.nD Cert.RWdIdeal.τ).loc Cert.RWdIdeal.main_arg4))
      ∧ r.2.sem = fun _ => 0)

def quiescent_RWdIdeal_pre_wd_meta_ordered [hRWdIdeal : Cert.RWdIdeal.Facts] [hPre_wd_meta_ordered : Cert.Pre_wd_meta_ordered.Facts] : Prop :=
  ∀ (m : (ℓ : Loc Cert.RWdIdeal.nD Cert.RWdIdeal.τ Cert.RWdIdeal.sig) → Buf (Elt Ideal) ℓ) (g : Dev Cert.RWdIdeal.nD → PrngReg), Pre_RWdIdeal_wd_meta_ordered m →
    θ_run (Cert.RWdIdeal.defs (F := Ideal)) (onTc (τ := Cert.RWdIdeal.τ) (Cert.RWdIdeal.main (F := Ideal))) ⟨m, fun _ => 0, g⟩ (fun r => (∀ c : Dev Cert.RWdIdeal.nD,
      r.2.mem ((c.tc : Thread Cert.RWdIdeal.nD Cert.RWdIdeal.τ).loc Cert.RWdIdeal.main_arg0) = m ((c.tc : Thread Cert.RWdIdeal.nD Cert.RWdIdeal.τ).loc Cert.RWdIdeal.main_arg0)
      ∧ r.2.mem ((c.tc : Thread Cert.RWdIdeal.nD Cert.RWdIdeal.τ).loc Cert.RWdIdeal.main_arg1) = m ((c.tc : Thread Cert.RWdIdeal.nD Cert.RWdIdeal.τ).loc Cert.RWdIdeal.main_arg1)
      ∧ r.2.mem ((c.tc : Thread Cert.RWdIdeal.nD Cert.RWdIdeal.τ).loc Cert.RWdIdeal.main_arg2) = m ((c.tc : Thread Cert.RWdIdeal.nD Cert.RWdIdeal.τ).loc Cert.RWdIdeal.main_arg2)
      ∧ r.2.mem ((c.tc : Thread Cert.RWdIdeal.nD Cert.RWdIdeal.τ).loc Cert.RWdIdeal.main_arg3) = m ((c.tc : Thread Cert.RWdIdeal.nD Cert.RWdIdeal.τ).loc Cert.RWdIdeal.main_arg3)
      ∧ r.2.mem ((c.tc : Thread Cert.RWdIdeal.nD Cert.RWdIdeal.τ).loc Cert.RWdIdeal.main_arg4) = m ((c.tc : Thread Cert.RWdIdeal.nD Cert.RWdIdeal.τ).loc Cert.RWdIdeal.main_arg4))
      ∧ r.2.sem = fun _ => 0)

def quiescent_KQkv [hKQkv : Cert.KQkv.Facts] : Prop :=
  ∀ (m : (ℓ : Loc Cert.KQkv.nD Cert.KQkv.τ Cert.KQkv.sig) → Buf (Elt Bits) ℓ) (g : Dev Cert.KQkv.nD → PrngReg), Pre_KQkv m →
    θ_run (Cert.KQkv.defs (F := Bits)) (onTc (τ := Cert.KQkv.τ) (Cert.KQkv.main (F := Bits))) ⟨m, fun _ => 0, g⟩ (fun r => (∀ c : Dev Cert.KQkv.nD,
      r.2.mem ((c.tc : Thread Cert.KQkv.nD Cert.KQkv.τ).loc Cert.KQkv.main_arg0) = m ((c.tc : Thread Cert.KQkv.nD Cert.KQkv.τ).loc Cert.KQkv.main_arg0)
      ∧ r.2.mem ((c.tc : Thread Cert.KQkv.nD Cert.KQkv.τ).loc Cert.KQkv.main_arg1) = m ((c.tc : Thread Cert.KQkv.nD Cert.KQkv.τ).loc Cert.KQkv.main_arg1)
      ∧ r.2.mem ((c.tc : Thread Cert.KQkv.nD Cert.KQkv.τ).loc Cert.KQkv.main_arg2) = m ((c.tc : Thread Cert.KQkv.nD Cert.KQkv.τ).loc Cert.KQkv.main_arg2)
      ∧ r.2.mem ((c.tc : Thread Cert.KQkv.nD Cert.KQkv.τ).loc Cert.KQkv.main_arg3) = m ((c.tc : Thread Cert.KQkv.nD Cert.KQkv.τ).loc Cert.KQkv.main_arg3)
      ∧ r.2.mem ((c.tc : Thread Cert.KQkv.nD Cert.KQkv.τ).loc Cert.KQkv.main_arg4) = m ((c.tc : Thread Cert.KQkv.nD Cert.KQkv.τ).loc Cert.KQkv.main_arg4)
      ∧ r.2.mem ((c.tc : Thread Cert.KQkv.nD Cert.KQkv.τ).loc Cert.KQkv.main_arg5) = m ((c.tc : Thread Cert.KQkv.nD Cert.KQkv.τ).loc Cert.KQkv.main_arg5)
      ∧ r.2.mem ((c.tc : Thread Cert.KQkv.nD Cert.KQkv.τ).loc Cert.KQkv.main_arg6) = m ((c.tc : Thread Cert.KQkv.nD Cert.KQkv.τ).loc Cert.KQkv.main_arg6)
      ∧ r.2.mem ((c.tc : Thread Cert.KQkv.nD Cert.KQkv.τ).loc Cert.KQkv.main_arg7) = m ((c.tc : Thread Cert.KQkv.nD Cert.KQkv.τ).loc Cert.KQkv.main_arg7)
      ∧ r.2.mem ((c.tc : Thread Cert.KQkv.nD Cert.KQkv.τ).loc Cert.KQkv.main_arg8) = m ((c.tc : Thread Cert.KQkv.nD Cert.KQkv.τ).loc Cert.KQkv.main_arg8))
      ∧ r.2.sem = fun _ => 0)

def quiescent_KQkvIdeal [hKQkvIdeal : Cert.KQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg), Pre_KQkvIdeal m →
    θ_run (Cert.KQkvIdeal.defs (F := Ideal)) (onTc (τ := Cert.KQkvIdeal.τ) (Cert.KQkvIdeal.main (F := Ideal))) ⟨m, fun _ => 0, g⟩ (fun r => (∀ c : Dev Cert.KQkvIdeal.nD,
      r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
      ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
      ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
      ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
      ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4)
      ∧ r.2.mem ((c.tc : Thread Cert.KQkvIdeal.nD Cert.KQkvIdeal.τ).loc Cert.KQkvIdeal.main_arg5) = m ((c.tc : Thread Cert.KQkvIdeal.nD Cert.KQkvIdeal.τ).loc Cert.KQkvIdeal.main_arg5)
      ∧ r.2.mem ((c.tc : Thread Cert.KQkvIdeal.nD Cert.KQkvIdeal.τ).loc Cert.KQkvIdeal.main_arg6) = m ((c.tc : Thread Cert.KQkvIdeal.nD Cert.KQkvIdeal.τ).loc Cert.KQkvIdeal.main_arg6)
      ∧ r.2.mem ((c.tc : Thread Cert.KQkvIdeal.nD Cert.KQkvIdeal.τ).loc Cert.KQkvIdeal.main_arg7) = m ((c.tc : Thread Cert.KQkvIdeal.nD Cert.KQkvIdeal.τ).loc Cert.KQkvIdeal.main_arg7)
      ∧ r.2.mem ((c.tc : Thread Cert.KQkvIdeal.nD Cert.KQkvIdeal.τ).loc Cert.KQkvIdeal.main_arg8) = m ((c.tc : Thread Cert.KQkvIdeal.nD Cert.KQkvIdeal.τ).loc Cert.KQkvIdeal.main_arg8))
      ∧ r.2.sem = fun _ => 0)

def quiescent_KQkvIdeal_pre_qkv_meta_ordered [hKQkvIdeal : Cert.KQkvIdeal.Facts] [hPre_qkv_meta_ordered : Cert.Pre_qkv_meta_ordered.Facts] : Prop :=
  ∀ (m : (ℓ : Loc Cert.KQkvIdeal.nD Cert.KQkvIdeal.τ Cert.KQkvIdeal.sig) → Buf (Elt Ideal) ℓ) (g : Dev Cert.KQkvIdeal.nD → PrngReg), Pre_KQkvIdeal_qkv_meta_ordered m →
    θ_run (Cert.KQkvIdeal.defs (F := Ideal)) (onTc (τ := Cert.KQkvIdeal.τ) (Cert.KQkvIdeal.main (F := Ideal))) ⟨m, fun _ => 0, g⟩ (fun r => (∀ c : Dev Cert.KQkvIdeal.nD,
      r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
      ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
      ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
      ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
      ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4)
      ∧ r.2.mem ((c.tc : Thread Cert.KQkvIdeal.nD Cert.KQkvIdeal.τ).loc Cert.KQkvIdeal.main_arg5) = m ((c.tc : Thread Cert.KQkvIdeal.nD Cert.KQkvIdeal.τ).loc Cert.KQkvIdeal.main_arg5)
      ∧ r.2.mem ((c.tc : Thread Cert.KQkvIdeal.nD Cert.KQkvIdeal.τ).loc Cert.KQkvIdeal.main_arg6) = m ((c.tc : Thread Cert.KQkvIdeal.nD Cert.KQkvIdeal.τ).loc Cert.KQkvIdeal.main_arg6)
      ∧ r.2.mem ((c.tc : Thread Cert.KQkvIdeal.nD Cert.KQkvIdeal.τ).loc Cert.KQkvIdeal.main_arg7) = m ((c.tc : Thread Cert.KQkvIdeal.nD Cert.KQkvIdeal.τ).loc Cert.KQkvIdeal.main_arg7)
      ∧ r.2.mem ((c.tc : Thread Cert.KQkvIdeal.nD Cert.KQkvIdeal.τ).loc Cert.KQkvIdeal.main_arg8) = m ((c.tc : Thread Cert.KQkvIdeal.nD Cert.KQkvIdeal.τ).loc Cert.KQkvIdeal.main_arg8))
      ∧ r.2.sem = fun _ => 0)

def quiescent_RQkvIdeal [hRQkvIdeal : Cert.RQkvIdeal.Facts] : Prop :=
  ∀ (m : (ℓ : Loc Cert.RQkvIdeal.nD Cert.RQkvIdeal.τ Cert.RQkvIdeal.sig) → Buf (Elt Ideal) ℓ) (g : Dev Cert.RQkvIdeal.nD → PrngReg), Pre_RQkvIdeal m →
    θ_run (Cert.RQkvIdeal.defs (F := Ideal)) (onTc (τ := Cert.RQkvIdeal.τ) (Cert.RQkvIdeal.main (F := Ideal))) ⟨m, fun _ => 0, g⟩ (fun r => (∀ c : Dev Cert.RQkvIdeal.nD,
      r.2.mem ((c.tc : Thread Cert.RQkvIdeal.nD Cert.RQkvIdeal.τ).loc Cert.RQkvIdeal.main_arg0) = m ((c.tc : Thread Cert.RQkvIdeal.nD Cert.RQkvIdeal.τ).loc Cert.RQkvIdeal.main_arg0)
      ∧ r.2.mem ((c.tc : Thread Cert.RQkvIdeal.nD Cert.RQkvIdeal.τ).loc Cert.RQkvIdeal.main_arg1) = m ((c.tc : Thread Cert.RQkvIdeal.nD Cert.RQkvIdeal.τ).loc Cert.RQkvIdeal.main_arg1)
      ∧ r.2.mem ((c.tc : Thread Cert.RQkvIdeal.nD Cert.RQkvIdeal.τ).loc Cert.RQkvIdeal.main_arg2) = m ((c.tc : Thread Cert.RQkvIdeal.nD Cert.RQkvIdeal.τ).loc Cert.RQkvIdeal.main_arg2)
      ∧ r.2.mem ((c.tc : Thread Cert.RQkvIdeal.nD Cert.RQkvIdeal.τ).loc Cert.RQkvIdeal.main_arg3) = m ((c.tc : Thread Cert.RQkvIdeal.nD Cert.RQkvIdeal.τ).loc Cert.RQkvIdeal.main_arg3)
      ∧ r.2.mem ((c.tc : Thread Cert.RQkvIdeal.nD Cert.RQkvIdeal.τ).loc Cert.RQkvIdeal.main_arg4) = m ((c.tc : Thread Cert.RQkvIdeal.nD Cert.RQkvIdeal.τ).loc Cert.RQkvIdeal.main_arg4)
      ∧ r.2.mem ((c.tc : Thread Cert.RQkvIdeal.nD Cert.RQkvIdeal.τ).loc Cert.RQkvIdeal.main_arg5) = m ((c.tc : Thread Cert.RQkvIdeal.nD Cert.RQkvIdeal.τ).loc Cert.RQkvIdeal.main_arg5)
      ∧ r.2.mem ((c.tc : Thread Cert.RQkvIdeal.nD Cert.RQkvIdeal.τ).loc Cert.RQkvIdeal.main_arg6) = m ((c.tc : Thread Cert.RQkvIdeal.nD Cert.RQkvIdeal.τ).loc Cert.RQkvIdeal.main_arg6)
      ∧ r.2.mem ((c.tc : Thread Cert.RQkvIdeal.nD Cert.RQkvIdeal.τ).loc Cert.RQkvIdeal.main_arg7) = m ((c.tc : Thread Cert.RQkvIdeal.nD Cert.RQkvIdeal.τ).loc Cert.RQkvIdeal.main_arg7)
      ∧ r.2.mem ((c.tc : Thread Cert.RQkvIdeal.nD Cert.RQkvIdeal.τ).loc Cert.RQkvIdeal.main_arg8) = m ((c.tc : Thread Cert.RQkvIdeal.nD Cert.RQkvIdeal.τ).loc Cert.RQkvIdeal.main_arg8))
      ∧ r.2.sem = fun _ => 0)

def quiescent_RQkvIdeal_pre_qkv_meta_ordered [hRQkvIdeal : Cert.RQkvIdeal.Facts] [hPre_qkv_meta_ordered : Cert.Pre_qkv_meta_ordered.Facts] : Prop :=
  ∀ (m : (ℓ : Loc Cert.RQkvIdeal.nD Cert.RQkvIdeal.τ Cert.RQkvIdeal.sig) → Buf (Elt Ideal) ℓ) (g : Dev Cert.RQkvIdeal.nD → PrngReg), Pre_RQkvIdeal_qkv_meta_ordered m →
    θ_run (Cert.RQkvIdeal.defs (F := Ideal)) (onTc (τ := Cert.RQkvIdeal.τ) (Cert.RQkvIdeal.main (F := Ideal))) ⟨m, fun _ => 0, g⟩ (fun r => (∀ c : Dev Cert.RQkvIdeal.nD,
      r.2.mem ((c.tc : Thread Cert.RQkvIdeal.nD Cert.RQkvIdeal.τ).loc Cert.RQkvIdeal.main_arg0) = m ((c.tc : Thread Cert.RQkvIdeal.nD Cert.RQkvIdeal.τ).loc Cert.RQkvIdeal.main_arg0)
      ∧ r.2.mem ((c.tc : Thread Cert.RQkvIdeal.nD Cert.RQkvIdeal.τ).loc Cert.RQkvIdeal.main_arg1) = m ((c.tc : Thread Cert.RQkvIdeal.nD Cert.RQkvIdeal.τ).loc Cert.RQkvIdeal.main_arg1)
      ∧ r.2.mem ((c.tc : Thread Cert.RQkvIdeal.nD Cert.RQkvIdeal.τ).loc Cert.RQkvIdeal.main_arg2) = m ((c.tc : Thread Cert.RQkvIdeal.nD Cert.RQkvIdeal.τ).loc Cert.RQkvIdeal.main_arg2)
      ∧ r.2.mem ((c.tc : Thread Cert.RQkvIdeal.nD Cert.RQkvIdeal.τ).loc Cert.RQkvIdeal.main_arg3) = m ((c.tc : Thread Cert.RQkvIdeal.nD Cert.RQkvIdeal.τ).loc Cert.RQkvIdeal.main_arg3)
      ∧ r.2.mem ((c.tc : Thread Cert.RQkvIdeal.nD Cert.RQkvIdeal.τ).loc Cert.RQkvIdeal.main_arg4) = m ((c.tc : Thread Cert.RQkvIdeal.nD Cert.RQkvIdeal.τ).loc Cert.RQkvIdeal.main_arg4)
      ∧ r.2.mem ((c.tc : Thread Cert.RQkvIdeal.nD Cert.RQkvIdeal.τ).loc Cert.RQkvIdeal.main_arg5) = m ((c.tc : Thread Cert.RQkvIdeal.nD Cert.RQkvIdeal.τ).loc Cert.RQkvIdeal.main_arg5)
      ∧ r.2.mem ((c.tc : Thread Cert.RQkvIdeal.nD Cert.RQkvIdeal.τ).loc Cert.RQkvIdeal.main_arg6) = m ((c.tc : Thread Cert.RQkvIdeal.nD Cert.RQkvIdeal.τ).loc Cert.RQkvIdeal.main_arg6)
      ∧ r.2.mem ((c.tc : Thread Cert.RQkvIdeal.nD Cert.RQkvIdeal.τ).loc Cert.RQkvIdeal.main_arg7) = m ((c.tc : Thread Cert.RQkvIdeal.nD Cert.RQkvIdeal.τ).loc Cert.RQkvIdeal.main_arg7)
      ∧ r.2.mem ((c.tc : Thread Cert.RQkvIdeal.nD Cert.RQkvIdeal.τ).loc Cert.RQkvIdeal.main_arg8) = m ((c.tc : Thread Cert.RQkvIdeal.nD Cert.RQkvIdeal.τ).loc Cert.RQkvIdeal.main_arg8))
      ∧ r.2.sem = fun _ => 0)

def quiescent_KAttn [hKAttn : Cert.KAttn.Facts] [hPre_cache_len_within : Cert.Pre_cache_len_within.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3)
      ∧ r.2.mem ((c.tc : Thread Cert.KAttn.nD Cert.KAttn.τ).loc Cert.KAttn.main_arg4) = m ((c.tc : Thread Cert.KAttn.nD Cert.KAttn.τ).loc Cert.KAttn.main_arg4)
      ∧ r.2.mem ((c.tc : Thread Cert.KAttn.nD Cert.KAttn.τ).loc Cert.KAttn.main_arg5) = m ((c.tc : Thread Cert.KAttn.nD Cert.KAttn.τ).loc Cert.KAttn.main_arg5)
      ∧ r.2.mem ((c.tc : Thread Cert.KAttn.nD Cert.KAttn.τ).loc Cert.KAttn.main_arg6) = m ((c.tc : Thread Cert.KAttn.nD Cert.KAttn.τ).loc Cert.KAttn.main_arg6)
      ∧ r.2.mem ((c.tc : Thread Cert.KAttn.nD Cert.KAttn.τ).loc Cert.KAttn.main_arg7) = m ((c.tc : Thread Cert.KAttn.nD Cert.KAttn.τ).loc Cert.KAttn.main_arg7))
      ∧ r.2.sem = fun _ => 0)

def quiescent_KAttnIdeal [hKAttnIdeal : Cert.KAttnIdeal.Facts] [hPre_cache_len_within : Cert.Pre_cache_len_within.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4)
      ∧ r.2.mem ((c.tc : Thread Cert.KAttnIdeal.nD Cert.KAttnIdeal.τ).loc Cert.KAttnIdeal.main_arg5) = m ((c.tc : Thread Cert.KAttnIdeal.nD Cert.KAttnIdeal.τ).loc Cert.KAttnIdeal.main_arg5)
      ∧ r.2.mem ((c.tc : Thread Cert.KAttnIdeal.nD Cert.KAttnIdeal.τ).loc Cert.KAttnIdeal.main_arg6) = m ((c.tc : Thread Cert.KAttnIdeal.nD Cert.KAttnIdeal.τ).loc Cert.KAttnIdeal.main_arg6)
      ∧ r.2.mem ((c.tc : Thread Cert.KAttnIdeal.nD Cert.KAttnIdeal.τ).loc Cert.KAttnIdeal.main_arg7) = m ((c.tc : Thread Cert.KAttnIdeal.nD Cert.KAttnIdeal.τ).loc Cert.KAttnIdeal.main_arg7))
      ∧ r.2.sem = fun _ => 0)

def preserves_KWo_KWoIdeal : Prop :=
  True

def algebraic_KWoIdeal_RWoIdeal_pre_wo_meta_ordered [hKWoIdeal : Cert.KWoIdeal.Facts] [hRWoIdeal : Cert.RWoIdeal.Facts] [hPre_wo_meta_ordered : Cert.Pre_wo_meta_ordered.Facts] : Prop :=
  ∀ (m : (ℓ : Loc Cert.KWoIdeal.nD Cert.KWoIdeal.τ Cert.KWoIdeal.sig) → Buf (Elt Ideal) ℓ) (g : Dev Cert.KWoIdeal.nD → PrngReg)
    (m' : (ℓ : Loc Cert.RWoIdeal.nD Cert.RWoIdeal.τ Cert.RWoIdeal.sig) → Buf (Elt Ideal) ℓ) (g' : Dev Cert.RWoIdeal.nD → PrngReg), Pre_KWoIdeal_wo_meta_ordered m →
    (∀ c : Dev Cert.KWoIdeal.nD,
      m' ((c.tc : Thread Cert.RWoIdeal.nD Cert.RWoIdeal.τ).loc Cert.RWoIdeal.main_arg0) = m ((c.tc : Thread Cert.KWoIdeal.nD Cert.KWoIdeal.τ).loc Cert.KWoIdeal.main_arg0)
      ∧ m' ((c.tc : Thread Cert.RWoIdeal.nD Cert.RWoIdeal.τ).loc Cert.RWoIdeal.main_arg1) = m ((c.tc : Thread Cert.KWoIdeal.nD Cert.KWoIdeal.τ).loc Cert.KWoIdeal.main_arg1)
      ∧ m' ((c.tc : Thread Cert.RWoIdeal.nD Cert.RWoIdeal.τ).loc Cert.RWoIdeal.main_arg2) = m ((c.tc : Thread Cert.KWoIdeal.nD Cert.KWoIdeal.τ).loc Cert.KWoIdeal.main_arg2)
      ∧ m' ((c.tc : Thread Cert.RWoIdeal.nD Cert.RWoIdeal.τ).loc Cert.RWoIdeal.main_arg3) = m ((c.tc : Thread Cert.KWoIdeal.nD Cert.KWoIdeal.τ).loc Cert.KWoIdeal.main_arg3)
      ∧ m' ((c.tc : Thread Cert.RWoIdeal.nD Cert.RWoIdeal.τ).loc Cert.RWoIdeal.main_arg4) = m ((c.tc : Thread Cert.KWoIdeal.nD Cert.KWoIdeal.τ).loc Cert.KWoIdeal.main_arg4)) →
    ∃ (v0 : (c : Dev Cert.KWoIdeal.nD) → Buf (Elt Ideal) ((c.tc : Thread Cert.KWoIdeal.nD Cert.KWoIdeal.τ).loc Cert.KWoIdeal.main_v3)),
      θ_run (Cert.KWoIdeal.defs (F := Ideal)) (onTc (τ := Cert.KWoIdeal.τ) (Cert.KWoIdeal.main (F := Ideal))) ⟨m, fun _ => 0, g⟩ (fun r => ∀ c : Dev Cert.KWoIdeal.nD,
          r.2.mem ((c.tc : Thread Cert.KWoIdeal.nD Cert.KWoIdeal.τ).loc Cert.KWoIdeal.main_v3) = v0 c
          ∧ r.2.mem ((c.tc : Thread Cert.KWoIdeal.nD Cert.KWoIdeal.τ).loc Cert.KWoIdeal.main_arg0) = m ((c.tc : Thread Cert.KWoIdeal.nD Cert.KWoIdeal.τ).loc Cert.KWoIdeal.main_arg0)
          ∧ r.2.mem ((c.tc : Thread Cert.KWoIdeal.nD Cert.KWoIdeal.τ).loc Cert.KWoIdeal.main_arg1) = m ((c.tc : Thread Cert.KWoIdeal.nD Cert.KWoIdeal.τ).loc Cert.KWoIdeal.main_arg1)
          ∧ r.2.mem ((c.tc : Thread Cert.KWoIdeal.nD Cert.KWoIdeal.τ).loc Cert.KWoIdeal.main_arg2) = m ((c.tc : Thread Cert.KWoIdeal.nD Cert.KWoIdeal.τ).loc Cert.KWoIdeal.main_arg2)
          ∧ r.2.mem ((c.tc : Thread Cert.KWoIdeal.nD Cert.KWoIdeal.τ).loc Cert.KWoIdeal.main_arg3) = m ((c.tc : Thread Cert.KWoIdeal.nD Cert.KWoIdeal.τ).loc Cert.KWoIdeal.main_arg3)
          ∧ r.2.mem ((c.tc : Thread Cert.KWoIdeal.nD Cert.KWoIdeal.τ).loc Cert.KWoIdeal.main_arg4) = m ((c.tc : Thread Cert.KWoIdeal.nD Cert.KWoIdeal.τ).loc Cert.KWoIdeal.main_arg4))
      ∧ θ_run (Cert.RWoIdeal.defs (F := Ideal)) (onTc (τ := Cert.RWoIdeal.τ) (Cert.RWoIdeal.main (F := Ideal))) ⟨m', fun _ => 0, g'⟩ (fun r => ∀ c : Dev Cert.RWoIdeal.nD,
          r.2.mem ((c.tc : Thread Cert.RWoIdeal.nD Cert.RWoIdeal.τ).loc Cert.RWoIdeal.main_v78) = v0 c
          ∧ r.2.mem ((c.tc : Thread Cert.RWoIdeal.nD Cert.RWoIdeal.τ).loc Cert.RWoIdeal.main_arg0) = m' ((c.tc : Thread Cert.RWoIdeal.nD Cert.RWoIdeal.τ).loc Cert.RWoIdeal.main_arg0)
          ∧ r.2.mem ((c.tc : Thread Cert.RWoIdeal.nD Cert.RWoIdeal.τ).loc Cert.RWoIdeal.main_arg1) = m' ((c.tc : Thread Cert.RWoIdeal.nD Cert.RWoIdeal.τ).loc Cert.RWoIdeal.main_arg1)
          ∧ r.2.mem ((c.tc : Thread Cert.RWoIdeal.nD Cert.RWoIdeal.τ).loc Cert.RWoIdeal.main_arg2) = m' ((c.tc : Thread Cert.RWoIdeal.nD Cert.RWoIdeal.τ).loc Cert.RWoIdeal.main_arg2)
          ∧ r.2.mem ((c.tc : Thread Cert.RWoIdeal.nD Cert.RWoIdeal.τ).loc Cert.RWoIdeal.main_arg3) = m' ((c.tc : Thread Cert.RWoIdeal.nD Cert.RWoIdeal.τ).loc Cert.RWoIdeal.main_arg3)
          ∧ r.2.mem ((c.tc : Thread Cert.RWoIdeal.nD Cert.RWoIdeal.τ).loc Cert.RWoIdeal.main_arg4) = m' ((c.tc : Thread Cert.RWoIdeal.nD Cert.RWoIdeal.τ).loc Cert.RWoIdeal.main_arg4))

def preserves_KGu_KGuIdeal : Prop :=
  True

def algebraic_KGuIdeal_RGuIdeal_pre_gu_meta_ordered [hKGuIdeal : Cert.KGuIdeal.Facts] [hRGuIdeal : Cert.RGuIdeal.Facts] [hPre_gu_meta_ordered : Cert.Pre_gu_meta_ordered.Facts] : Prop :=
  ∀ (m : (ℓ : Loc Cert.KGuIdeal.nD Cert.KGuIdeal.τ Cert.KGuIdeal.sig) → Buf (Elt Ideal) ℓ) (g : Dev Cert.KGuIdeal.nD → PrngReg)
    (m' : (ℓ : Loc Cert.RGuIdeal.nD Cert.RGuIdeal.τ Cert.RGuIdeal.sig) → Buf (Elt Ideal) ℓ) (g' : Dev Cert.RGuIdeal.nD → PrngReg), Pre_KGuIdeal_gu_meta_ordered m →
    (∀ c : Dev Cert.KGuIdeal.nD,
      m' ((c.tc : Thread Cert.RGuIdeal.nD Cert.RGuIdeal.τ).loc Cert.RGuIdeal.main_arg0) = m ((c.tc : Thread Cert.KGuIdeal.nD Cert.KGuIdeal.τ).loc Cert.KGuIdeal.main_arg0)
      ∧ m' ((c.tc : Thread Cert.RGuIdeal.nD Cert.RGuIdeal.τ).loc Cert.RGuIdeal.main_arg1) = m ((c.tc : Thread Cert.KGuIdeal.nD Cert.KGuIdeal.τ).loc Cert.KGuIdeal.main_arg1)
      ∧ m' ((c.tc : Thread Cert.RGuIdeal.nD Cert.RGuIdeal.τ).loc Cert.RGuIdeal.main_arg2) = m ((c.tc : Thread Cert.KGuIdeal.nD Cert.KGuIdeal.τ).loc Cert.KGuIdeal.main_arg2)
      ∧ m' ((c.tc : Thread Cert.RGuIdeal.nD Cert.RGuIdeal.τ).loc Cert.RGuIdeal.main_arg3) = m ((c.tc : Thread Cert.KGuIdeal.nD Cert.KGuIdeal.τ).loc Cert.KGuIdeal.main_arg3)
      ∧ m' ((c.tc : Thread Cert.RGuIdeal.nD Cert.RGuIdeal.τ).loc Cert.RGuIdeal.main_arg4) = m ((c.tc : Thread Cert.KGuIdeal.nD Cert.KGuIdeal.τ).loc Cert.KGuIdeal.main_arg4)) →
    ∃ (v0 : (c : Dev Cert.KGuIdeal.nD) → Buf (Elt Ideal) ((c.tc : Thread Cert.KGuIdeal.nD Cert.KGuIdeal.τ).loc Cert.KGuIdeal.main_v3)),
      θ_run (Cert.KGuIdeal.defs (F := Ideal)) (onTc (τ := Cert.KGuIdeal.τ) (Cert.KGuIdeal.main (F := Ideal))) ⟨m, fun _ => 0, g⟩ (fun r => ∀ c : Dev Cert.KGuIdeal.nD,
          r.2.mem ((c.tc : Thread Cert.KGuIdeal.nD Cert.KGuIdeal.τ).loc Cert.KGuIdeal.main_v3) = v0 c
          ∧ r.2.mem ((c.tc : Thread Cert.KGuIdeal.nD Cert.KGuIdeal.τ).loc Cert.KGuIdeal.main_arg0) = m ((c.tc : Thread Cert.KGuIdeal.nD Cert.KGuIdeal.τ).loc Cert.KGuIdeal.main_arg0)
          ∧ r.2.mem ((c.tc : Thread Cert.KGuIdeal.nD Cert.KGuIdeal.τ).loc Cert.KGuIdeal.main_arg1) = m ((c.tc : Thread Cert.KGuIdeal.nD Cert.KGuIdeal.τ).loc Cert.KGuIdeal.main_arg1)
          ∧ r.2.mem ((c.tc : Thread Cert.KGuIdeal.nD Cert.KGuIdeal.τ).loc Cert.KGuIdeal.main_arg2) = m ((c.tc : Thread Cert.KGuIdeal.nD Cert.KGuIdeal.τ).loc Cert.KGuIdeal.main_arg2)
          ∧ r.2.mem ((c.tc : Thread Cert.KGuIdeal.nD Cert.KGuIdeal.τ).loc Cert.KGuIdeal.main_arg3) = m ((c.tc : Thread Cert.KGuIdeal.nD Cert.KGuIdeal.τ).loc Cert.KGuIdeal.main_arg3)
          ∧ r.2.mem ((c.tc : Thread Cert.KGuIdeal.nD Cert.KGuIdeal.τ).loc Cert.KGuIdeal.main_arg4) = m ((c.tc : Thread Cert.KGuIdeal.nD Cert.KGuIdeal.τ).loc Cert.KGuIdeal.main_arg4))
      ∧ θ_run (Cert.RGuIdeal.defs (F := Ideal)) (onTc (τ := Cert.RGuIdeal.τ) (Cert.RGuIdeal.main (F := Ideal))) ⟨m', fun _ => 0, g'⟩ (fun r => ∀ c : Dev Cert.RGuIdeal.nD,
          r.2.mem ((c.tc : Thread Cert.RGuIdeal.nD Cert.RGuIdeal.τ).loc Cert.RGuIdeal.main_v93) = v0 c
          ∧ r.2.mem ((c.tc : Thread Cert.RGuIdeal.nD Cert.RGuIdeal.τ).loc Cert.RGuIdeal.main_arg0) = m' ((c.tc : Thread Cert.RGuIdeal.nD Cert.RGuIdeal.τ).loc Cert.RGuIdeal.main_arg0)
          ∧ r.2.mem ((c.tc : Thread Cert.RGuIdeal.nD Cert.RGuIdeal.τ).loc Cert.RGuIdeal.main_arg1) = m' ((c.tc : Thread Cert.RGuIdeal.nD Cert.RGuIdeal.τ).loc Cert.RGuIdeal.main_arg1)
          ∧ r.2.mem ((c.tc : Thread Cert.RGuIdeal.nD Cert.RGuIdeal.τ).loc Cert.RGuIdeal.main_arg2) = m' ((c.tc : Thread Cert.RGuIdeal.nD Cert.RGuIdeal.τ).loc Cert.RGuIdeal.main_arg2)
          ∧ r.2.mem ((c.tc : Thread Cert.RGuIdeal.nD Cert.RGuIdeal.τ).loc Cert.RGuIdeal.main_arg3) = m' ((c.tc : Thread Cert.RGuIdeal.nD Cert.RGuIdeal.τ).loc Cert.RGuIdeal.main_arg3)
          ∧ r.2.mem ((c.tc : Thread Cert.RGuIdeal.nD Cert.RGuIdeal.τ).loc Cert.RGuIdeal.main_arg4) = m' ((c.tc : Thread Cert.RGuIdeal.nD Cert.RGuIdeal.τ).loc Cert.RGuIdeal.main_arg4))

def preserves_KWd_KWdIdeal : Prop :=
  True

def algebraic_KWdIdeal_RWdIdeal_pre_wd_meta_ordered [hKWdIdeal : Cert.KWdIdeal.Facts] [hRWdIdeal : Cert.RWdIdeal.Facts] [hPre_wd_meta_ordered : Cert.Pre_wd_meta_ordered.Facts] : Prop :=
  ∀ (m : (ℓ : Loc Cert.KWdIdeal.nD Cert.KWdIdeal.τ Cert.KWdIdeal.sig) → Buf (Elt Ideal) ℓ) (g : Dev Cert.KWdIdeal.nD → PrngReg)
    (m' : (ℓ : Loc Cert.RWdIdeal.nD Cert.RWdIdeal.τ Cert.RWdIdeal.sig) → Buf (Elt Ideal) ℓ) (g' : Dev Cert.RWdIdeal.nD → PrngReg), Pre_KWdIdeal_wd_meta_ordered m →
    (∀ c : Dev Cert.KWdIdeal.nD,
      m' ((c.tc : Thread Cert.RWdIdeal.nD Cert.RWdIdeal.τ).loc Cert.RWdIdeal.main_arg0) = m ((c.tc : Thread Cert.KWdIdeal.nD Cert.KWdIdeal.τ).loc Cert.KWdIdeal.main_arg0)
      ∧ m' ((c.tc : Thread Cert.RWdIdeal.nD Cert.RWdIdeal.τ).loc Cert.RWdIdeal.main_arg1) = m ((c.tc : Thread Cert.KWdIdeal.nD Cert.KWdIdeal.τ).loc Cert.KWdIdeal.main_arg1)
      ∧ m' ((c.tc : Thread Cert.RWdIdeal.nD Cert.RWdIdeal.τ).loc Cert.RWdIdeal.main_arg2) = m ((c.tc : Thread Cert.KWdIdeal.nD Cert.KWdIdeal.τ).loc Cert.KWdIdeal.main_arg2)
      ∧ m' ((c.tc : Thread Cert.RWdIdeal.nD Cert.RWdIdeal.τ).loc Cert.RWdIdeal.main_arg3) = m ((c.tc : Thread Cert.KWdIdeal.nD Cert.KWdIdeal.τ).loc Cert.KWdIdeal.main_arg3)
      ∧ m' ((c.tc : Thread Cert.RWdIdeal.nD Cert.RWdIdeal.τ).loc Cert.RWdIdeal.main_arg4) = m ((c.tc : Thread Cert.KWdIdeal.nD Cert.KWdIdeal.τ).loc Cert.KWdIdeal.main_arg4)) →
    ∃ (v0 : (c : Dev Cert.KWdIdeal.nD) → Buf (Elt Ideal) ((c.tc : Thread Cert.KWdIdeal.nD Cert.KWdIdeal.τ).loc Cert.KWdIdeal.main_v1)),
      θ_run (Cert.KWdIdeal.defs (F := Ideal)) (onTc (τ := Cert.KWdIdeal.τ) (Cert.KWdIdeal.main (F := Ideal))) ⟨m, fun _ => 0, g⟩ (fun r => ∀ c : Dev Cert.KWdIdeal.nD,
          r.2.mem ((c.tc : Thread Cert.KWdIdeal.nD Cert.KWdIdeal.τ).loc Cert.KWdIdeal.main_v1) = v0 c
          ∧ r.2.mem ((c.tc : Thread Cert.KWdIdeal.nD Cert.KWdIdeal.τ).loc Cert.KWdIdeal.main_arg0) = m ((c.tc : Thread Cert.KWdIdeal.nD Cert.KWdIdeal.τ).loc Cert.KWdIdeal.main_arg0)
          ∧ r.2.mem ((c.tc : Thread Cert.KWdIdeal.nD Cert.KWdIdeal.τ).loc Cert.KWdIdeal.main_arg1) = m ((c.tc : Thread Cert.KWdIdeal.nD Cert.KWdIdeal.τ).loc Cert.KWdIdeal.main_arg1)
          ∧ r.2.mem ((c.tc : Thread Cert.KWdIdeal.nD Cert.KWdIdeal.τ).loc Cert.KWdIdeal.main_arg2) = m ((c.tc : Thread Cert.KWdIdeal.nD Cert.KWdIdeal.τ).loc Cert.KWdIdeal.main_arg2)
          ∧ r.2.mem ((c.tc : Thread Cert.KWdIdeal.nD Cert.KWdIdeal.τ).loc Cert.KWdIdeal.main_arg3) = m ((c.tc : Thread Cert.KWdIdeal.nD Cert.KWdIdeal.τ).loc Cert.KWdIdeal.main_arg3)
          ∧ r.2.mem ((c.tc : Thread Cert.KWdIdeal.nD Cert.KWdIdeal.τ).loc Cert.KWdIdeal.main_arg4) = m ((c.tc : Thread Cert.KWdIdeal.nD Cert.KWdIdeal.τ).loc Cert.KWdIdeal.main_arg4))
      ∧ θ_run (Cert.RWdIdeal.defs (F := Ideal)) (onTc (τ := Cert.RWdIdeal.τ) (Cert.RWdIdeal.main (F := Ideal))) ⟨m', fun _ => 0, g'⟩ (fun r => ∀ c : Dev Cert.RWdIdeal.nD,
          r.2.mem ((c.tc : Thread Cert.RWdIdeal.nD Cert.RWdIdeal.τ).loc Cert.RWdIdeal.main_v76) = v0 c
          ∧ r.2.mem ((c.tc : Thread Cert.RWdIdeal.nD Cert.RWdIdeal.τ).loc Cert.RWdIdeal.main_arg0) = m' ((c.tc : Thread Cert.RWdIdeal.nD Cert.RWdIdeal.τ).loc Cert.RWdIdeal.main_arg0)
          ∧ r.2.mem ((c.tc : Thread Cert.RWdIdeal.nD Cert.RWdIdeal.τ).loc Cert.RWdIdeal.main_arg1) = m' ((c.tc : Thread Cert.RWdIdeal.nD Cert.RWdIdeal.τ).loc Cert.RWdIdeal.main_arg1)
          ∧ r.2.mem ((c.tc : Thread Cert.RWdIdeal.nD Cert.RWdIdeal.τ).loc Cert.RWdIdeal.main_arg2) = m' ((c.tc : Thread Cert.RWdIdeal.nD Cert.RWdIdeal.τ).loc Cert.RWdIdeal.main_arg2)
          ∧ r.2.mem ((c.tc : Thread Cert.RWdIdeal.nD Cert.RWdIdeal.τ).loc Cert.RWdIdeal.main_arg3) = m' ((c.tc : Thread Cert.RWdIdeal.nD Cert.RWdIdeal.τ).loc Cert.RWdIdeal.main_arg3)
          ∧ r.2.mem ((c.tc : Thread Cert.RWdIdeal.nD Cert.RWdIdeal.τ).loc Cert.RWdIdeal.main_arg4) = m' ((c.tc : Thread Cert.RWdIdeal.nD Cert.RWdIdeal.τ).loc Cert.RWdIdeal.main_arg4))

def preserves_KQkv_KQkvIdeal : Prop :=
  True

def algebraic_KQkvIdeal_RQkvIdeal_pre_qkv_meta_ordered [hKQkvIdeal : Cert.KQkvIdeal.Facts] [hRQkvIdeal : Cert.RQkvIdeal.Facts] [hPre_qkv_meta_ordered : Cert.Pre_qkv_meta_ordered.Facts] : Prop :=
  ∀ (m : (ℓ : Loc Cert.KQkvIdeal.nD Cert.KQkvIdeal.τ Cert.KQkvIdeal.sig) → Buf (Elt Ideal) ℓ) (g : Dev Cert.KQkvIdeal.nD → PrngReg)
    (m' : (ℓ : Loc Cert.RQkvIdeal.nD Cert.RQkvIdeal.τ Cert.RQkvIdeal.sig) → Buf (Elt Ideal) ℓ) (g' : Dev Cert.RQkvIdeal.nD → PrngReg), Pre_KQkvIdeal_qkv_meta_ordered m →
    (∀ c : Dev Cert.KQkvIdeal.nD,
      m' ((c.tc : Thread Cert.RQkvIdeal.nD Cert.RQkvIdeal.τ).loc Cert.RQkvIdeal.main_arg0) = m ((c.tc : Thread Cert.KQkvIdeal.nD Cert.KQkvIdeal.τ).loc Cert.KQkvIdeal.main_arg0)
      ∧ m' ((c.tc : Thread Cert.RQkvIdeal.nD Cert.RQkvIdeal.τ).loc Cert.RQkvIdeal.main_arg1) = m ((c.tc : Thread Cert.KQkvIdeal.nD Cert.KQkvIdeal.τ).loc Cert.KQkvIdeal.main_arg1)
      ∧ m' ((c.tc : Thread Cert.RQkvIdeal.nD Cert.RQkvIdeal.τ).loc Cert.RQkvIdeal.main_arg2) = m ((c.tc : Thread Cert.KQkvIdeal.nD Cert.KQkvIdeal.τ).loc Cert.KQkvIdeal.main_arg2)
      ∧ m' ((c.tc : Thread Cert.RQkvIdeal.nD Cert.RQkvIdeal.τ).loc Cert.RQkvIdeal.main_arg3) = m ((c.tc : Thread Cert.KQkvIdeal.nD Cert.KQkvIdeal.τ).loc Cert.KQkvIdeal.main_arg3)
      ∧ m' ((c.tc : Thread Cert.RQkvIdeal.nD Cert.RQkvIdeal.τ).loc Cert.RQkvIdeal.main_arg4) = m ((c.tc : Thread Cert.KQkvIdeal.nD Cert.KQkvIdeal.τ).loc Cert.KQkvIdeal.main_arg4)
      ∧ m' ((c.tc : Thread Cert.RQkvIdeal.nD Cert.RQkvIdeal.τ).loc Cert.RQkvIdeal.main_arg5) = m ((c.tc : Thread Cert.KQkvIdeal.nD Cert.KQkvIdeal.τ).loc Cert.KQkvIdeal.main_arg5)
      ∧ m' ((c.tc : Thread Cert.RQkvIdeal.nD Cert.RQkvIdeal.τ).loc Cert.RQkvIdeal.main_arg6) = m ((c.tc : Thread Cert.KQkvIdeal.nD Cert.KQkvIdeal.τ).loc Cert.KQkvIdeal.main_arg6)
      ∧ m' ((c.tc : Thread Cert.RQkvIdeal.nD Cert.RQkvIdeal.τ).loc Cert.RQkvIdeal.main_arg7) = m ((c.tc : Thread Cert.KQkvIdeal.nD Cert.KQkvIdeal.τ).loc Cert.KQkvIdeal.main_arg7)
      ∧ m' ((c.tc : Thread Cert.RQkvIdeal.nD Cert.RQkvIdeal.τ).loc Cert.RQkvIdeal.main_arg8) = m ((c.tc : Thread Cert.KQkvIdeal.nD Cert.KQkvIdeal.τ).loc Cert.KQkvIdeal.main_arg8)) →
    ∃ (v0 : (c : Dev Cert.KQkvIdeal.nD) → Buf (Elt Ideal) ((c.tc : Thread Cert.KQkvIdeal.nD Cert.KQkvIdeal.τ).loc Cert.KQkvIdeal.main_v9_1)),
      θ_run (Cert.KQkvIdeal.defs (F := Ideal)) (onTc (τ := Cert.KQkvIdeal.τ) (Cert.KQkvIdeal.main (F := Ideal))) ⟨m, fun _ => 0, g⟩ (fun r => ∀ c : Dev Cert.KQkvIdeal.nD,
          r.2.mem ((c.tc : Thread Cert.KQkvIdeal.nD Cert.KQkvIdeal.τ).loc Cert.KQkvIdeal.main_v9_1) = v0 c
          ∧ r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
          ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
          ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
          ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
          ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4)
          ∧ r.2.mem ((c.tc : Thread Cert.KQkvIdeal.nD Cert.KQkvIdeal.τ).loc Cert.KQkvIdeal.main_arg5) = m ((c.tc : Thread Cert.KQkvIdeal.nD Cert.KQkvIdeal.τ).loc Cert.KQkvIdeal.main_arg5)
          ∧ r.2.mem ((c.tc : Thread Cert.KQkvIdeal.nD Cert.KQkvIdeal.τ).loc Cert.KQkvIdeal.main_arg6) = m ((c.tc : Thread Cert.KQkvIdeal.nD Cert.KQkvIdeal.τ).loc Cert.KQkvIdeal.main_arg6)
          ∧ r.2.mem ((c.tc : Thread Cert.KQkvIdeal.nD Cert.KQkvIdeal.τ).loc Cert.KQkvIdeal.main_arg7) = m ((c.tc : Thread Cert.KQkvIdeal.nD Cert.KQkvIdeal.τ).loc Cert.KQkvIdeal.main_arg7)
          ∧ r.2.mem ((c.tc : Thread Cert.KQkvIdeal.nD Cert.KQkvIdeal.τ).loc Cert.KQkvIdeal.main_arg8) = m ((c.tc : Thread Cert.KQkvIdeal.nD Cert.KQkvIdeal.τ).loc Cert.KQkvIdeal.main_arg8))
      ∧ θ_run (Cert.RQkvIdeal.defs (F := Ideal)) (onTc (τ := Cert.RQkvIdeal.τ) (Cert.RQkvIdeal.main (F := Ideal))) ⟨m', fun _ => 0, g'⟩ (fun r => ∀ c : Dev Cert.RQkvIdeal.nD,
          r.2.mem ((c.tc : Thread Cert.RQkvIdeal.nD Cert.RQkvIdeal.τ).loc Cert.RQkvIdeal.main_v123) = v0 c
          ∧ r.2.mem ((c.tc : Thread Cert.RQkvIdeal.nD Cert.RQkvIdeal.τ).loc Cert.RQkvIdeal.main_arg0) = m' ((c.tc : Thread Cert.RQkvIdeal.nD Cert.RQkvIdeal.τ).loc Cert.RQkvIdeal.main_arg0)
          ∧ r.2.mem ((c.tc : Thread Cert.RQkvIdeal.nD Cert.RQkvIdeal.τ).loc Cert.RQkvIdeal.main_arg1) = m' ((c.tc : Thread Cert.RQkvIdeal.nD Cert.RQkvIdeal.τ).loc Cert.RQkvIdeal.main_arg1)
          ∧ r.2.mem ((c.tc : Thread Cert.RQkvIdeal.nD Cert.RQkvIdeal.τ).loc Cert.RQkvIdeal.main_arg2) = m' ((c.tc : Thread Cert.RQkvIdeal.nD Cert.RQkvIdeal.τ).loc Cert.RQkvIdeal.main_arg2)
          ∧ r.2.mem ((c.tc : Thread Cert.RQkvIdeal.nD Cert.RQkvIdeal.τ).loc Cert.RQkvIdeal.main_arg3) = m' ((c.tc : Thread Cert.RQkvIdeal.nD Cert.RQkvIdeal.τ).loc Cert.RQkvIdeal.main_arg3)
          ∧ r.2.mem ((c.tc : Thread Cert.RQkvIdeal.nD Cert.RQkvIdeal.τ).loc Cert.RQkvIdeal.main_arg4) = m' ((c.tc : Thread Cert.RQkvIdeal.nD Cert.RQkvIdeal.τ).loc Cert.RQkvIdeal.main_arg4)
          ∧ r.2.mem ((c.tc : Thread Cert.RQkvIdeal.nD Cert.RQkvIdeal.τ).loc Cert.RQkvIdeal.main_arg5) = m' ((c.tc : Thread Cert.RQkvIdeal.nD Cert.RQkvIdeal.τ).loc Cert.RQkvIdeal.main_arg5)
          ∧ r.2.mem ((c.tc : Thread Cert.RQkvIdeal.nD Cert.RQkvIdeal.τ).loc Cert.RQkvIdeal.main_arg6) = m' ((c.tc : Thread Cert.RQkvIdeal.nD Cert.RQkvIdeal.τ).loc Cert.RQkvIdeal.main_arg6)
          ∧ r.2.mem ((c.tc : Thread Cert.RQkvIdeal.nD Cert.RQkvIdeal.τ).loc Cert.RQkvIdeal.main_arg7) = m' ((c.tc : Thread Cert.RQkvIdeal.nD Cert.RQkvIdeal.τ).loc Cert.RQkvIdeal.main_arg7)
          ∧ r.2.mem ((c.tc : Thread Cert.RQkvIdeal.nD Cert.RQkvIdeal.τ).loc Cert.RQkvIdeal.main_arg8) = m' ((c.tc : Thread Cert.RQkvIdeal.nD Cert.RQkvIdeal.τ).loc Cert.RQkvIdeal.main_arg8))

def preserves_KAttn_KAttnIdeal : Prop :=
  True

def Claim : Prop :=
  ∃ (hKWo : Cert.KWo.Facts) (hKWoIdeal : Cert.KWoIdeal.Facts) (hRWoIdeal : Cert.RWoIdeal.Facts) (hKGu : Cert.KGu.Facts) (hKGuIdeal : Cert.KGuIdeal.Facts) (hRGuIdeal : Cert.RGuIdeal.Facts) (hKWd : Cert.KWd.Facts) (hKWdIdeal : Cert.KWdIdeal.Facts) (hRWdIdeal : Cert.RWdIdeal.Facts) (hKQkv : Cert.KQkv.Facts) (hKQkvIdeal : Cert.KQkvIdeal.Facts) (hRQkvIdeal : Cert.RQkvIdeal.Facts) (hKAttn : Cert.KAttn.Facts) (hKAttnIdeal : Cert.KAttnIdeal.Facts) (hPre_wo_meta_ordered : Cert.Pre_wo_meta_ordered.Facts) (hPre_gu_meta_ordered : Cert.Pre_gu_meta_ordered.Facts) (hPre_wd_meta_ordered : Cert.Pre_wd_meta_ordered.Facts) (hPre_qkv_meta_ordered : Cert.Pre_qkv_meta_ordered.Facts) (hPre_cache_len_within : Cert.Pre_cache_len_within.Facts),
    quiescent_KWo (hKWo := hKWo)
    ∧ quiescent_KWoIdeal (hKWoIdeal := hKWoIdeal)
    ∧ quiescent_KWoIdeal_pre_wo_meta_ordered (hKWoIdeal := hKWoIdeal) (hPre_wo_meta_ordered := hPre_wo_meta_ordered)
    ∧ quiescent_RWoIdeal (hRWoIdeal := hRWoIdeal)
    ∧ quiescent_RWoIdeal_pre_wo_meta_ordered (hRWoIdeal := hRWoIdeal) (hPre_wo_meta_ordered := hPre_wo_meta_ordered)
    ∧ quiescent_KGu (hKGu := hKGu)
    ∧ quiescent_KGuIdeal (hKGuIdeal := hKGuIdeal)
    ∧ quiescent_KGuIdeal_pre_gu_meta_ordered (hKGuIdeal := hKGuIdeal) (hPre_gu_meta_ordered := hPre_gu_meta_ordered)
    ∧ quiescent_RGuIdeal (hRGuIdeal := hRGuIdeal)
    ∧ quiescent_RGuIdeal_pre_gu_meta_ordered (hRGuIdeal := hRGuIdeal) (hPre_gu_meta_ordered := hPre_gu_meta_ordered)
    ∧ quiescent_KWd (hKWd := hKWd)
    ∧ quiescent_KWdIdeal (hKWdIdeal := hKWdIdeal)
    ∧ quiescent_KWdIdeal_pre_wd_meta_ordered (hKWdIdeal := hKWdIdeal) (hPre_wd_meta_ordered := hPre_wd_meta_ordered)
    ∧ quiescent_RWdIdeal (hRWdIdeal := hRWdIdeal)
    ∧ quiescent_RWdIdeal_pre_wd_meta_ordered (hRWdIdeal := hRWdIdeal) (hPre_wd_meta_ordered := hPre_wd_meta_ordered)
    ∧ quiescent_KQkv (hKQkv := hKQkv)
    ∧ quiescent_KQkvIdeal (hKQkvIdeal := hKQkvIdeal)
    ∧ quiescent_KQkvIdeal_pre_qkv_meta_ordered (hKQkvIdeal := hKQkvIdeal) (hPre_qkv_meta_ordered := hPre_qkv_meta_ordered)
    ∧ quiescent_RQkvIdeal (hRQkvIdeal := hRQkvIdeal)
    ∧ quiescent_RQkvIdeal_pre_qkv_meta_ordered (hRQkvIdeal := hRQkvIdeal) (hPre_qkv_meta_ordered := hPre_qkv_meta_ordered)
    ∧ quiescent_KAttn (hKAttn := hKAttn) (hPre_cache_len_within := hPre_cache_len_within)
    ∧ quiescent_KAttnIdeal (hKAttnIdeal := hKAttnIdeal) (hPre_cache_len_within := hPre_cache_len_within)
    ∧ preserves_KWo_KWoIdeal
    ∧ algebraic_KWoIdeal_RWoIdeal_pre_wo_meta_ordered (hKWoIdeal := hKWoIdeal) (hRWoIdeal := hRWoIdeal) (hPre_wo_meta_ordered := hPre_wo_meta_ordered)
    ∧ preserves_KGu_KGuIdeal
    ∧ algebraic_KGuIdeal_RGuIdeal_pre_gu_meta_ordered (hKGuIdeal := hKGuIdeal) (hRGuIdeal := hRGuIdeal) (hPre_gu_meta_ordered := hPre_gu_meta_ordered)
    ∧ preserves_KWd_KWdIdeal
    ∧ algebraic_KWdIdeal_RWdIdeal_pre_wd_meta_ordered (hKWdIdeal := hKWdIdeal) (hRWdIdeal := hRWdIdeal) (hPre_wd_meta_ordered := hPre_wd_meta_ordered)
    ∧ preserves_KQkv_KQkvIdeal
    ∧ algebraic_KQkvIdeal_RQkvIdeal_pre_qkv_meta_ordered (hKQkvIdeal := hKQkvIdeal) (hRQkvIdeal := hRQkvIdeal) (hPre_qkv_meta_ordered := hPre_qkv_meta_ordered)
    ∧ preserves_KAttn_KAttnIdeal
-- ==== Pre_cache_len_within.lean ====
abbrev S48 : Shape := ⟨1, ![48]⟩
abbrev S48x3072 : Shape := ⟨2, ![48, 3072]⟩
abbrev S48x8x128 : Shape := ⟨3, ![48, 8, 128]⟩
abbrev S24x1 : Shape := ⟨2, ![24, 1]⟩
abbrev S48x1280x8x128 : Shape := ⟨4, ![48, 1280, 8, 128]⟩
abbrev S_ : Shape := ⟨0, ![]⟩

class Facts : Prop where
  bcast_S_S48 : S_.BroadcastsInDim S48 (![] : Fin 0 → Fin S48.rank)

variable [Facts]

def fn {F : FTy → Type} [FloatOps F] (main_arg0 : IVec S48 32) (main_arg1 : FVec F S48x3072 .bf16) (main_arg2 : FVec F S48x8x128 .fp8e4m3) (main_arg3 : FVec F S48x8x128 .fp8e4m3) (main_arg4 : FVec F S24x1 .f32) (main_arg5 : FVec F S24x1 .f32) (main_arg6 : FVec F S48x1280x8x128 .fp8e4m3) (main_arg7 : FVec F S48x1280x8x128 .fp8e4m3) : IVec S48 1 :=
  let main_c : IVec S_ 32 := constantI S_ 32 1280#32
  let main_v0 : IVec S48 32 := broadcastInDim S48 ![] bcast_S_S48 main_c
  let main_v1 : IVec S48 1 := cmpi .sle main_arg0 main_v0
  main_v1
-- ==== Pre_gu_meta_ordered.lean ====
abbrev S48x3072 : Shape := ⟨2, ![48, 3072]⟩
abbrev S3072 : Shape := ⟨1, ![3072]⟩
abbrev S16384x768 : Shape := ⟨2, ![16384, 768]⟩
abbrev S16384x192 : Shape := ⟨2, ![16384, 192]⟩
abbrev S16384x24 : Shape := ⟨2, ![16384, 24]⟩
abbrev S_ : Shape := ⟨0, ![]⟩

class Facts : Prop where
  natLt_16_32 : 16 < 32
  bcast_S_S16384x192 : S_.BroadcastsInDim S16384x192 (![] : Fin 0 → Fin S16384x192.rank)
  reducesTo_S16384x192_S_d0_1 : S16384x192.ReducesTo [0, 1] S_
  h_S_ : 0 < S_.numel

variable [Facts]

def fn_part2 {F : FTy → Type} [FloatOps F] (main_v0 : IVec S16384x192 32) (main_v9 : IVec S16384x192 1) (main_v18 : IVec S16384x192 1) (main_v27 : IVec S16384x192 1) (main_v31 : IVec S16384x192 32) (main_v32 : IVec S16384x192 32) : IVec S_ 1 :=
  let main_v33 : IVec S16384x192 32 := Host.shrsi main_v0 main_v32
  let main_c_14 : IVec S_ 32 := constantI S_ 32 3#32
  let main_v34 : IVec S16384x192 32 := broadcastInDim S16384x192 ![] bcast_S_S16384x192 main_c_14
  let main_v35 : IVec S16384x192 32 := andi main_v33 main_v34
  let main_v36 : IVec S16384x192 1 := cmpi .slt main_v31 main_v35
  let main_v37 : IVec S16384x192 1 := andi main_v9 main_v18
  let main_v38 : IVec S16384x192 1 := andi main_v37 main_v27
  let main_v39 : IVec S16384x192 1 := andi main_v38 main_v36
  let main_c_15 : IVec S_ 1 := constantI S_ 1 1#1
  let main_v40 : IVec S_ 1 := (fun x v => Host.reduce IntOp.andi x v reducesTo_S16384x192_S_d0_1 h_S_) main_v39 main_c_15
  main_v40

def fn_part1 {F : FTy → Type} [FloatOps F] (main_v0 : IVec S16384x192 32) (main_v9 : IVec S16384x192 1) (main_v13 : IVec S16384x192 32) (main_v15 : IVec S16384x192 32) (main_c_6 : IVec S_ 32) : IVec S_ 1 :=
  let main_v16 : IVec S16384x192 32 := broadcastInDim S16384x192 ![] bcast_S_S16384x192 main_c_6
  let main_v17 : IVec S16384x192 32 := andi main_v15 main_v16
  let main_v18 : IVec S16384x192 1 := cmpi .slt main_v13 main_v17
  let main_c_7 : IVec S_ 32 := constantI S_ 32 8#32
  let main_v19 : IVec S16384x192 32 := broadcastInDim S16384x192 ![] bcast_S_S16384x192 main_c_7
  let main_v20 : IVec S16384x192 32 := Host.shrsi main_v0 main_v19
  let main_c_8 : IVec S_ 32 := constantI S_ 32 3#32
  let main_v21 : IVec S16384x192 32 := broadcastInDim S16384x192 ![] bcast_S_S16384x192 main_c_8
  let main_v22 : IVec S16384x192 32 := andi main_v20 main_v21
  let main_c_9 : IVec S_ 32 := constantI S_ 32 10#32
  let main_v23 : IVec S16384x192 32 := broadcastInDim S16384x192 ![] bcast_S_S16384x192 main_c_9
  let main_v24 : IVec S16384x192 32 := Host.shrsi main_v0 main_v23
  let main_c_10 : IVec S_ 32 := constantI S_ 32 3#32
  let main_v25 : IVec S16384x192 32 := broadcastInDim S16384x192 ![] bcast_S_S16384x192 main_c_10
  let main_v26 : IVec S16384x192 32 := andi main_v24 main_v25
  let main_v27 : IVec S16384x192 1 := cmpi .slt main_v22 main_v26
  let main_c_11 : IVec S_ 32 := constantI S_ 32 12#32
  let main_v28 : IVec S16384x192 32 := broadcastInDim S16384x192 ![] bcast_S_S16384x192 main_c_11
  let main_v29 : IVec S16384x192 32 := Host.shrsi main_v0 main_v28
  let main_c_12 : IVec S_ 32 := constantI S_ 32 3#32
  let main_v30 : IVec S16384x192 32 := broadcastInDim S16384x192 ![] bcast_S_S16384x192 main_c_12
  let main_v31 : IVec S16384x192 32 := andi main_v29 main_v30
  let main_c_13 : IVec S_ 32 := constantI S_ 32 14#32
  let main_v32 : IVec S16384x192 32 := broadcastInDim S16384x192 ![] bcast_S_S16384x192 main_c_13
  fn_part2 (F := F) main_v0 main_v9 main_v18 main_v27 main_v31 main_v32

def fn {F : FTy → Type} [FloatOps F] (main_arg0 : FVec F S48x3072 .f32) (main_arg1 : FVec F S3072 .f32) (main_arg2 : IVec S16384x768 8) (main_arg3 : IVec S16384x192 16) (main_arg4 : FVec F S16384x24 .f32) : IVec S_ 1 :=
  let main_v0 : IVec S16384x192 32 := (extui 32 · natLt_16_32) main_arg3
  let main_c : IVec S_ 32 := constantI S_ 32 0#32
  let main_v1 : IVec S16384x192 32 := broadcastInDim S16384x192 ![] bcast_S_S16384x192 main_c
  let main_v2 : IVec S16384x192 32 := Host.shrsi main_v0 main_v1
  let main_c_0 : IVec S_ 32 := constantI S_ 32 3#32
  let main_v3 : IVec S16384x192 32 := broadcastInDim S16384x192 ![] bcast_S_S16384x192 main_c_0
  let main_v4 : IVec S16384x192 32 := andi main_v2 main_v3
  let main_c_1 : IVec S_ 32 := constantI S_ 32 2#32
  let main_v5 : IVec S16384x192 32 := broadcastInDim S16384x192 ![] bcast_S_S16384x192 main_c_1
  let main_v6 : IVec S16384x192 32 := Host.shrsi main_v0 main_v5
  let main_c_2 : IVec S_ 32 := constantI S_ 32 3#32
  let main_v7 : IVec S16384x192 32 := broadcastInDim S16384x192 ![] bcast_S_S16384x192 main_c_2
  let main_v8 : IVec S16384x192 32 := andi main_v6 main_v7
  let main_v9 : IVec S16384x192 1 := cmpi .slt main_v4 main_v8
  let main_c_3 : IVec S_ 32 := constantI S_ 32 4#32
  let main_v10 : IVec S16384x192 32 := broadcastInDim S16384x192 ![] bcast_S_S16384x192 main_c_3
  let main_v11 : IVec S16384x192 32 := Host.shrsi main_v0 main_v10
  let main_c_4 : IVec S_ 32 := constantI S_ 32 3#32
  let main_v12 : IVec S16384x192 32 := broadcastInDim S16384x192 ![] bcast_S_S16384x192 main_c_4
  let main_v13 : IVec S16384x192 32 := andi main_v11 main_v12
  let main_c_5 : IVec S_ 32 := constantI S_ 32 6#32
  let main_v14 : IVec S16384x192 32 := broadcastInDim S16384x192 ![] bcast_S_S16384x192 main_c_5
  let main_v15 : IVec S16384x192 32 := Host.shrsi main_v0 main_v14
  let main_c_6 : IVec S_ 32 := constantI S_ 32 3#32
  fn_part1 (F := F) main_v0 main_v9 main_v13 main_v15 main_c_6
-- ==== Pre_qkv_meta_ordered.lean ====
abbrev S48x1x3072 : Shape := ⟨3, ![48, 1, 3072]⟩
abbrev S3072 : Shape := ⟨1, ![3072]⟩
abbrev S5120x768 : Shape := ⟨2, ![5120, 768]⟩
abbrev S5120x192 : Shape := ⟨2, ![5120, 192]⟩
abbrev S5120x24 : Shape := ⟨2, ![5120, 24]⟩
abbrev S48x1x64 : Shape := ⟨3, ![48, 1, 64]⟩
abbrev S8 : Shape := ⟨1, ![8]⟩
abbrev S_ : Shape := ⟨0, ![]⟩

class Facts : Prop where
  natLt_16_32 : 16 < 32
  bcast_S_S5120x192 : S_.BroadcastsInDim S5120x192 (![] : Fin 0 → Fin S5120x192.rank)
  reducesTo_S5120x192_S_d0_1 : S5120x192.ReducesTo [0, 1] S_
  h_S_ : 0 < S_.numel

variable [Facts]

def fn_part2 {F : FTy → Type} [FloatOps F] (main_v0 : IVec S5120x192 32) (main_v9 : IVec S5120x192 1) (main_v18 : IVec S5120x192 1) (main_v27 : IVec S5120x192 1) (main_v31 : IVec S5120x192 32) (main_v32 : IVec S5120x192 32) : IVec S_ 1 :=
  let main_v33 : IVec S5120x192 32 := Host.shrsi main_v0 main_v32
  let main_c_14 : IVec S_ 32 := constantI S_ 32 3#32
  let main_v34 : IVec S5120x192 32 := broadcastInDim S5120x192 ![] bcast_S_S5120x192 main_c_14
  let main_v35 : IVec S5120x192 32 := andi main_v33 main_v34
  let main_v36 : IVec S5120x192 1 := cmpi .slt main_v31 main_v35
  let main_v37 : IVec S5120x192 1 := andi main_v9 main_v18
  let main_v38 : IVec S5120x192 1 := andi main_v37 main_v27
  let main_v39 : IVec S5120x192 1 := andi main_v38 main_v36
  let main_c_15 : IVec S_ 1 := constantI S_ 1 1#1
  let main_v40 : IVec S_ 1 := (fun x v => Host.reduce IntOp.andi x v reducesTo_S5120x192_S_d0_1 h_S_) main_v39 main_c_15
  main_v40

def fn_part1 {F : FTy → Type} [FloatOps F] (main_v0 : IVec S5120x192 32) (main_v9 : IVec S5120x192 1) (main_v13 : IVec S5120x192 32) (main_v15 : IVec S5120x192 32) (main_c_6 : IVec S_ 32) : IVec S_ 1 :=
  let main_v16 : IVec S5120x192 32 := broadcastInDim S5120x192 ![] bcast_S_S5120x192 main_c_6
  let main_v17 : IVec S5120x192 32 := andi main_v15 main_v16
  let main_v18 : IVec S5120x192 1 := cmpi .slt main_v13 main_v17
  let main_c_7 : IVec S_ 32 := constantI S_ 32 8#32
  let main_v19 : IVec S5120x192 32 := broadcastInDim S5120x192 ![] bcast_S_S5120x192 main_c_7
  let main_v20 : IVec S5120x192 32 := Host.shrsi main_v0 main_v19
  let main_c_8 : IVec S_ 32 := constantI S_ 32 3#32
  let main_v21 : IVec S5120x192 32 := broadcastInDim S5120x192 ![] bcast_S_S5120x192 main_c_8
  let main_v22 : IVec S5120x192 32 := andi main_v20 main_v21
  let main_c_9 : IVec S_ 32 := constantI S_ 32 10#32
  let main_v23 : IVec S5120x192 32 := broadcastInDim S5120x192 ![] bcast_S_S5120x192 main_c_9
  let main_v24 : IVec S5120x192 32 := Host.shrsi main_v0 main_v23
  let main_c_10 : IVec S_ 32 := constantI S_ 32 3#32
  let main_v25 : IVec S5120x192 32 := broadcastInDim S5120x192 ![] bcast_S_S5120x192 main_c_10
  let main_v26 : IVec S5120x192 32 := andi main_v24 main_v25
  let main_v27 : IVec S5120x192 1 := cmpi .slt main_v22 main_v26
  let main_c_11 : IVec S_ 32 := constantI S_ 32 12#32
  let main_v28 : IVec S5120x192 32 := broadcastInDim S5120x192 ![] bcast_S_S5120x192 main_c_11
  let main_v29 : IVec S5120x192 32 := Host.shrsi main_v0 main_v28
  let main_c_12 : IVec S_ 32 := constantI S_ 32 3#32
  let main_v30 : IVec S5120x192 32 := broadcastInDim S5120x192 ![] bcast_S_S5120x192 main_c_12
  let main_v31 : IVec S5120x192 32 := andi main_v29 main_v30
  let main_c_13 : IVec S_ 32 := constantI S_ 32 14#32
  let main_v32 : IVec S5120x192 32 := broadcastInDim S5120x192 ![] bcast_S_S5120x192 main_c_13
  fn_part2 (F := F) main_v0 main_v9 main_v18 main_v27 main_v31 main_v32

def fn {F : FTy → Type} [FloatOps F] (main_arg0 : FVec F S48x1x3072 .bf16) (main_arg1 : FVec F S3072 .f32) (main_arg2 : IVec S5120x768 8) (main_arg3 : IVec S5120x192 16) (main_arg4 : FVec F S5120x24 .f32) (main_arg5 : FVec F S48x1x64 .f32) (main_arg6 : FVec F S48x1x64 .f32) (main_arg7 : FVec F S8 .f32) (main_arg8 : FVec F S8 .f32) : IVec S_ 1 :=
  let main_v0 : IVec S5120x192 32 := (extui 32 · natLt_16_32) main_arg3
  let main_c : IVec S_ 32 := constantI S_ 32 0#32
  let main_v1 : IVec S5120x192 32 := broadcastInDim S5120x192 ![] bcast_S_S5120x192 main_c
  let main_v2 : IVec S5120x192 32 := Host.shrsi main_v0 main_v1
  let main_c_0 : IVec S_ 32 := constantI S_ 32 3#32
  let main_v3 : IVec S5120x192 32 := broadcastInDim S5120x192 ![] bcast_S_S5120x192 main_c_0
  let main_v4 : IVec S5120x192 32 := andi main_v2 main_v3
  let main_c_1 : IVec S_ 32 := constantI S_ 32 2#32
  let main_v5 : IVec S5120x192 32 := broadcastInDim S5120x192 ![] bcast_S_S5120x192 main_c_1
  let main_v6 : IVec S5120x192 32 := Host.shrsi main_v0 main_v5
  let main_c_2 : IVec S_ 32 := constantI S_ 32 3#32
  let main_v7 : IVec S5120x192 32 := broadcastInDim S5120x192 ![] bcast_S_S5120x192 main_c_2
  let main_v8 : IVec S5120x192 32 := andi main_v6 main_v7
  let main_v9 : IVec S5120x192 1 := cmpi .slt main_v4 main_v8
  let main_c_3 : IVec S_ 32 := constantI S_ 32 4#32
  let main_v10 : IVec S5120x192 32 := broadcastInDim S5120x192 ![] bcast_S_S5120x192 main_c_3
  let main_v11 : IVec S5120x192 32 := Host.shrsi main_v0 main_v10
  let main_c_4 : IVec S_ 32 := constantI S_ 32 3#32
  let main_v12 : IVec S5120x192 32 := broadcastInDim S5120x192 ![] bcast_S_S5120x192 main_c_4
  let main_v13 : IVec S5120x192 32 := andi main_v11 main_v12
  let main_c_5 : IVec S_ 32 := constantI S_ 32 6#32
  let main_v14 : IVec S5120x192 32 := broadcastInDim S5120x192 ![] bcast_S_S5120x192 main_c_5
  let main_v15 : IVec S5120x192 32 := Host.shrsi main_v0 main_v14
  let main_c_6 : IVec S_ 32 := constantI S_ 32 3#32
  fn_part1 (F := F) main_v0 main_v9 main_v13 main_v15 main_c_6
-- ==== Pre_wd_meta_ordered.lean ====
abbrev S48x8192 : Shape := ⟨2, ![48, 8192]⟩
abbrev S48x3072 : Shape := ⟨2, ![48, 3072]⟩
abbrev S3072x2048 : Shape := ⟨2, ![3072, 2048]⟩
abbrev S3072x512 : Shape := ⟨2, ![3072, 512]⟩
abbrev S3072x64 : Shape := ⟨2, ![3072, 64]⟩
abbrev S_ : Shape := ⟨0, ![]⟩

class Facts : Prop where
  natLt_16_32 : 16 < 32
  bcast_S_S3072x512 : S_.BroadcastsInDim S3072x512 (![] : Fin 0 → Fin S3072x512.rank)
  reducesTo_S3072x512_S_d0_1 : S3072x512.ReducesTo [0, 1] S_
  h_S_ : 0 < S_.numel

variable [Facts]

def fn_part2 {F : FTy → Type} [FloatOps F] (main_v0 : IVec S3072x512 32) (main_v9 : IVec S3072x512 1) (main_v18 : IVec S3072x512 1) (main_v27 : IVec S3072x512 1) (main_v31 : IVec S3072x512 32) (main_v32 : IVec S3072x512 32) : IVec S_ 1 :=
  let main_v33 : IVec S3072x512 32 := Host.shrsi main_v0 main_v32
  let main_c_14 : IVec S_ 32 := constantI S_ 32 3#32
  let main_v34 : IVec S3072x512 32 := broadcastInDim S3072x512 ![] bcast_S_S3072x512 main_c_14
  let main_v35 : IVec S3072x512 32 := andi main_v33 main_v34
  let main_v36 : IVec S3072x512 1 := cmpi .slt main_v31 main_v35
  let main_v37 : IVec S3072x512 1 := andi main_v9 main_v18
  let main_v38 : IVec S3072x512 1 := andi main_v37 main_v27
  let main_v39 : IVec S3072x512 1 := andi main_v38 main_v36
  let main_c_15 : IVec S_ 1 := constantI S_ 1 1#1
  let main_v40 : IVec S_ 1 := (fun x v => Host.reduce IntOp.andi x v reducesTo_S3072x512_S_d0_1 h_S_) main_v39 main_c_15
  main_v40

def fn_part1 {F : FTy → Type} [FloatOps F] (main_v0 : IVec S3072x512 32) (main_v9 : IVec S3072x512 1) (main_v13 : IVec S3072x512 32) (main_v15 : IVec S3072x512 32) (main_c_6 : IVec S_ 32) : IVec S_ 1 :=
  let main_v16 : IVec S3072x512 32 := broadcastInDim S3072x512 ![] bcast_S_S3072x512 main_c_6
  let main_v17 : IVec S3072x512 32 := andi main_v15 main_v16
  let main_v18 : IVec S3072x512 1 := cmpi .slt main_v13 main_v17
  let main_c_7 : IVec S_ 32 := constantI S_ 32 8#32
  let main_v19 : IVec S3072x512 32 := broadcastInDim S3072x512 ![] bcast_S_S3072x512 main_c_7
  let main_v20 : IVec S3072x512 32 := Host.shrsi main_v0 main_v19
  let main_c_8 : IVec S_ 32 := constantI S_ 32 3#32
  let main_v21 : IVec S3072x512 32 := broadcastInDim S3072x512 ![] bcast_S_S3072x512 main_c_8
  let main_v22 : IVec S3072x512 32 := andi main_v20 main_v21
  let main_c_9 : IVec S_ 32 := constantI S_ 32 10#32
  let main_v23 : IVec S3072x512 32 := broadcastInDim S3072x512 ![] bcast_S_S3072x512 main_c_9
  let main_v24 : IVec S3072x512 32 := Host.shrsi main_v0 main_v23
  let main_c_10 : IVec S_ 32 := constantI S_ 32 3#32
  let main_v25 : IVec S3072x512 32 := broadcastInDim S3072x512 ![] bcast_S_S3072x512 main_c_10
  let main_v26 : IVec S3072x512 32 := andi main_v24 main_v25
  let main_v27 : IVec S3072x512 1 := cmpi .slt main_v22 main_v26
  let main_c_11 : IVec S_ 32 := constantI S_ 32 12#32
  let main_v28 : IVec S3072x512 32 := broadcastInDim S3072x512 ![] bcast_S_S3072x512 main_c_11
  let main_v29 : IVec S3072x512 32 := Host.shrsi main_v0 main_v28
  let main_c_12 : IVec S_ 32 := constantI S_ 32 3#32
  let main_v30 : IVec S3072x512 32 := broadcastInDim S3072x512 ![] bcast_S_S3072x512 main_c_12
  let main_v31 : IVec S3072x512 32 := andi main_v29 main_v30
  let main_c_13 : IVec S_ 32 := constantI S_ 32 14#32
  let main_v32 : IVec S3072x512 32 := broadcastInDim S3072x512 ![] bcast_S_S3072x512 main_c_13
  fn_part2 (F := F) main_v0 main_v9 main_v18 main_v27 main_v31 main_v32

def fn {F : FTy → Type} [FloatOps F] (main_arg0 : FVec F S48x8192 .bf16) (main_arg1 : FVec F S48x3072 .f32) (main_arg2 : IVec S3072x2048 8) (main_arg3 : IVec S3072x512 16) (main_arg4 : FVec F S3072x64 .f32) : IVec S_ 1 :=
  let main_v0 : IVec S3072x512 32 := (extui 32 · natLt_16_32) main_arg3
  let main_c : IVec S_ 32 := constantI S_ 32 0#32
  let main_v1 : IVec S3072x512 32 := broadcastInDim S3072x512 ![] bcast_S_S3072x512 main_c
  let main_v2 : IVec S3072x512 32 := Host.shrsi main_v0 main_v1
  let main_c_0 : IVec S_ 32 := constantI S_ 32 3#32
  let main_v3 : IVec S3072x512 32 := broadcastInDim S3072x512 ![] bcast_S_S3072x512 main_c_0
  let main_v4 : IVec S3072x512 32 := andi main_v2 main_v3
  let main_c_1 : IVec S_ 32 := constantI S_ 32 2#32
  let main_v5 : IVec S3072x512 32 := broadcastInDim S3072x512 ![] bcast_S_S3072x512 main_c_1
  let main_v6 : IVec S3072x512 32 := Host.shrsi main_v0 main_v5
  let main_c_2 : IVec S_ 32 := constantI S_ 32 3#32
  let main_v7 : IVec S3072x512 32 := broadcastInDim S3072x512 ![] bcast_S_S3072x512 main_c_2
  let main_v8 : IVec S3072x512 32 := andi main_v6 main_v7
  let main_v9 : IVec S3072x512 1 := cmpi .slt main_v4 main_v8
  let main_c_3 : IVec S_ 32 := constantI S_ 32 4#32
  let main_v10 : IVec S3072x512 32 := broadcastInDim S3072x512 ![] bcast_S_S3072x512 main_c_3
  let main_v11 : IVec S3072x512 32 := Host.shrsi main_v0 main_v10
  let main_c_4 : IVec S_ 32 := constantI S_ 32 3#32
  let main_v12 : IVec S3072x512 32 := broadcastInDim S3072x512 ![] bcast_S_S3072x512 main_c_4
  let main_v13 : IVec S3072x512 32 := andi main_v11 main_v12
  let main_c_5 : IVec S_ 32 := constantI S_ 32 6#32
  let main_v14 : IVec S3072x512 32 := broadcastInDim S3072x512 ![] bcast_S_S3072x512 main_c_5
  let main_v15 : IVec S3072x512 32 := Host.shrsi main_v0 main_v14
  let main_c_6 : IVec S_ 32 := constantI S_ 32 3#32
  fn_part1 (F := F) main_v0 main_v9 main_v13 main_v15 main_c_6
-- ==== Pre_wo_meta_ordered.lean ====
abbrev S48x3072 : Shape := ⟨2, ![48, 3072]⟩
abbrev S48x1x3072 : Shape := ⟨3, ![48, 1, 3072]⟩
abbrev S3072x768 : Shape := ⟨2, ![3072, 768]⟩
abbrev S3072x192 : Shape := ⟨2, ![3072, 192]⟩
abbrev S3072x24 : Shape := ⟨2, ![3072, 24]⟩
abbrev S_ : Shape := ⟨0, ![]⟩

class Facts : Prop where
  natLt_16_32 : 16 < 32
  bcast_S_S3072x192 : S_.BroadcastsInDim S3072x192 (![] : Fin 0 → Fin S3072x192.rank)
  reducesTo_S3072x192_S_d0_1 : S3072x192.ReducesTo [0, 1] S_
  h_S_ : 0 < S_.numel

variable [Facts]

def fn_part2 {F : FTy → Type} [FloatOps F] (main_v0 : IVec S3072x192 32) (main_v9 : IVec S3072x192 1) (main_v18 : IVec S3072x192 1) (main_v27 : IVec S3072x192 1) (main_v31 : IVec S3072x192 32) (main_v32 : IVec S3072x192 32) : IVec S_ 1 :=
  let main_v33 : IVec S3072x192 32 := Host.shrsi main_v0 main_v32
  let main_c_14 : IVec S_ 32 := constantI S_ 32 3#32
  let main_v34 : IVec S3072x192 32 := broadcastInDim S3072x192 ![] bcast_S_S3072x192 main_c_14
  let main_v35 : IVec S3072x192 32 := andi main_v33 main_v34
  let main_v36 : IVec S3072x192 1 := cmpi .slt main_v31 main_v35
  let main_v37 : IVec S3072x192 1 := andi main_v9 main_v18
  let main_v38 : IVec S3072x192 1 := andi main_v37 main_v27
  let main_v39 : IVec S3072x192 1 := andi main_v38 main_v36
  let main_c_15 : IVec S_ 1 := constantI S_ 1 1#1
  let main_v40 : IVec S_ 1 := (fun x v => Host.reduce IntOp.andi x v reducesTo_S3072x192_S_d0_1 h_S_) main_v39 main_c_15
  main_v40

def fn_part1 {F : FTy → Type} [FloatOps F] (main_v0 : IVec S3072x192 32) (main_v9 : IVec S3072x192 1) (main_v13 : IVec S3072x192 32) (main_v15 : IVec S3072x192 32) (main_c_6 : IVec S_ 32) : IVec S_ 1 :=
  let main_v16 : IVec S3072x192 32 := broadcastInDim S3072x192 ![] bcast_S_S3072x192 main_c_6
  let main_v17 : IVec S3072x192 32 := andi main_v15 main_v16
  let main_v18 : IVec S3072x192 1 := cmpi .slt main_v13 main_v17
  let main_c_7 : IVec S_ 32 := constantI S_ 32 8#32
  let main_v19 : IVec S3072x192 32 := broadcastInDim S3072x192 ![] bcast_S_S3072x192 main_c_7
  let main_v20 : IVec S3072x192 32 := Host.shrsi main_v0 main_v19
  let main_c_8 : IVec S_ 32 := constantI S_ 32 3#32
  let main_v21 : IVec S3072x192 32 := broadcastInDim S3072x192 ![] bcast_S_S3072x192 main_c_8
  let main_v22 : IVec S3072x192 32 := andi main_v20 main_v21
  let main_c_9 : IVec S_ 32 := constantI S_ 32 10#32
  let main_v23 : IVec S3072x192 32 := broadcastInDim S3072x192 ![] bcast_S_S3072x192 main_c_9
  let main_v24 : IVec S3072x192 32 := Host.shrsi main_v0 main_v23
  let main_c_10 : IVec S_ 32 := constantI S_ 32 3#32
  let main_v25 : IVec S3072x192 32 := broadcastInDim S3072x192 ![] bcast_S_S3072x192 main_c_10
  let main_v26 : IVec S3072x192 32 := andi main_v24 main_v25
  let main_v27 : IVec S3072x192 1 := cmpi .slt main_v22 main_v26
  let main_c_11 : IVec S_ 32 := constantI S_ 32 12#32
  let main_v28 : IVec S3072x192 32 := broadcastInDim S3072x192 ![] bcast_S_S3072x192 main_c_11
  let main_v29 : IVec S3072x192 32 := Host.shrsi main_v0 main_v28
  let main_c_12 : IVec S_ 32 := constantI S_ 32 3#32
  let main_v30 : IVec S3072x192 32 := broadcastInDim S3072x192 ![] bcast_S_S3072x192 main_c_12
  let main_v31 : IVec S3072x192 32 := andi main_v29 main_v30
  let main_c_13 : IVec S_ 32 := constantI S_ 32 14#32
  let main_v32 : IVec S3072x192 32 := broadcastInDim S3072x192 ![] bcast_S_S3072x192 main_c_13
  fn_part2 (F := F) main_v0 main_v9 main_v18 main_v27 main_v31 main_v32

def fn {F : FTy → Type} [FloatOps F] (main_arg0 : FVec F S48x3072 .f32) (main_arg1 : FVec F S48x1x3072 .bf16) (main_arg2 : IVec S3072x768 8) (main_arg3 : IVec S3072x192 16) (main_arg4 : FVec F S3072x24 .f32) : IVec S_ 1 :=
  let main_v0 : IVec S3072x192 32 := (extui 32 · natLt_16_32) main_arg3
  let main_c : IVec S_ 32 := constantI S_ 32 0#32
  let main_v1 : IVec S3072x192 32 := broadcastInDim S3072x192 ![] bcast_S_S3072x192 main_c
  let main_v2 : IVec S3072x192 32 := Host.shrsi main_v0 main_v1
  let main_c_0 : IVec S_ 32 := constantI S_ 32 3#32
  let main_v3 : IVec S3072x192 32 := broadcastInDim S3072x192 ![] bcast_S_S3072x192 main_c_0
  let main_v4 : IVec S3072x192 32 := andi main_v2 main_v3
  let main_c_1 : IVec S_ 32 := constantI S_ 32 2#32
  let main_v5 : IVec S3072x192 32 := broadcastInDim S3072x192 ![] bcast_S_S3072x192 main_c_1
  let main_v6 : IVec S3072x192 32 := Host.shrsi main_v0 main_v5
  let main_c_2 : IVec S_ 32 := constantI S_ 32 3#32
  let main_v7 : IVec S3072x192 32 := broadcastInDim S3072x192 ![] bcast_S_S3072x192 main_c_2
  let main_v8 : IVec S3072x192 32 := andi main_v6 main_v7
  let main_v9 : IVec S3072x192 1 := cmpi .slt main_v4 main_v8
  let main_c_3 : IVec S_ 32 := constantI S_ 32 4#32
  let main_v10 : IVec S3072x192 32 := broadcastInDim S3072x192 ![] bcast_S_S3072x192 main_c_3
  let main_v11 : IVec S3072x192 32 := Host.shrsi main_v0 main_v10
  let main_c_4 : IVec S_ 32 := constantI S_ 32 3#32
  let main_v12 : IVec S3072x192 32 := broadcastInDim S3072x192 ![] bcast_S_S3072x192 main_c_4
  let main_v13 : IVec S3072x192 32 := andi main_v11 main_v12
  let main_c_5 : IVec S_ 32 := constantI S_ 32 6#32
  let main_v14 : IVec S3072x192 32 := broadcastInDim S3072x192 ![] bcast_S_S3072x192 main_c_5
  let main_v15 : IVec S3072x192 32 := Host.shrsi main_v0 main_v14
  let main_c_6 : IVec S_ 32 := constantI S_ 32 3#32
  fn_part1 (F := F) main_v0 main_v9 main_v13 main_v15 main_c_6
-- ==== KWo.lean ====
abbrev S48x3072 : Shape := ⟨2, ![48, 3072]⟩
abbrev S48x1x3072 : Shape := ⟨3, ![48, 1, 3072]⟩
abbrev S3072x768 : Shape := ⟨2, ![3072, 768]⟩
abbrev S3072x192 : Shape := ⟨2, ![3072, 192]⟩
abbrev S3072x24 : Shape := ⟨2, ![3072, 24]⟩
abbrev S192x3072 : Shape := ⟨2, ![192, 3072]⟩
abbrev S24x3072 : Shape := ⟨2, ![24, 3072]⟩
abbrev S48x512 : Shape := ⟨2, ![48, 512]⟩
abbrev S512x768 : Shape := ⟨2, ![512, 768]⟩
abbrev S192x512 : Shape := ⟨2, ![192, 512]⟩
abbrev S24x512 : Shape := ⟨2, ![24, 512]⟩
abbrev S512x512 : Shape := ⟨2, ![512, 512]⟩
abbrev S288x512 : Shape := ⟨2, ![288, 512]⟩
abbrev S512x128 : Shape := ⟨2, ![512, 128]⟩
abbrev S32x512 : Shape := ⟨2, ![32, 512]⟩
abbrev S128x512 : Shape := ⟨2, ![128, 512]⟩
abbrev S16x512 : Shape := ⟨2, ![16, 512]⟩
abbrev S16x1x512 : Shape := ⟨3, ![16, 1, 512]⟩
abbrev S16x8x512 : Shape := ⟨3, ![16, 8, 512]⟩
abbrev S4x512 : Shape := ⟨2, ![4, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S48x3072, .f32⟩
  | .hbm, ⟨1, _⟩ => ⟨S48x1x3072, .bf16⟩
  | .hbm, ⟨2, _⟩ => ⟨S3072x768, .i8⟩
  | .hbm, ⟨3, _⟩ => ⟨S3072x192, .i16⟩
  | .hbm, ⟨4, _⟩ => ⟨S3072x24, .f32⟩
  | .hbm, ⟨5, _⟩ => ⟨S48x3072, .bf16⟩
  | .hbm, ⟨6, _⟩ => ⟨S192x3072, .i16⟩
  | .hbm, ⟨7, _⟩ => ⟨S24x3072, .f32⟩
  | .hbm, ⟨8, _⟩ => ⟨S48x3072, .f32⟩
  | .local _ .vmem, ⟨0, _⟩ => ⟨S48x3072, .f32⟩
  | .local _ .vmem, ⟨1, _⟩ => ⟨S48x512, .bf16⟩
  | .local _ .vmem, ⟨2, _⟩ => ⟨S48x512, .bf16⟩
  | .local _ .vmem, ⟨3, _⟩ => ⟨S512x768, .i8⟩
  | .local _ .vmem, ⟨4, _⟩ => ⟨S512x768, .i8⟩
  | .local _ .vmem, ⟨5, _⟩ => ⟨S192x512, .i16⟩
  | .local _ .vmem, ⟨6, _⟩ => ⟨S192x512, .i16⟩
  | .local _ .vmem, ⟨7, _⟩ => ⟨S24x512, .f32⟩
  | .local _ .vmem, ⟨8, _⟩ => ⟨S24x512, .f32⟩
  | .local _ .vmem, ⟨9, _⟩ => ⟨S48x512, .f32⟩
  | .local _ .vmem, ⟨10, _⟩ => ⟨S48x512, .f32⟩
  | .local _ .vmem, ⟨11, _⟩ => ⟨S48x3072, .bf16⟩
  | _, _ => ⟨S48x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S48x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RWoIdeal.lean ====
abbrev S48x3072 : Shape := ⟨2, ![48, 3072]⟩
abbrev S48x1x3072 : Shape := ⟨3, ![48, 1, 3072]⟩
abbrev S3072x768 : Shape := ⟨2, ![3072, 768]⟩
abbrev S3072x192 : Shape := ⟨2, ![3072, 192]⟩
abbrev S3072x24 : Shape := ⟨2, ![3072, 24]⟩
abbrev S_ : Shape := ⟨0, ![]⟩
abbrev S768 : Shape := ⟨1, ![768]⟩
abbrev S3072x192x4 : Shape := ⟨3, ![3072, 192, 4]⟩
abbrev S1x768 : Shape := ⟨2, ![1, 768]⟩
abbrev S3072x24x32 : Shape := ⟨3, ![3072, 24, 32]⟩
abbrev S48x768 : Shape := ⟨2, ![48, 768]⟩

abbrev nBuf : Space → Nat
  | .hbm => 131
  | .vmem => 0
  | .smem => 0
  | _ => 0

abbrev hbmTy0_0 (i : Nat) : BufTy := match i % 128 with
  | 0 => ⟨S48x3072, .f32⟩
  | 1 => ⟨S48x1x3072, .bf16⟩
  | 2 => ⟨S3072x768, .i8⟩
  | 3 => ⟨S3072x192, .i16⟩
  | 4 => ⟨S3072x24, .f32⟩
  | 5 => ⟨S48x1x3072, .f32⟩
  | 6 => ⟨S48x3072, .f32⟩
  | 7 => ⟨S48x3072, .bf16⟩
  | 8 => ⟨S3072x768, .i32⟩
  | 9 => ⟨S_, .i32⟩
  | 10 => ⟨S3072x768, .i32⟩
  | 11 => ⟨S3072x768, .i32⟩
  | 12 => ⟨S_, .i32⟩
  | 13 => ⟨S3072x768, .i32⟩
  | 14 => ⟨S3072x768, .i1⟩
  | 15 => ⟨S_, .i32⟩
  | 16 => ⟨S3072x768, .i32⟩
  | 17 => ⟨S3072x768, .i32⟩
  | 18 => ⟨S3072x768, .i32⟩
  | 19 => ⟨S3072x768, .bf16⟩
  | 20 => ⟨S_, .i32⟩
  | 21 => ⟨S3072x768, .i32⟩
  | 22 => ⟨S3072x768, .i32⟩
  | 23 => ⟨S_, .i32⟩
  | 24 => ⟨S3072x768, .i32⟩
  | 25 => ⟨S3072x768, .i1⟩
  | 26 => ⟨S_, .i32⟩
  | 27 => ⟨S3072x768, .i32⟩
  | 28 => ⟨S3072x768, .i32⟩
  | 29 => ⟨S3072x768, .i32⟩
  | 30 => ⟨S3072x768, .bf16⟩
  | 31 => ⟨S768, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S768, .i32⟩
  | 39 => ⟨S768, .i32⟩
  | 40 => ⟨S_, .i32⟩
  | 41 => ⟨S768, .i32⟩
  | 42 => ⟨S768, .i1⟩
  | 43 => ⟨S_, .i32⟩
  | 44 => ⟨S768, .i32⟩
  | 45 => ⟨S768, .i1⟩
  | 46 => ⟨S_, .i32⟩
  | 47 => ⟨S_, .i1⟩
  | 48 => ⟨S768, .i1⟩
  | 49 => ⟨S768, .i1⟩
  | 50 => ⟨S768, .i1⟩
  | 51 => ⟨S768, .i32⟩
  | 52 => ⟨S768, .i32⟩
  | 53 => ⟨S768, .i32⟩
  | 54 => ⟨S_, .i32⟩
  | 55 => ⟨S768, .i32⟩
  | 56 => ⟨S768, .i32⟩
  | 57 => ⟨S3072x192, .i32⟩
  | 58 => ⟨S3072x192x4, .i32⟩
  | 59 => ⟨S3072x768, .i32⟩
  | 60 => ⟨S1x768, .i32⟩
  | 61 => ⟨S3072x768, .i32⟩
  | 62 => ⟨S3072x768, .i32⟩
  | 63 => ⟨S_, .i32⟩
  | 64 => ⟨S3072x768, .i32⟩
  | 65 => ⟨S3072x768, .i32⟩
  | 66 => ⟨S_, .i32⟩
  | 67 => ⟨S3072x768, .i32⟩
  | 68 => ⟨S3072x768, .i32⟩
  | 69 => ⟨S_, .i32⟩
  | 70 => ⟨S3072x768, .i32⟩
  | 71 => ⟨S3072x768, .i32⟩
  | 72 => ⟨S3072x24x32, .f32⟩
  | 73 => ⟨S3072x768, .f32⟩
  | 74 => ⟨S3072x768, .bf16⟩
  | 75 => ⟨S_, .i32⟩
  | 76 => ⟨S3072x768, .i32⟩
  | 77 => ⟨S3072x768, .i1⟩
  | 78 => ⟨S_, .i32⟩
  | 79 => ⟨S3072x768, .i32⟩
  | 80 => ⟨S3072x768, .i1⟩
  | 81 => ⟨S_, .bf16⟩
  | 82 => ⟨S3072x768, .bf16⟩
  | 83 => ⟨S3072x768, .bf16⟩
  | 84 => ⟨S3072x768, .bf16⟩
  | 85 => ⟨S3072x768, .bf16⟩
  | 86 => ⟨S48x768, .bf16⟩
  | 87 => ⟨S48x3072, .f32⟩
  | 88 => ⟨S_, .i32⟩
  | 89 => ⟨S3072x768, .i32⟩
  | 90 => ⟨S3072x768, .i1⟩
  | 91 => ⟨S_, .i32⟩
  | 92 => ⟨S3072x768, .i32⟩
  | 93 => ⟨S3072x768, .i1⟩
  | 94 => ⟨S_, .bf16⟩
  | 95 => ⟨S3072x768, .bf16⟩
  | 96 => ⟨S3072x768, .bf16⟩
  | 97 => ⟨S3072x768, .bf16⟩
  | 98 => ⟨S3072x768, .bf16⟩
  | 99 => ⟨S48x768, .bf16⟩
  | 100 => ⟨S48x3072, .f32⟩
  | 101 => ⟨S48x3072, .f32⟩
  | 102 => ⟨S_, .i32⟩
  | 103 => ⟨S3072x768, .i32⟩
  | 104 => ⟨S3072x768, .i1⟩
  | 105 => ⟨S_, .i32⟩
  | 106 => ⟨S3072x768, .i32⟩
  | 107 => ⟨S3072x768, .i1⟩
  | 108 => ⟨S_, .bf16⟩
  | 109 => ⟨S3072x768, .bf16⟩
  | 110 => ⟨S3072x768, .bf16⟩
  | 111 => ⟨S3072x768, .bf16⟩
  | 112 => ⟨S3072x768, .bf16⟩
  | 113 => ⟨S48x768, .bf16⟩
  | 114 => ⟨S48x3072, .f32⟩
  | 115 => ⟨S48x3072, .f32⟩
  | 116 => ⟨S_, .i32⟩
  | 117 => ⟨S3072x768, .i32⟩
  | 118 => ⟨S3072x768, .i1⟩
  | 119 => ⟨S_, .i32⟩
  | 120 => ⟨S3072x768, .i32⟩
  | 121 => ⟨S3072x768, .i1⟩
  | 122 => ⟨S_, .bf16⟩
  | 123 => ⟨S3072x768, .bf16⟩
  | 124 => ⟨S3072x768, .bf16⟩
  | 125 => ⟨S3072x768, .bf16⟩
  | 126 => ⟨S3072x768, .bf16⟩
  | 127 => ⟨S48x768, .bf16⟩
  | _ => ⟨S48x3072, .f32⟩

abbrev hbmTy0_1 (i : Nat) : BufTy := match i % 128 with
  | 0 => ⟨S48x3072, .f32⟩
  | 1 => ⟨S48x3072, .f32⟩
  | 2 => ⟨S48x3072, .f32⟩
  | _ => ⟨S48x3072, .f32⟩

abbrev hbmTy (i : Nat) : BufTy := match i / 128 with
  | 0 => hbmTy0_0 i
  | 1 => hbmTy0_1 i
  | _ => ⟨S48x3072, .f32⟩

abbrev bufTy : (tb : Table) → Fin (tcTables nBuf tb) → BufTy
  | .hbm, ⟨i, _⟩ => hbmTy i
  | _, _ => ⟨S48x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_call2_v0 : Ref sig .tc := ⟨.hbm, 33, rfl⟩
abbrev main_call2_c : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_1 : Ref sig .tc := ⟨.hbm, 40, rfl⟩
abbrev main_call2_v5 : Ref sig .tc := ⟨.hbm, 41, rfl⟩
abbrev main_call2_v6 : Ref sig .tc := ⟨.hbm, 42, rfl⟩
abbrev main_call2_c_2 : Ref sig .tc := ⟨.hbm, 43, rfl⟩
abbrev main_call2_v7 : Ref sig .tc := ⟨.hbm, 44, rfl⟩
abbrev main_call2_v8 : Ref sig .tc := ⟨.hbm, 45, rfl⟩
abbrev main_call2_c_3 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_v21 : Ref sig .tc := ⟨.hbm, 53, rfl⟩
abbrev main_c_6 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_c_8 : Ref sig .tc := ⟨.hbm, 66, rfl⟩
abbrev main_v32 : Ref sig .tc := ⟨.hbm, 67, rfl⟩
abbrev main_v33 : Ref sig .tc := ⟨.hbm, 68, rfl⟩
abbrev main_c_9 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_10 : Ref sig .tc := ⟨.hbm, 75, rfl⟩
abbrev main_v39 : Ref sig .tc := ⟨.hbm, 76, rfl⟩
abbrev main_v40 : Ref sig .tc := ⟨.hbm, 77, rfl⟩
abbrev main_c_11 : Ref sig .tc := ⟨.hbm, 78, rfl⟩
abbrev main_v41 : Ref sig .tc := ⟨.hbm, 79, rfl⟩
abbrev main_v42 : Ref sig .tc := ⟨.hbm, 80, rfl⟩
abbrev main_cst : Ref sig .tc := ⟨.hbm, 81, rfl⟩
abbrev main_call3_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_12 : Ref sig .tc := ⟨.hbm, 88, rfl⟩
abbrev main_v48 : Ref sig .tc := ⟨.hbm, 89, rfl⟩
abbrev main_v49 : Ref sig .tc := ⟨.hbm, 90, rfl⟩
abbrev main_c_13 : Ref sig .tc := ⟨.hbm, 91, rfl⟩
abbrev main_v50 : Ref sig .tc := ⟨.hbm, 92, rfl⟩
abbrev main_v51 : Ref sig .tc := ⟨.hbm, 93, rfl⟩
abbrev main_cst_14 : Ref sig .tc := ⟨.hbm, 94, rfl⟩
abbrev main_call5_v0 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_15 : Ref sig .tc := ⟨.hbm, 102, rfl⟩
abbrev main_v58 : Ref sig .tc := ⟨.hbm, 103, rfl⟩
abbrev main_v59 : Ref sig .tc := ⟨.hbm, 104, rfl⟩
abbrev main_c_16 : Ref sig .tc := ⟨.hbm, 105, rfl⟩
abbrev main_v60 : Ref sig .tc := ⟨.hbm, 106, rfl⟩
abbrev main_v61 : Ref sig .tc := ⟨.hbm, 107, rfl⟩
abbrev main_cst_17 : Ref sig .tc := ⟨.hbm, 108, rfl⟩
abbrev main_call7_v0 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_18 : Ref sig .tc := ⟨.hbm, 116, rfl⟩
abbrev main_v68 : Ref sig .tc := ⟨.hbm, 117, rfl⟩
abbrev main_v69 : Ref sig .tc := ⟨.hbm, 118, rfl⟩
abbrev main_c_19 : Ref sig .tc := ⟨.hbm, 119, rfl⟩
abbrev main_v70 : Ref sig .tc := ⟨.hbm, 120, rfl⟩
abbrev main_v71 : Ref sig .tc := ⟨.hbm, 121, rfl⟩
abbrev main_cst_20 : Ref sig .tc := ⟨.hbm, 122, rfl⟩
abbrev main_call9_v0 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩

abbrev nD : Nat := 1
abbrev τ : Topo := Topo.v7x

variable {F : FTy → Type} [FloatOps F]
-- ==== KGu.lean ====
abbrev S48x3072 : Shape := ⟨2, ![48, 3072]⟩
abbrev S3072 : Shape := ⟨1, ![3072]⟩
abbrev S16384x768 : Shape := ⟨2, ![16384, 768]⟩
abbrev S16384x192 : Shape := ⟨2, ![16384, 192]⟩
abbrev S16384x24 : Shape := ⟨2, ![16384, 24]⟩
abbrev S192x16384 : Shape := ⟨2, ![192, 16384]⟩
abbrev S24x16384 : Shape := ⟨2, ![24, 16384]⟩
abbrev S1x3072 : Shape := ⟨2, ![1, 3072]⟩
abbrev S48x8192 : Shape := ⟨2, ![48, 8192]⟩
abbrev S512x768 : Shape := ⟨2, ![512, 768]⟩
abbrev S192x512 : Shape := ⟨2, ![192, 512]⟩
abbrev S24x512 : Shape := ⟨2, ![24, 512]⟩
abbrev S48x512 : Shape := ⟨2, ![48, 512]⟩
abbrev S48 : Shape := ⟨1, ![48]⟩
abbrev S48x1 : Shape := ⟨2, ![48, 1]⟩
abbrev S512x512 : Shape := ⟨2, ![512, 512]⟩
abbrev S288x512 : Shape := ⟨2, ![288, 512]⟩
abbrev S512x128 : Shape := ⟨2, ![512, 128]⟩
abbrev S32x512 : Shape := ⟨2, ![32, 512]⟩
abbrev S128x512 : Shape := ⟨2, ![128, 512]⟩
abbrev S16x512 : Shape := ⟨2, ![16, 512]⟩
abbrev S16x1x512 : Shape := ⟨3, ![16, 1, 512]⟩
abbrev S16x8x512 : Shape := ⟨3, ![16, 8, 512]⟩
abbrev S4x512 : Shape := ⟨2, ![4, 512]⟩
abbrev S1x512 : Shape := ⟨2, ![1, 512]⟩

abbrev nBuf : Space → Nat
  | .hbm => 9
  | .vmem => 17
  | .smem => 0
  | _ => 0

abbrev bufTy : (tb : Table) → Fin (tcTables nBuf tb) → BufTy
  | .hbm, ⟨0, _⟩ => ⟨S48x3072, .f32⟩
  | .hbm, ⟨1, _⟩ => ⟨S3072, .f32⟩
  | .hbm, ⟨2, _⟩ => ⟨S16384x768, .i8⟩
  | .hbm, ⟨3, _⟩ => ⟨S16384x192, .i16⟩
  | .hbm, ⟨4, _⟩ => ⟨S16384x24, .f32⟩
  | .hbm, ⟨5, _⟩ => ⟨S192x16384, .i16⟩
  | .hbm, ⟨6, _⟩ => ⟨S24x16384, .f32⟩
  | .hbm, ⟨7, _⟩ => ⟨S1x3072, .f32⟩
  | .hbm, ⟨8, _⟩ => ⟨S48x8192, .bf16⟩
  | .local _ .vmem, ⟨0, _⟩ => ⟨S48x3072, .f32⟩
  | .local _ .vmem, ⟨1, _⟩ => ⟨S1x3072, .f32⟩
  | .local _ .vmem, ⟨2, _⟩ => ⟨S512x768, .i8⟩
  | .local _ .vmem, ⟨3, _⟩ => ⟨S512x768, .i8⟩
  | .local _ .vmem, ⟨4, _⟩ => ⟨S192x512, .i16⟩
  | .local _ .vmem, ⟨5, _⟩ => ⟨S192x512, .i16⟩
  | .local _ .vmem, ⟨6, _⟩ => ⟨S24x512, .f32⟩
  | .local _ .vmem, ⟨7, _⟩ => ⟨S24x512, .f32⟩
  | .local _ .vmem, ⟨8, _⟩ => ⟨S512x768, .i8⟩
  | .local _ .vmem, ⟨9, _⟩ => ⟨S512x768, .i8⟩
  | .local _ .vmem, ⟨10, _⟩ => ⟨S192x512, .i16⟩
  | .local _ .vmem, ⟨11, _⟩ => ⟨S192x512, .i16⟩
  | .local _ .vmem, ⟨12, _⟩ => ⟨S24x512, .f32⟩
  | .local _ .vmem, ⟨13, _⟩ => ⟨S24x512, .f32⟩
  | .local _ .vmem, ⟨14, _⟩ => ⟨S48x512, .bf16⟩
  | .local _ .vmem, ⟨15, _⟩ => ⟨S48x512, .bf16⟩
  | .local _ .vmem, ⟨16, _⟩ => ⟨S48x3072, .bf16⟩
  | _, _ => ⟨S48x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S48x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RGuIdeal.lean ====
abbrev S48x3072 : Shape := ⟨2, ![48, 3072]⟩
abbrev S3072 : Shape := ⟨1, ![3072]⟩
abbrev S16384x768 : Shape := ⟨2, ![16384, 768]⟩
abbrev S16384x192 : Shape := ⟨2, ![16384, 192]⟩
abbrev S16384x24 : Shape := ⟨2, ![16384, 24]⟩
abbrev S_ : Shape := ⟨0, ![]⟩
abbrev S48 : Shape := ⟨1, ![48]⟩
abbrev S48x1 : Shape := ⟨2, ![48, 1]⟩
abbrev S1x3072 : Shape := ⟨2, ![1, 3072]⟩
abbrev S768 : Shape := ⟨1, ![768]⟩
abbrev S16384x192x4 : Shape := ⟨3, ![16384, 192, 4]⟩
abbrev S1x768 : Shape := ⟨2, ![1, 768]⟩
abbrev S16384x24x32 : Shape := ⟨3, ![16384, 24, 32]⟩
abbrev S48x768 : Shape := ⟨2, ![48, 768]⟩
abbrev S48x16384 : Shape := ⟨2, ![48, 16384]⟩
abbrev S48x8192 : Shape := ⟨2, ![48, 8192]⟩

abbrev nBuf : Space → Nat
  | .hbm => 157
  | .vmem => 0
  | .smem => 0
  | _ => 0

abbrev hbmTy0_0 (i : Nat) : BufTy := match i % 128 with
  | 0 => ⟨S48x3072, .f32⟩
  | 1 => ⟨S3072, .f32⟩
  | 2 => ⟨S16384x768, .i8⟩
  | 3 => ⟨S16384x192, .i16⟩
  | 4 => ⟨S16384x24, .f32⟩
  | 5 => ⟨S48x3072, .f32⟩
  | 6 => ⟨S_, .f32⟩
  | 7 => ⟨S48, .f32⟩
  | 8 => ⟨S48x1, .f32⟩
  | 9 => ⟨S_, .f32⟩
  | 10 => ⟨S48x1, .f32⟩
  | 11 => ⟨S48x1, .f32⟩
  | 12 => ⟨S_, .f32⟩
  | 13 => ⟨S48x1, .f32⟩
  | 14 => ⟨S48x1, .f32⟩
  | 15 => ⟨S48x1, .f32⟩
  | 16 => ⟨S48x3072, .f32⟩
  | 17 => ⟨S48x3072, .f32⟩
  | 18 => ⟨S1x3072, .f32⟩
  | 19 => ⟨S48x3072, .f32⟩
  | 20 => ⟨S48x3072, .f32⟩
  | 21 => ⟨S48x3072, .bf16⟩
  | 22 => ⟨S16384x768, .i32⟩
  | 23 => ⟨S_, .i32⟩
  | 24 => ⟨S16384x768, .i32⟩
  | 25 => ⟨S16384x768, .i32⟩
  | 26 => ⟨S_, .i32⟩
  | 27 => ⟨S16384x768, .i32⟩
  | 28 => ⟨S16384x768, .i1⟩
  | 29 => ⟨S_, .i32⟩
  | 30 => ⟨S16384x768, .i32⟩
  | 31 => ⟨S16384x768, .i32⟩
  | 32 => ⟨S16384x768, .i32⟩
  | 33 => ⟨S16384x768, .bf16⟩
  | 34 => ⟨S_, .i32⟩
  | 35 => ⟨S16384x768, .i32⟩
  | 36 => ⟨S16384x768, .i32⟩
  | 37 => ⟨S_, .i32⟩
  | 38 => ⟨S16384x768, .i32⟩
  | 39 => ⟨S16384x768, .i1⟩
  | 40 => ⟨S_, .i32⟩
  | 41 => ⟨S16384x768, .i32⟩
  | 42 => ⟨S16384x768, .i32⟩
  | 43 => ⟨S16384x768, .i32⟩
  | 44 => ⟨S16384x768, .bf16⟩
  | 45 => ⟨S768, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S768, .i32⟩
  | 53 => ⟨S768, .i32⟩
  | 54 => ⟨S_, .i32⟩
  | 55 => ⟨S768, .i32⟩
  | 56 => ⟨S768, .i1⟩
  | 57 => ⟨S_, .i32⟩
  | 58 => ⟨S768, .i32⟩
  | 59 => ⟨S768, .i1⟩
  | 60 => ⟨S_, .i32⟩
  | 61 => ⟨S_, .i1⟩
  | 62 => ⟨S768, .i1⟩
  | 63 => ⟨S768, .i1⟩
  | 64 => ⟨S768, .i1⟩
  | 65 => ⟨S768, .i32⟩
  | 66 => ⟨S768, .i32⟩
  | 67 => ⟨S768, .i32⟩
  | 68 => ⟨S_, .i32⟩
  | 69 => ⟨S768, .i32⟩
  | 70 => ⟨S768, .i32⟩
  | 71 => ⟨S16384x192, .i32⟩
  | 72 => ⟨S16384x192x4, .i32⟩
  | 73 => ⟨S16384x768, .i32⟩
  | 74 => ⟨S1x768, .i32⟩
  | 75 => ⟨S16384x768, .i32⟩
  | 76 => ⟨S16384x768, .i32⟩
  | 77 => ⟨S_, .i32⟩
  | 78 => ⟨S16384x768, .i32⟩
  | 79 => ⟨S16384x768, .i32⟩
  | 80 => ⟨S_, .i32⟩
  | 81 => ⟨S16384x768, .i32⟩
  | 82 => ⟨S16384x768, .i32⟩
  | 83 => ⟨S_, .i32⟩
  | 84 => ⟨S16384x768, .i32⟩
  | 85 => ⟨S16384x768, .i32⟩
  | 86 => ⟨S16384x24x32, .f32⟩
  | 87 => ⟨S16384x768, .f32⟩
  | 88 => ⟨S16384x768, .bf16⟩
  | 89 => ⟨S_, .i32⟩
  | 90 => ⟨S16384x768, .i32⟩
  | 91 => ⟨S16384x768, .i1⟩
  | 92 => ⟨S_, .i32⟩
  | 93 => ⟨S16384x768, .i32⟩
  | 94 => ⟨S16384x768, .i1⟩
  | 95 => ⟨S_, .bf16⟩
  | 96 => ⟨S16384x768, .bf16⟩
  | 97 => ⟨S16384x768, .bf16⟩
  | 98 => ⟨S16384x768, .bf16⟩
  | 99 => ⟨S16384x768, .bf16⟩
  | 100 => ⟨S48x768, .bf16⟩
  | 101 => ⟨S48x16384, .f32⟩
  | 102 => ⟨S_, .i32⟩
  | 103 => ⟨S16384x768, .i32⟩
  | 104 => ⟨S16384x768, .i1⟩
  | 105 => ⟨S_, .i32⟩
  | 106 => ⟨S16384x768, .i32⟩
  | 107 => ⟨S16384x768, .i1⟩
  | 108 => ⟨S_, .bf16⟩
  | 109 => ⟨S16384x768, .bf16⟩
  | 110 => ⟨S16384x768, .bf16⟩
  | 111 => ⟨S16384x768, .bf16⟩
  | 112 => ⟨S16384x768, .bf16⟩
  | 113 => ⟨S48x768, .bf16⟩
  | 114 => ⟨S48x16384, .f32⟩
  | 115 => ⟨S48x16384, .f32⟩
  | 116 => ⟨S_, .i32⟩
  | 117 => ⟨S16384x768, .i32⟩
  | 118 => ⟨S16384x768, .i1⟩
  | 119 => ⟨S_, .i32⟩
  | 120 => ⟨S16384x768, .i32⟩
  | 121 => ⟨S16384x768, .i1⟩
  | 122 => ⟨S_, .bf16⟩
  | 123 => ⟨S16384x768, .bf16⟩
  | 124 => ⟨S16384x768, .bf16⟩
  | 125 => ⟨S16384x768, .bf16⟩
  | 126 => ⟨S16384x768, .bf16⟩
  | 127 => ⟨S48x768, .bf16⟩
  | _ => ⟨S48x3072, .f32⟩

abbrev hbmTy0_1 (i : Nat) : BufTy := match i % 128 with
  | 0 => ⟨S48x16384, .f32⟩
  | 1 => ⟨S48x16384, .f32⟩
  | 2 => ⟨S_, .i32⟩
  | 3 => ⟨S16384x768, .i32⟩
  | 4 => ⟨S16384x768, .i1⟩
  | 5 => ⟨S_, .i32⟩
  | 6 => ⟨S16384x768, .i32⟩
  | 7 => ⟨S16384x768, .i1⟩
  | 8 => ⟨S_, .bf16⟩
  | 9 => ⟨S16384x768, .bf16⟩
  | 10 => ⟨S16384x768, .bf16⟩
  | 11 => ⟨S16384x768, .bf16⟩
  | 12 => ⟨S16384x768, .bf16⟩
  | 13 => ⟨S48x768, .bf16⟩
  | 14 => ⟨S48x16384, .f32⟩
  | 15 => ⟨S48x16384, .f32⟩
  | 16 => ⟨S48x8192, .f32⟩
  | 17 => ⟨S48x8192, .f32⟩
  | 18 => ⟨S48x8192, .f32⟩
  | 19 => ⟨S_, .f32⟩
  | 20 => ⟨S48x8192, .f32⟩
  | 21 => ⟨S48x8192, .f32⟩
  | 22 => ⟨S_, .f32⟩
  | 23 => ⟨S48x8192, .f32⟩
  | 24 => ⟨S48x8192, .f32⟩
  | 25 => ⟨S48x8192, .f32⟩
  | 26 => ⟨S48x8192, .f32⟩
  | 27 => ⟨S48x8192, .f32⟩
  | 28 => ⟨S48x8192, .bf16⟩
  | _ => ⟨S48x3072, .f32⟩

abbrev hbmTy (i : Nat) : BufTy := match i / 128 with
  | 0 => hbmTy0_0 i
  | 1 => hbmTy0_1 i
  | _ => ⟨S48x3072, .f32⟩

abbrev bufTy : (tb : Table) → Fin (tcTables nBuf tb) → BufTy
  | .hbm, ⟨i, _⟩ => hbmTy i
  | _, _ => ⟨S48x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v32 : Ref sig .tc := ⟨.hbm, 67, rfl⟩
abbrev main_c_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_9 : Ref sig .tc := ⟨.hbm, 77, rfl⟩
abbrev main_v41 : Ref sig .tc := ⟨.hbm, 78, rfl⟩
abbrev main_v42 : Ref sig .tc := ⟨.hbm, 79, rfl⟩
abbrev main_c_10 : Ref sig .tc := ⟨.hbm, 80, rfl⟩
abbrev main_v43 : Ref sig .tc := ⟨.hbm, 81, rfl⟩
abbrev main_v44 : Ref sig .tc := ⟨.hbm, 82, rfl⟩
abbrev main_c_11 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_12 : Ref sig .tc := ⟨.hbm, 89, rfl⟩
abbrev main_v50 : Ref sig .tc := ⟨.hbm, 90, rfl⟩
abbrev main_v51 : Ref sig .tc := ⟨.hbm, 91, rfl⟩
abbrev main_c_13 : Ref sig .tc := ⟨.hbm, 92, rfl⟩
abbrev main_v52 : Ref sig .tc := ⟨.hbm, 93, rfl⟩
abbrev main_v53 : Ref sig .tc := ⟨.hbm, 94, rfl⟩
abbrev main_cst_14 : Ref sig .tc := ⟨.hbm, 95, rfl⟩
abbrev main_call3_v0 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c_15 : Ref sig .tc := ⟨.hbm, 102, rfl⟩
abbrev main_v59 : Ref sig .tc := ⟨.hbm, 103, rfl⟩
abbrev main_v60 : Ref sig .tc := ⟨.hbm, 104, rfl⟩
abbrev main_c_16 : Ref sig .tc := ⟨.hbm, 105, rfl⟩
abbrev main_v61 : Ref sig .tc := ⟨.hbm, 106, rfl⟩
abbrev main_v62 : Ref sig .tc := ⟨.hbm, 107, rfl⟩
abbrev main_cst_17 : Ref sig .tc := ⟨.hbm, 108, rfl⟩
abbrev main_call5_v0 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_18 : Ref sig .tc := ⟨.hbm, 116, rfl⟩
abbrev main_v69 : Ref sig .tc := ⟨.hbm, 117, rfl⟩
abbrev main_v70 : Ref sig .tc := ⟨.hbm, 118, rfl⟩
abbrev main_c_19 : Ref sig .tc := ⟨.hbm, 119, rfl⟩
abbrev main_v71 : Ref sig .tc := ⟨.hbm, 120, rfl⟩
abbrev main_v72 : Ref sig .tc := ⟨.hbm, 121, rfl⟩
abbrev main_cst_20 : Ref sig .tc := ⟨.hbm, 122, rfl⟩
abbrev main_call7_v0 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_21 : Ref sig .tc := ⟨.hbm, 130, rfl⟩
abbrev main_v79 : Ref sig .tc := ⟨.hbm, 131, rfl⟩
abbrev main_v80 : Ref sig .tc := ⟨.hbm, 132, rfl⟩
abbrev main_c_22 : Ref sig .tc := ⟨.hbm, 133, rfl⟩
abbrev main_v81 : Ref sig .tc := ⟨.hbm, 134, rfl⟩
abbrev main_v82 : Ref sig .tc := ⟨.hbm, 135, rfl⟩
abbrev main_cst_23 : Ref sig .tc := ⟨.hbm, 136, rfl⟩
abbrev main_call9_v0 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_call11_v0 : Ref sig .tc := ⟨.hbm, 145, rfl⟩
abbrev main_call11_v1 : Ref sig .tc := ⟨.hbm, 146, rfl⟩
abbrev main_call11_cst : Ref sig .tc := ⟨.hbm, 147, rfl⟩
abbrev main_call11_v2 : Ref sig .tc := ⟨.hbm, 148, rfl⟩
abbrev main_call11_v3 : Ref sig .tc := ⟨.hbm, 149, rfl⟩
abbrev main_call11_cst_0 : Ref sig .tc := ⟨.hbm, 150, rfl⟩
abbrev main_call11_v4 : Ref sig .tc := ⟨.hbm, 151, rfl⟩
abbrev main_call11_v5 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩

abbrev nD : Nat := 1
abbrev τ : Topo := Topo.v7x

variable {F : FTy → Type} [FloatOps F]
-- ==== KWd.lean ====
abbrev S48x8192 : Shape := ⟨2, ![48, 8192]⟩
abbrev S48x3072 : Shape := ⟨2, ![48, 3072]⟩
abbrev S3072x2048 : Shape := ⟨2, ![3072, 2048]⟩
abbrev S3072x512 : Shape := ⟨2, ![3072, 512]⟩
abbrev S3072x64 : Shape := ⟨2, ![3072, 64]⟩
abbrev S64x3072 : Shape := ⟨2, ![64, 3072]⟩
abbrev S48x256 : Shape := ⟨2, ![48, 256]⟩
abbrev S256x2048 : Shape := ⟨2, ![256, 2048]⟩
abbrev S256x512 : Shape := ⟨2, ![256, 512]⟩
abbrev S64x256 : Shape := ⟨2, ![64, 256]⟩
abbrev S512x256 : Shape := ⟨2, ![512, 256]⟩
abbrev S512x512 : Shape := ⟨2, ![512, 512]⟩
abbrev S48x512 : Shape := ⟨2, ![48, 512]⟩
abbrev S768x512 : Shape := ⟨2, ![768, 512]⟩
abbrev S256x128 : Shape := ⟨2, ![256, 128]⟩
abbrev S32x256 : Shape := ⟨2, ![32, 256]⟩
abbrev S128x256 : Shape := ⟨2, ![128, 256]⟩
abbrev S16x256 : Shape := ⟨2, ![16, 256]⟩
abbrev S16x1x256 : Shape := ⟨3, ![16, 1, 256]⟩
abbrev S16x8x256 : Shape := ⟨3, ![16, 8, 256]⟩
abbrev S4x256 : Shape := ⟨2, ![4, 256]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S48x8192, .bf16⟩
  | .hbm, ⟨1, _⟩ => ⟨S48x3072, .f32⟩
  | .hbm, ⟨2, _⟩ => ⟨S3072x2048, .i8⟩
  | .hbm, ⟨3, _⟩ => ⟨S3072x512, .i16⟩
  | .hbm, ⟨4, _⟩ => ⟨S3072x64, .f32⟩
  | .hbm, ⟨5, _⟩ => ⟨S64x3072, .f32⟩
  | .hbm, ⟨6, _⟩ => ⟨S48x3072, .bf16⟩
  | .local _ .vmem, ⟨0, _⟩ => ⟨S48x8192, .bf16⟩
  | .local _ .vmem, ⟨1, _⟩ => ⟨S48x256, .f32⟩
  | .local _ .vmem, ⟨2, _⟩ => ⟨S48x256, .f32⟩
  | .local _ .vmem, ⟨3, _⟩ => ⟨S256x2048, .i8⟩
  | .local _ .vmem, ⟨4, _⟩ => ⟨S256x2048, .i8⟩
  | .local _ .vmem, ⟨5, _⟩ => ⟨S256x512, .i16⟩
  | .local _ .vmem, ⟨6, _⟩ => ⟨S256x512, .i16⟩
  | .local _ .vmem, ⟨7, _⟩ => ⟨S64x256, .f32⟩
  | .local _ .vmem, ⟨8, _⟩ => ⟨S64x256, .f32⟩
  | .local _ .vmem, ⟨9, _⟩ => ⟨S48x256, .bf16⟩
  | .local _ .vmem, ⟨10, _⟩ => ⟨S48x256, .bf16⟩
  | .local _ .vmem, ⟨11, _⟩ => ⟨S48x8192, .bf16⟩
  | .local _ .vmem, ⟨12, _⟩ => ⟨S512x256, .i16⟩
  | _, _ => ⟨S48x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S48x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RWdIdeal.lean ====
abbrev S48x8192 : Shape := ⟨2, ![48, 8192]⟩
abbrev S48x3072 : Shape := ⟨2, ![48, 3072]⟩
abbrev S3072x2048 : Shape := ⟨2, ![3072, 2048]⟩
abbrev S3072x512 : Shape := ⟨2, ![3072, 512]⟩
abbrev S3072x64 : Shape := ⟨2, ![3072, 64]⟩
abbrev S_ : Shape := ⟨0, ![]⟩
abbrev S2048 : Shape := ⟨1, ![2048]⟩
abbrev S3072x512x4 : Shape := ⟨3, ![3072, 512, 4]⟩
abbrev S1x2048 : Shape := ⟨2, ![1, 2048]⟩
abbrev S3072x64x32 : Shape := ⟨3, ![3072, 64, 32]⟩
abbrev S48x2048 : Shape := ⟨2, ![48, 2048]⟩

abbrev nBuf : Space → Nat
  | .hbm => 129
  | .vmem => 0
  | .smem => 0
  | _ => 0

abbrev hbmTy0_0 (i : Nat) : BufTy := match i % 128 with
  | 0 => ⟨S48x8192, .bf16⟩
  | 1 => ⟨S48x3072, .f32⟩
  | 2 => ⟨S3072x2048, .i8⟩
  | 3 => ⟨S3072x512, .i16⟩
  | 4 => ⟨S3072x64, .f32⟩
  | 5 => ⟨S3072x2048, .i32⟩
  | 6 => ⟨S_, .i32⟩
  | 7 => ⟨S3072x2048, .i32⟩
  | 8 => ⟨S3072x2048, .i32⟩
  | 9 => ⟨S_, .i32⟩
  | 10 => ⟨S3072x2048, .i32⟩
  | 11 => ⟨S3072x2048, .i1⟩
  | 12 => ⟨S_, .i32⟩
  | 13 => ⟨S3072x2048, .i32⟩
  | 14 => ⟨S3072x2048, .i32⟩
  | 15 => ⟨S3072x2048, .i32⟩
  | 16 => ⟨S3072x2048, .bf16⟩
  | 17 => ⟨S_, .i32⟩
  | 18 => ⟨S3072x2048, .i32⟩
  | 19 => ⟨S3072x2048, .i32⟩
  | 20 => ⟨S_, .i32⟩
  | 21 => ⟨S3072x2048, .i32⟩
  | 22 => ⟨S3072x2048, .i1⟩
  | 23 => ⟨S_, .i32⟩
  | 24 => ⟨S3072x2048, .i32⟩
  | 25 => ⟨S3072x2048, .i32⟩
  | 26 => ⟨S3072x2048, .i32⟩
  | 27 => ⟨S3072x2048, .bf16⟩
  | 28 => ⟨S2048, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i1⟩
  | 43 => ⟨S_, .i32⟩
  | 44 => ⟨S_, .i1⟩
  | 45 => ⟨S2048, .i1⟩
  | 46 => ⟨S2048, .i1⟩
  | 47 => ⟨S2048, .i1⟩
  | 48 => ⟨S2048, .i32⟩
  | 49 => ⟨S2048, .i32⟩
  | 50 => ⟨S2048, .i32⟩
  | 51 => ⟨S_, .i32⟩
  | 52 => ⟨S2048, .i32⟩
  | 53 => ⟨S2048, .i32⟩
  | 54 => ⟨S3072x512, .i32⟩
  | 55 => ⟨S3072x512x4, .i32⟩
  | 56 => ⟨S3072x2048, .i32⟩
  | 57 => ⟨S1x2048, .i32⟩
  | 58 => ⟨S3072x2048, .i32⟩
  | 59 => ⟨S3072x2048, .i32⟩
  | 60 => ⟨S_, .i32⟩
  | 61 => ⟨S3072x2048, .i32⟩
  | 62 => ⟨S3072x2048, .i32⟩
  | 63 => ⟨S_, .i32⟩
  | 64 => ⟨S3072x2048, .i32⟩
  | 65 => ⟨S3072x2048, .i32⟩
  | 66 => ⟨S_, .i32⟩
  | 67 => ⟨S3072x2048, .i32⟩
  | 68 => ⟨S3072x2048, .i32⟩
  | 69 => ⟨S3072x64x32, .f32⟩
  | 70 => ⟨S3072x2048, .f32⟩
  | 71 => ⟨S3072x2048, .bf16⟩
  | 72 => ⟨S_, .i32⟩
  | 73 => ⟨S3072x2048, .i32⟩
  | 74 => ⟨S3072x2048, .i1⟩
  | 75 => ⟨S_, .i32⟩
  | 76 => ⟨S3072x2048, .i32⟩
  | 77 => ⟨S3072x2048, .i1⟩
  | 78 => ⟨S_, .bf16⟩
  | 79 => ⟨S3072x2048, .bf16⟩
  | 80 => ⟨S3072x2048, .bf16⟩
  | 81 => ⟨S3072x2048, .bf16⟩
  | 82 => ⟨S3072x2048, .bf16⟩
  | 83 => ⟨S48x2048, .bf16⟩
  | 84 => ⟨S48x3072, .f32⟩
  | 85 => ⟨S_, .i32⟩
  | 86 => ⟨S3072x2048, .i32⟩
  | 87 => ⟨S3072x2048, .i1⟩
  | 88 => ⟨S_, .i32⟩
  | 89 => ⟨S3072x2048, .i32⟩
  | 90 => ⟨S3072x2048, .i1⟩
  | 91 => ⟨S_, .bf16⟩
  | 92 => ⟨S3072x2048, .bf16⟩
  | 93 => ⟨S3072x2048, .bf16⟩
  | 94 => ⟨S3072x2048, .bf16⟩
  | 95 => ⟨S3072x2048, .bf16⟩
  | 96 => ⟨S48x2048, .bf16⟩
  | 97 => ⟨S48x3072, .f32⟩
  | 98 => ⟨S48x3072, .f32⟩
  | 99 => ⟨S_, .i32⟩
  | 100 => ⟨S3072x2048, .i32⟩
  | 101 => ⟨S3072x2048, .i1⟩
  | 102 => ⟨S_, .i32⟩
  | 103 => ⟨S3072x2048, .i32⟩
  | 104 => ⟨S3072x2048, .i1⟩
  | 105 => ⟨S_, .bf16⟩
  | 106 => ⟨S3072x2048, .bf16⟩
  | 107 => ⟨S3072x2048, .bf16⟩
  | 108 => ⟨S3072x2048, .bf16⟩
  | 109 => ⟨S3072x2048, .bf16⟩
  | 110 => ⟨S48x2048, .bf16⟩
  | 111 => ⟨S48x3072, .f32⟩
  | 112 => ⟨S48x3072, .f32⟩
  | 113 => ⟨S_, .i32⟩
  | 114 => ⟨S3072x2048, .i32⟩
  | 115 => ⟨S3072x2048, .i1⟩
  | 116 => ⟨S_, .i32⟩
  | 117 => ⟨S3072x2048, .i32⟩
  | 118 => ⟨S3072x2048, .i1⟩
  | 119 => ⟨S_, .bf16⟩
  | 120 => ⟨S3072x2048, .bf16⟩
  | 121 => ⟨S3072x2048, .bf16⟩
  | 122 => ⟨S3072x2048, .bf16⟩
  | 123 => ⟨S3072x2048, .bf16⟩
  | 124 => ⟨S48x2048, .bf16⟩
  | 125 => ⟨S48x3072, .f32⟩
  | 126 => ⟨S48x3072, .f32⟩
  | 127 => ⟨S48x3072, .f32⟩
  | _ => ⟨S48x8192, .bf16⟩

abbrev hbmTy0_1 (i : Nat) : BufTy := match i % 128 with
  | 0 => ⟨S48x3072, .bf16⟩
  | _ => ⟨S48x8192, .bf16⟩

abbrev hbmTy (i : Nat) : BufTy := match i / 128 with
  | 0 => hbmTy0_0 i
  | 1 => hbmTy0_1 i
  | _ => ⟨S48x8192, .bf16⟩

abbrev bufTy : (tb : Table) → Fin (tcTables nBuf tb) → BufTy
  | .hbm, ⟨i, _⟩ => hbmTy i
  | _, _ => ⟨S48x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_call2_v0 : Ref sig .tc := ⟨.hbm, 30, rfl⟩
abbrev main_call2_c : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_c_1 : Ref sig .tc := ⟨.hbm, 37, rfl⟩
abbrev main_call2_v5 : Ref sig .tc := ⟨.hbm, 38, rfl⟩
abbrev main_call2_v6 : Ref sig .tc := ⟨.hbm, 39, rfl⟩
abbrev main_call2_c_2 : Ref sig .tc := ⟨.hbm, 40, rfl⟩
abbrev main_call2_v7 : Ref sig .tc := ⟨.hbm, 41, rfl⟩
abbrev main_call2_v8 : Ref sig .tc := ⟨.hbm, 42, rfl⟩
abbrev main_call2_c_3 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_7 : Ref sig .tc := ⟨.hbm, 60, rfl⟩
abbrev main_v27 : Ref sig .tc := ⟨.hbm, 61, rfl⟩
abbrev main_v28 : Ref sig .tc := ⟨.hbm, 62, rfl⟩
abbrev main_c_8 : Ref sig .tc := ⟨.hbm, 63, rfl⟩
abbrev main_v29 : Ref sig .tc := ⟨.hbm, 64, rfl⟩
abbrev main_v30 : Ref sig .tc := ⟨.hbm, 65, rfl⟩
abbrev main_c_9 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_10 : Ref sig .tc := ⟨.hbm, 72, rfl⟩
abbrev main_v36 : Ref sig .tc := ⟨.hbm, 73, rfl⟩
abbrev main_v37 : Ref sig .tc := ⟨.hbm, 74, rfl⟩
abbrev main_c_11 : Ref sig .tc := ⟨.hbm, 75, rfl⟩
abbrev main_v38 : Ref sig .tc := ⟨.hbm, 76, rfl⟩
abbrev main_v39 : Ref sig .tc := ⟨.hbm, 77, rfl⟩
abbrev main_cst : Ref sig .tc := ⟨.hbm, 78, rfl⟩
abbrev main_call3_v0 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_12 : Ref sig .tc := ⟨.hbm, 85, rfl⟩
abbrev main_v45 : Ref sig .tc := ⟨.hbm, 86, rfl⟩
abbrev main_v46 : Ref sig .tc := ⟨.hbm, 87, rfl⟩
abbrev main_c_13 : Ref sig .tc := ⟨.hbm, 88, rfl⟩
abbrev main_v47 : Ref sig .tc := ⟨.hbm, 89, rfl⟩
abbrev main_v48 : Ref sig .tc := ⟨.hbm, 90, rfl⟩
abbrev main_cst_14 : Ref sig .tc := ⟨.hbm, 91, rfl⟩
abbrev main_call5_v0 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_15 : Ref sig .tc := ⟨.hbm, 99, rfl⟩
abbrev main_v55 : Ref sig .tc := ⟨.hbm, 100, rfl⟩
abbrev main_v56 : Ref sig .tc := ⟨.hbm, 101, rfl⟩
abbrev main_c_16 : Ref sig .tc := ⟨.hbm, 102, rfl⟩
abbrev main_v57 : Ref sig .tc := ⟨.hbm, 103, rfl⟩
abbrev main_v58 : Ref sig .tc := ⟨.hbm, 104, rfl⟩
abbrev main_cst_17 : Ref sig .tc := ⟨.hbm, 105, rfl⟩
abbrev main_call7_v0 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_18 : Ref sig .tc := ⟨.hbm, 113, rfl⟩
abbrev main_v65 : Ref sig .tc := ⟨.hbm, 114, rfl⟩
abbrev main_v66 : Ref sig .tc := ⟨.hbm, 115, rfl⟩
abbrev main_c_19 : Ref sig .tc := ⟨.hbm, 116, rfl⟩
abbrev main_v67 : Ref sig .tc := ⟨.hbm, 117, rfl⟩
abbrev main_v68 : Ref sig .tc := ⟨.hbm, 118, rfl⟩
abbrev main_cst_20 : Ref sig .tc := ⟨.hbm, 119, rfl⟩
abbrev main_call9_v0 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩

abbrev nD : Nat := 1
abbrev τ : Topo := Topo.v7x

variable {F : FTy → Type} [FloatOps F]
-- ==== KQkv.lean ====
abbrev S48x1x3072 : Shape := ⟨3, ![48, 1, 3072]⟩
abbrev S3072 : Shape := ⟨1, ![3072]⟩
abbrev S5120x768 : Shape := ⟨2, ![5120, 768]⟩
abbrev S5120x192 : Shape := ⟨2, ![5120, 192]⟩
abbrev S5120x24 : Shape := ⟨2, ![5120, 24]⟩
abbrev S48x1x64 : Shape := ⟨3, ![48, 1, 64]⟩
abbrev S8 : Shape := ⟨1, ![8]⟩
abbrev S48x3072 : Shape := ⟨2, ![48, 3072]⟩
abbrev S48x1x128 : Shape := ⟨3, ![48, 1, 128]⟩
abbrev S48x128 : Shape := ⟨2, ![48, 128]⟩
abbrev S1x3072 : Shape := ⟨2, ![1, 3072]⟩
abbrev S192x5120 : Shape := ⟨2, ![192, 5120]⟩
abbrev S24x5120 : Shape := ⟨2, ![24, 5120]⟩
abbrev S48x2048 : Shape := ⟨2, ![48, 2048]⟩
abbrev S512x768 : Shape := ⟨2, ![512, 768]⟩
abbrev S192x512 : Shape := ⟨2, ![192, 512]⟩
abbrev S24x512 : Shape := ⟨2, ![24, 512]⟩
abbrev S48x512 : Shape := ⟨2, ![48, 512]⟩
abbrev S48 : Shape := ⟨1, ![48]⟩
abbrev S48x1 : Shape := ⟨2, ![48, 1]⟩
abbrev S512x512 : Shape := ⟨2, ![512, 512]⟩
abbrev S288x512 : Shape := ⟨2, ![288, 512]⟩
abbrev S512x128 : Shape := ⟨2, ![512, 128]⟩
abbrev S32x512 : Shape := ⟨2, ![32, 512]⟩
abbrev S128x512 : Shape := ⟨2, ![128, 512]⟩
abbrev S16x512 : Shape := ⟨2, ![16, 512]⟩
abbrev S16x1x512 : Shape := ⟨3, ![16, 1, 512]⟩
abbrev S16x8x512 : Shape := ⟨3, ![16, 8, 512]⟩
abbrev S4x512 : Shape := ⟨2, ![4, 512]⟩
abbrev S1x512 : Shape := ⟨2, ![1, 512]⟩
abbrev S1 : Shape := ⟨1, ![1]⟩

abbrev nBuf : Space → Nat
  | .hbm => 20
  | .vmem => 15
  | .smem => 2
  | _ => 0

abbrev bufTy : (tb : Table) → Fin (tcTables nBuf tb) → BufTy
  | .hbm, ⟨0, _⟩ => ⟨S48x1x3072, .bf16⟩
  | .hbm, ⟨1, _⟩ => ⟨S3072, .f32⟩
  | .hbm, ⟨2, _⟩ => ⟨S5120x768, .i8⟩
  | .hbm, ⟨3, _⟩ => ⟨S5120x192, .i16⟩
  | .hbm, ⟨4, _⟩ => ⟨S5120x24, .f32⟩
  | .hbm, ⟨5, _⟩ => ⟨S48x1x64, .f32⟩
  | .hbm, ⟨6, _⟩ => ⟨S48x1x64, .f32⟩
  | .hbm, ⟨7, _⟩ => ⟨S8, .f32⟩
  | .hbm, ⟨8, _⟩ => ⟨S8, .f32⟩
  | .hbm, ⟨9, _⟩ => ⟨S48x3072, .bf16⟩
  | .hbm, ⟨10, _⟩ => ⟨S48x1x128, .f32⟩
  | .hbm, ⟨11, _⟩ => ⟨S48x128, .f32⟩
  | .hbm, ⟨12, _⟩ => ⟨S48x1x64, .f32⟩
  | .hbm, ⟨13, _⟩ => ⟨S48x1x128, .f32⟩
  | .hbm, ⟨14, _⟩ => ⟨S48x128, .f32⟩
  | .hbm, ⟨15, _⟩ => ⟨S1x3072, .f32⟩
  | .hbm, ⟨16, _⟩ => ⟨S192x5120, .i16⟩
  | .hbm, ⟨17, _⟩ => ⟨S24x5120, .f32⟩
  | .hbm, ⟨18, _⟩ => ⟨S48x3072, .bf16⟩
  | .hbm, ⟨19, _⟩ => ⟨S48x2048, .fp8e4m3⟩
  | .local _ .vmem, ⟨0, _⟩ => ⟨S48x3072, .bf16⟩
  | .local _ .vmem, ⟨1, _⟩ => ⟨S1x3072, .f32⟩
  | .local _ .vmem, ⟨2, _⟩ => ⟨S512x768, .i8⟩
  | .local _ .vmem, ⟨3, _⟩ => ⟨S512x768, .i8⟩
  | .local _ .vmem, ⟨4, _⟩ => ⟨S192x512, .i16⟩
  | .local _ .vmem, ⟨5, _⟩ => ⟨S192x512, .i16⟩
  | .local _ .vmem, ⟨6, _⟩ => ⟨S24x512, .f32⟩
  | .local _ .vmem, ⟨7, _⟩ => ⟨S24x512, .f32⟩
  | .local _ .vmem, ⟨8, _⟩ => ⟨S48x128, .f32⟩
  | .local _ .vmem, ⟨9, _⟩ => ⟨S48x128, .f32⟩
  | .local _ .vmem, ⟨10, _⟩ => ⟨S48x512, .bf16⟩
  | .local _ .vmem, ⟨11, _⟩ => ⟨S48x512, .bf16⟩
  | .local _ .vmem, ⟨12, _⟩ => ⟨S48x512, .fp8e4m3⟩
  | .local _ .vmem, ⟨13, _⟩ => ⟨S48x512, .fp8e4m3⟩
  | .local _ .vmem, ⟨14, _⟩ => ⟨S48x3072, .bf16⟩
  | .local _ .smem, ⟨0, _⟩ => ⟨S8, .f32⟩
  | .local _ .smem, ⟨1, _⟩ => ⟨S8, .f32⟩
  | _, _ => ⟨S48x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![10], ![false]⟩

def k0_cond3 (i : grid0.Coords) : BitVec 1 :=
  let arg0 : BitVec 32 := BitVec.ofNat 32 (i 0).val
  let c6_i32_167 : BitVec 32 := 6#32
  let v737 : BitVec 1 := Scalar.cmpi .sge arg0 c6_i32_167
  let c8_i32 : BitVec 32 := 8#32
  let v738 : BitVec 1 := Scalar.cmpi .slt arg0 c8_i32
  let v739 : BitVec 1 := Scalar.andi v737 v738
  let v740 : BitVec 32 := Scalar.extui v739
  let c0_i32_168 : BitVec 32 := 0#32
  let v741 : BitVec 1 := Scalar.cmpi .ne v740 c0_i32_168
  v741

def k0_off1 (i : grid0.Coords) (c0_i32_177 : BitVec 32) : Fin 1 → Nat :=
  let arg0 : BitVec 32 := BitVec.ofNat 32 (i 0).val
  let c6_i32_175 : BitVec 32 := 6#32
  let v754 : BitVec 32 := Scalar.subi arg0 c6_i32_175
  let c4_i32_176 : BitVec 32 := 4#32
  let v755 : BitVec 32 := Scalar.muli v754 c4_i32_176
  let v756 : BitVec 32 := Scalar.addi v755 c0_i32_177
  let v757 : Index := Scalar.indexCast v756
  ![v757.toNat]
def k0_cond4 (i : grid0.Coords) : BitVec 1 :=
  let arg0 : BitVec 32 := BitVec.ofNat 32 (i 0).val
  let c8_i32_169 : BitVec 32 := 8#32
  let v742 : BitVec 1 := Scalar.cmpi .sge arg0 c8_i32_169
  let v743 : BitVec 32 := Scalar.extui v742
  let c0_i32_170 : BitVec 32 := 0#32
  let v744 : BitVec 1 := Scalar.cmpi .ne v743 c0_i32_170
  v744

def k0_off2 (i : grid0.Coords) (c0_i32_174 : BitVec 32) : Fin 1 → Nat :=
  let arg0 : BitVec 32 := BitVec.ofNat 32 (i 0).val
  let c6_i32_171 : BitVec 32 := 6#32
  let v746 : BitVec 32 := Scalar.subi arg0 c6_i32_171
  let c2_i32_172 : BitVec 32 := 2#32
  let v747 : BitVec 32 := Scalar.subi v746 c2_i32_172
  let c4_i32_173 : BitVec 32 := 4#32
  let v748 : BitVec 32 := Scalar.muli v747 c4_i32_173
  let v749 : BitVec 32 := Scalar.addi v748 c0_i32_174
  let v750 : Index := Scalar.indexCast v749
  ![v750.toNat]
def k0_cond2 (i : grid0.Coords) : BitVec 1 :=
  let arg0 : BitVec 32 := BitVec.ofNat 32 (i 0).val
  let c6_i32 : BitVec 32 := 6#32
  let v734 : BitVec 1 := Scalar.cmpi .slt arg0 c6_i32
  let v735 : BitVec 32 := Scalar.extui v734
  let c0_i32_166 : BitVec 32 := 0#32
  let v736 : BitVec 1 := Scalar.cmpi .ne v735 c0_i32_166
  v736

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S48x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S48x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S48x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RQkvIdeal.lean ====
abbrev S48x1x3072 : Shape := ⟨3, ![48, 1, 3072]⟩
abbrev S3072 : Shape := ⟨1, ![3072]⟩
abbrev S5120x768 : Shape := ⟨2, ![5120, 768]⟩
abbrev S5120x192 : Shape := ⟨2, ![5120, 192]⟩
abbrev S5120x24 : Shape := ⟨2, ![5120, 24]⟩
abbrev S48x1x64 : Shape := ⟨3, ![48, 1, 64]⟩
abbrev S8 : Shape := ⟨1, ![8]⟩
abbrev S48x1x1x64 : Shape := ⟨4, ![48, 1, 1, 64]⟩
abbrev S48x3072 : Shape := ⟨2, ![48, 3072]⟩
abbrev S_ : Shape := ⟨0, ![]⟩
abbrev S48 : Shape := ⟨1, ![48]⟩
abbrev S48x1 : Shape := ⟨2, ![48, 1]⟩
abbrev S1x3072 : Shape := ⟨2, ![1, 3072]⟩
abbrev S768 : Shape := ⟨1, ![768]⟩
abbrev S5120x192x4 : Shape := ⟨3, ![5120, 192, 4]⟩
abbrev S1x768 : Shape := ⟨2, ![1, 768]⟩
abbrev S5120x24x32 : Shape := ⟨3, ![5120, 24, 32]⟩
abbrev S48x768 : Shape := ⟨2, ![48, 768]⟩
abbrev S48x5120 : Shape := ⟨2, ![48, 5120]⟩
abbrev S48x1024 : Shape := ⟨2, ![48, 1024]⟩
abbrev S48x1x8x128 : Shape := ⟨4, ![48, 1, 8, 128]⟩
abbrev S48x1x8x64 : Shape := ⟨4, ![48, 1, 8, 64]⟩
abbrev S8x1 : Shape := ⟨2, ![8, 1]⟩
abbrev S1x1x8x1 : Shape := ⟨4, ![1, 1, 8, 1]⟩
abbrev S48x2048 : Shape := ⟨2, ![48, 2048]⟩

abbrev nBuf : Space → Nat
  | .hbm => 197
  | .vmem => 2
  | .smem => 0
  | _ => 0

abbrev hbmTy0_0 (i : Nat) : BufTy := match i % 128 with
  | 0 => ⟨S48x1x3072, .bf16⟩
  | 1 => ⟨S3072, .f32⟩
  | 2 => ⟨S5120x768, .i8⟩
  | 3 => ⟨S5120x192, .i16⟩
  | 4 => ⟨S5120x24, .f32⟩
  | 5 => ⟨S48x1x64, .f32⟩
  | 6 => ⟨S48x1x64, .f32⟩
  | 7 => ⟨S8, .f32⟩
  | 8 => ⟨S8, .f32⟩
  | 9 => ⟨S48x1x1x64, .f32⟩
  | 10 => ⟨S48x1x1x64, .f32⟩
  | 11 => ⟨S48x1x3072, .f32⟩
  | 12 => ⟨S48x3072, .f32⟩
  | 13 => ⟨S48x3072, .f32⟩
  | 14 => ⟨S_, .f32⟩
  | 15 => ⟨S48, .f32⟩
  | 16 => ⟨S48x1, .f32⟩
  | 17 => ⟨S_, .f32⟩
  | 18 => ⟨S48x1, .f32⟩
  | 19 => ⟨S48x1, .f32⟩
  | 20 => ⟨S_, .f32⟩
  | 21 => ⟨S48x1, .f32⟩
  | 22 => ⟨S48x1, .f32⟩
  | 23 => ⟨S48x1, .f32⟩
  | 24 => ⟨S48x3072, .f32⟩
  | 25 => ⟨S48x3072, .f32⟩
  | 26 => ⟨S1x3072, .f32⟩
  | 27 => ⟨S48x3072, .f32⟩
  | 28 => ⟨S48x3072, .f32⟩
  | 29 => ⟨S48x3072, .bf16⟩
  | 30 => ⟨S5120x768, .i32⟩
  | 31 => ⟨S_, .i32⟩
  | 32 => ⟨S5120x768, .i32⟩
  | 33 => ⟨S5120x768, .i32⟩
  | 34 => ⟨S_, .i32⟩
  | 35 => ⟨S5120x768, .i32⟩
  | 36 => ⟨S5120x768, .i1⟩
  | 37 => ⟨S_, .i32⟩
  | 38 => ⟨S5120x768, .i32⟩
  | 39 => ⟨S5120x768, .i32⟩
  | 40 => ⟨S5120x768, .i32⟩
  | 41 => ⟨S5120x768, .bf16⟩
  | 42 => ⟨S_, .i32⟩
  | 43 => ⟨S5120x768, .i32⟩
  | 44 => ⟨S5120x768, .i32⟩
  | 45 => ⟨S_, .i32⟩
  | 46 => ⟨S5120x768, .i32⟩
  | 47 => ⟨S5120x768, .i1⟩
  | 48 => ⟨S_, .i32⟩
  | 49 => ⟨S5120x768, .i32⟩
  | 50 => ⟨S5120x768, .i32⟩
  | 51 => ⟨S5120x768, .i32⟩
  | 52 => ⟨S5120x768, .bf16⟩
  | 53 => ⟨S768, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S768, .i32⟩
  | 61 => ⟨S768, .i32⟩
  | 62 => ⟨S_, .i32⟩
  | 63 => ⟨S768, .i32⟩
  | 64 => ⟨S768, .i1⟩
  | 65 => ⟨S_, .i32⟩
  | 66 => ⟨S768, .i32⟩
  | 67 => ⟨S768, .i1⟩
  | 68 => ⟨S_, .i32⟩
  | 69 => ⟨S_, .i1⟩
  | 70 => ⟨S768, .i1⟩
  | 71 => ⟨S768, .i1⟩
  | 72 => ⟨S768, .i1⟩
  | 73 => ⟨S768, .i32⟩
  | 74 => ⟨S768, .i32⟩
  | 75 => ⟨S768, .i32⟩
  | 76 => ⟨S_, .i32⟩
  | 77 => ⟨S768, .i32⟩
  | 78 => ⟨S768, .i32⟩
  | 79 => ⟨S5120x192, .i32⟩
  | 80 => ⟨S5120x192x4, .i32⟩
  | 81 => ⟨S5120x768, .i32⟩
  | 82 => ⟨S1x768, .i32⟩
  | 83 => ⟨S5120x768, .i32⟩
  | 84 => ⟨S5120x768, .i32⟩
  | 85 => ⟨S_, .i32⟩
  | 86 => ⟨S5120x768, .i32⟩
  | 87 => ⟨S5120x768, .i32⟩
  | 88 => ⟨S_, .i32⟩
  | 89 => ⟨S5120x768, .i32⟩
  | 90 => ⟨S5120x768, .i32⟩
  | 91 => ⟨S_, .i32⟩
  | 92 => ⟨S5120x768, .i32⟩
  | 93 => ⟨S5120x768, .i32⟩
  | 94 => ⟨S5120x24x32, .f32⟩
  | 95 => ⟨S5120x768, .f32⟩
  | 96 => ⟨S5120x768, .bf16⟩
  | 97 => ⟨S_, .i32⟩
  | 98 => ⟨S5120x768, .i32⟩
  | 99 => ⟨S5120x768, .i1⟩
  | 100 => ⟨S_, .i32⟩
  | 101 => ⟨S5120x768, .i32⟩
  | 102 => ⟨S5120x768, .i1⟩
  | 103 => ⟨S_, .bf16⟩
  | 104 => ⟨S5120x768, .bf16⟩
  | 105 => ⟨S5120x768, .bf16⟩
  | 106 => ⟨S5120x768, .bf16⟩
  | 107 => ⟨S5120x768, .bf16⟩
  | 108 => ⟨S48x768, .bf16⟩
  | 109 => ⟨S48x5120, .f32⟩
  | 110 => ⟨S_, .i32⟩
  | 111 => ⟨S5120x768, .i32⟩
  | 112 => ⟨S5120x768, .i1⟩
  | 113 => ⟨S_, .i32⟩
  | 114 => ⟨S5120x768, .i32⟩
  | 115 => ⟨S5120x768, .i1⟩
  | 116 => ⟨S_, .bf16⟩
  | 117 => ⟨S5120x768, .bf16⟩
  | 118 => ⟨S5120x768, .bf16⟩
  | 119 => ⟨S5120x768, .bf16⟩
  | 120 => ⟨S5120x768, .bf16⟩
  | 121 => ⟨S48x768, .bf16⟩
  | 122 => ⟨S48x5120, .f32⟩
  | 123 => ⟨S48x5120, .f32⟩
  | 124 => ⟨S_, .i32⟩
  | 125 => ⟨S5120x768, .i32⟩
  | 126 => ⟨S5120x768, .i1⟩
  | 127 => ⟨S_, .i32⟩
  | _ => ⟨S48x1x3072, .bf16⟩

abbrev hbmTy0_1 (i : Nat) : BufTy := match i % 128 with
  | 0 => ⟨S5120x768, .i32⟩
  | 1 => ⟨S5120x768, .i1⟩
  | 2 => ⟨S_, .bf16⟩
  | 3 => ⟨S5120x768, .bf16⟩
  | 4 => ⟨S5120x768, .bf16⟩
  | 5 => ⟨S5120x768, .bf16⟩
  | 6 => ⟨S5120x768, .bf16⟩
  | 7 => ⟨S48x768, .bf16⟩
  | 8 => ⟨S48x5120, .f32⟩
  | 9 => ⟨S48x5120, .f32⟩
  | 10 => ⟨S_, .i32⟩
  | 11 => ⟨S5120x768, .i32⟩
  | 12 => ⟨S5120x768, .i1⟩
  | 13 => ⟨S_, .i32⟩
  | 14 => ⟨S5120x768, .i32⟩
  | 15 => ⟨S5120x768, .i1⟩
  | 16 => ⟨S_, .bf16⟩
  | 17 => ⟨S5120x768, .bf16⟩
  | 18 => ⟨S5120x768, .bf16⟩
  | 19 => ⟨S5120x768, .bf16⟩
  | 20 => ⟨S5120x768, .bf16⟩
  | 21 => ⟨S48x768, .bf16⟩
  | 22 => ⟨S48x5120, .f32⟩
  | 23 => ⟨S48x5120, .f32⟩
  | 24 => ⟨S48x1024, .f32⟩
  | 25 => ⟨S48x1x8x128, .f32⟩
  | 26 => ⟨S48x1x8x64, .f32⟩
  | 27 => ⟨S48x1x8x64, .f32⟩
  | 28 => ⟨S48x1x8x64, .f32⟩
  | 29 => ⟨S48x1x8x64, .f32⟩
  | 30 => ⟨S48x1x8x64, .f32⟩
  | 31 => ⟨S48x1x8x64, .f32⟩
  | 32 => ⟨S48x1x8x64, .f32⟩
  | 33 => ⟨S48x1x8x64, .f32⟩
  | 34 => ⟨S48x1x8x64, .f32⟩
  | 35 => ⟨S48x1x8x64, .f32⟩
  | 36 => ⟨S48x1x8x64, .f32⟩
  | 37 => ⟨S48x1x8x64, .f32⟩
  | 38 => ⟨S48x1x8x128, .f32⟩
  | 39 => ⟨S48x1024, .f32⟩
  | 40 => ⟨S48x1x8x128, .f32⟩
  | 41 => ⟨S8x1, .f32⟩
  | 42 => ⟨S1x1x8x1, .f32⟩
  | 43 => ⟨S48x1x8x128, .f32⟩
  | 44 => ⟨S48x1x8x128, .f32⟩
  | 45 => ⟨S_, .f32⟩
  | 46 => ⟨S_, .f32⟩
  | 47 => ⟨S_, .f32⟩
  | 48 => ⟨S48x1x8x128, .f32⟩
  | 49 => ⟨S48x1x8x128, .f32⟩
  | 50 => ⟨S_, .f32⟩
  | 51 => ⟨S48x1x8x128, .f32⟩
  | 52 => ⟨S48x1x8x128, .f32⟩
  | 53 => ⟨S48x1024, .f32⟩
  | 54 => ⟨S8x1, .f32⟩
  | 55 => ⟨S1x1x8x1, .f32⟩
  | 56 => ⟨S48x1x8x128, .f32⟩
  | 57 => ⟨S48x1x8x128, .f32⟩
  | 58 => ⟨S_, .f32⟩
  | 59 => ⟨S_, .f32⟩
  | 60 => ⟨S_, .f32⟩
  | 61 => ⟨S48x1x8x128, .f32⟩
  | 62 => ⟨S48x1x8x128, .f32⟩
  | 63 => ⟨S_, .f32⟩
  | 64 => ⟨S48x1x8x128, .f32⟩
  | 65 => ⟨S48x1x8x128, .f32⟩
  | 66 => ⟨S48x1024, .f32⟩
  | 67 => ⟨S48x2048, .f32⟩
  | 68 => ⟨S48x2048, .fp8e4m3⟩
  | _ => ⟨S48x1x3072, .bf16⟩

abbrev hbmTy (i : Nat) : BufTy := match i / 128 with
  | 0 => hbmTy0_0 i
  | 1 => hbmTy0_1 i
  | _ => ⟨S48x1x3072, .bf16⟩

abbrev bufTy : (tb : Table) → Fin (tcTables nBuf tb) → BufTy
  | .hbm, ⟨i, _⟩ => hbmTy i
  | .local _ .vmem, ⟨0, _⟩ => ⟨S48x2048, .f32⟩
  | .local _ .vmem, ⟨1, _⟩ => ⟨S48x2048, .fp8e4m3⟩
  | _, _ => ⟨S48x1x3072, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v36 : Ref sig .tc := ⟨.hbm, 75, rfl⟩
abbrev main_c_8 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_9 : Ref sig .tc := ⟨.hbm, 85, rfl⟩
abbrev main_v45 : Ref sig .tc := ⟨.hbm, 86, rfl⟩
abbrev main_v46 : Ref sig .tc := ⟨.hbm, 87, rfl⟩
abbrev main_c_10 : Ref sig .tc := ⟨.hbm, 88, rfl⟩
abbrev main_v47 : Ref sig .tc := ⟨.hbm, 89, rfl⟩
abbrev main_v48 : Ref sig .tc := ⟨.hbm, 90, rfl⟩
abbrev main_c_11 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_12 : Ref sig .tc := ⟨.hbm, 97, rfl⟩
abbrev main_v54 : Ref sig .tc := ⟨.hbm, 98, rfl⟩
abbrev main_v55 : Ref sig .tc := ⟨.hbm, 99, rfl⟩
abbrev main_c_13 : Ref sig .tc := ⟨.hbm, 100, rfl⟩
abbrev main_v56 : Ref sig .tc := ⟨.hbm, 101, rfl⟩
abbrev main_v57 : Ref sig .tc := ⟨.hbm, 102, rfl⟩
abbrev main_cst_14 : Ref sig .tc := ⟨.hbm, 103, rfl⟩
abbrev main_call3_v0 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_15 : Ref sig .tc := ⟨.hbm, 110, rfl⟩
abbrev main_v63 : Ref sig .tc := ⟨.hbm, 111, rfl⟩
abbrev main_v64 : Ref sig .tc := ⟨.hbm, 112, rfl⟩
abbrev main_c_16 : Ref sig .tc := ⟨.hbm, 113, rfl⟩
abbrev main_v65 : Ref sig .tc := ⟨.hbm, 114, rfl⟩
abbrev main_v66 : Ref sig .tc := ⟨.hbm, 115, rfl⟩
abbrev main_cst_17 : Ref sig .tc := ⟨.hbm, 116, rfl⟩
abbrev main_call5_v0 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_18 : Ref sig .tc := ⟨.hbm, 124, rfl⟩
abbrev main_v73 : Ref sig .tc := ⟨.hbm, 125, rfl⟩
abbrev main_v74 : Ref sig .tc := ⟨.hbm, 126, rfl⟩
abbrev main_c_19 : Ref sig .tc := ⟨.hbm, 127, rfl⟩
abbrev main_v75 : Ref sig .tc := ⟨.hbm, 128, rfl⟩
abbrev main_v76 : Ref sig .tc := ⟨.hbm, 129, rfl⟩
abbrev main_cst_20 : Ref sig .tc := ⟨.hbm, 130, rfl⟩
abbrev main_call7_v0 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_21 : Ref sig .tc := ⟨.hbm, 138, rfl⟩
abbrev main_v83 : Ref sig .tc := ⟨.hbm, 139, rfl⟩
abbrev main_v84 : Ref sig .tc := ⟨.hbm, 140, rfl⟩
abbrev main_c_22 : Ref sig .tc := ⟨.hbm, 141, rfl⟩
abbrev main_v85 : Ref sig .tc := ⟨.hbm, 142, rfl⟩
abbrev main_v86 : Ref sig .tc := ⟨.hbm, 143, rfl⟩
abbrev main_cst_23 : Ref sig .tc := ⟨.hbm, 144, rfl⟩
abbrev main_call9_v0 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_24 : Ref sig .tc := ⟨.hbm, 173, rfl⟩
abbrev main_cst_25 : Ref sig .tc := ⟨.hbm, 174, rfl⟩
abbrev main_call11_v0 : Ref sig .tc := ⟨.hbm, 175, rfl⟩
abbrev main_call11_v1 : Ref sig .tc := ⟨.hbm, 176, rfl⟩
abbrev main_call11_v2 : Ref sig .tc := ⟨.hbm, 177, rfl⟩
abbrev main_call11_v3 : Ref sig .tc := ⟨.hbm, 178, rfl⟩
abbrev main_call11_v4 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_26 : Ref sig .tc := ⟨.hbm, 186, rfl⟩
abbrev main_cst_27 : Ref sig .tc := ⟨.hbm, 187, rfl⟩
abbrev main_call12_v0 : Ref sig .tc := ⟨.hbm, 188, rfl⟩
abbrev main_call12_v1 : Ref sig .tc := ⟨.hbm, 189, rfl⟩
abbrev main_call12_v2 : Ref sig .tc := ⟨.hbm, 190, rfl⟩
abbrev main_call12_v3 : Ref sig .tc := ⟨.hbm, 191, rfl⟩
abbrev main_call12_v4 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S48x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KAttn.lean ====
abbrev S48 : Shape := ⟨1, ![48]⟩
abbrev S48x3072 : Shape := ⟨2, ![48, 3072]⟩
abbrev S48x8x128 : Shape := ⟨3, ![48, 8, 128]⟩
abbrev S24x1 : Shape := ⟨2, ![24, 1]⟩
abbrev S48x1280x8x128 : Shape := ⟨4, ![48, 1280, 8, 128]⟩
abbrev S48x24x128 : Shape := ⟨3, ![48, 24, 128]⟩
abbrev S48x10240x128 : Shape := ⟨3, ![48, 10240, 128]⟩
abbrev S1x24x128 : Shape := ⟨3, ![1, 24, 128]⟩
abbrev S1x8x128 : Shape := ⟨3, ![1, 8, 128]⟩
abbrev S1x10240x128 : Shape := ⟨3, ![1, 10240, 128]⟩
abbrev S1 : Shape := ⟨1, ![1]⟩
abbrev S24x128 : Shape := ⟨2, ![24, 128]⟩
abbrev S24x1024 : Shape := ⟨2, ![24, 1024]⟩
abbrev S8x128 : Shape := ⟨2, ![8, 128]⟩
abbrev S24x8 : Shape := ⟨2, ![24, 8]⟩
abbrev S24 : Shape := ⟨1, ![24]⟩
abbrev S1x1024x128 : Shape := ⟨3, ![1, 1024, 128]⟩
abbrev S1024x128 : Shape := ⟨2, ![1024, 128]⟩

abbrev nBuf : Space → Nat
  | .hbm => 11
  | .vmem => 14
  | .smem => 1
  | _ => 0

abbrev bufTy : (tb : Table) → Fin (tcTables nBuf tb) → BufTy
  | .hbm, ⟨0, _⟩ => ⟨S48x3072, .bf16⟩
  | .hbm, ⟨1, _⟩ => ⟨S48x8x128, .fp8e4m3⟩
  | .hbm, ⟨2, _⟩ => ⟨S48x8x128, .fp8e4m3⟩
  | .hbm, ⟨3, _⟩ => ⟨S24x1, .f32⟩
  | .hbm, ⟨4, _⟩ => ⟨S24x1, .f32⟩
  | .hbm, ⟨5, _⟩ => ⟨S48x1280x8x128, .fp8e4m3⟩
  | .hbm, ⟨6, _⟩ => ⟨S48x1280x8x128, .fp8e4m3⟩
  | .hbm, ⟨7, _⟩ => ⟨S48x24x128, .bf16⟩
  | .hbm, ⟨8, _⟩ => ⟨S48x10240x128, .fp8e4m3⟩
  | .hbm, ⟨9, _⟩ => ⟨S48x10240x128, .fp8e4m3⟩
  | .hbm, ⟨10, _⟩ => ⟨S48x24x128, .f32⟩
  | .local _ .vmem, ⟨0, _⟩ => ⟨S1x24x128, .bf16⟩
  | .local _ .vmem, ⟨1, _⟩ => ⟨S1x24x128, .bf16⟩
  | .local _ .vmem, ⟨2, _⟩ => ⟨S1x8x128, .fp8e4m3⟩
  | .local _ .vmem, ⟨3, _⟩ => ⟨S1x8x128, .fp8e4m3⟩
  | .local _ .vmem, ⟨4, _⟩ => ⟨S1x8x128, .fp8e4m3⟩
  | .local _ .vmem, ⟨5, _⟩ => ⟨S1x8x128, .fp8e4m3⟩
  | .local _ .vmem, ⟨6, _⟩ => ⟨S24x1, .f32⟩
  | .local _ .vmem, ⟨7, _⟩ => ⟨S24x1, .f32⟩
  | .local _ .vmem, ⟨8, _⟩ => ⟨S1x10240x128, .fp8e4m3⟩
  | .local _ .vmem, ⟨9, _⟩ => ⟨S1x10240x128, .fp8e4m3⟩
  | .local _ .vmem, ⟨10, _⟩ => ⟨S1x10240x128, .fp8e4m3⟩
  | .local _ .vmem, ⟨11, _⟩ => ⟨S1x10240x128, .fp8e4m3⟩
  | .local _ .vmem, ⟨12, _⟩ => ⟨S1x24x128, .f32⟩
  | .local _ .vmem, ⟨13, _⟩ => ⟨S1x24x128, .f32⟩
  | .local _ .smem, ⟨0, _⟩ => ⟨S48, .i32⟩
  | _, _ => ⟨S48x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_27 : BitVec 32 := 0#32
  let c127_i32 : BitVec 32 := 127#32
  let v85 : BitVec 32 := Scalar.addi v1 c127_i32
  let c128_i32 : BitVec 32 := 128#32
  let v86 : BitVec 32 := Scalar.divsi v85 c128_i32
  let v87 : BitVec 32 := Scalar.subi v86 c0_i32_27
  let c1_i32_28 : BitVec 32 := 1#32
  let v89 : BitVec 32 := Scalar.divsi v87 c1_i32_28
  let v90 : BitVec 32 := Scalar.muli v89 c1_i32_28
  let v91 : BitVec 32 := Scalar.addi c0_i32_27 v90
  let c1_i32_29 : BitVec 32 := 1#32
  ⟨c0_i32_27, v91, c1_i32_29⟩

def k0_mult1 (v1 : BitVec 32) (k0_t1 : Fin (k0_t1_loop v1).trips) : BitVec 32 :=
  let c0_i32_27 : BitVec 32 := 0#32
  let c1_i32_29 : BitVec 32 := 1#32
  let arg10 : BitVec 32 := Scf.iv c0_i32_27 c1_i32_29 k0_t1
  let c1024_i32 : BitVec 32 := 1024#32
  let v99 : BitVec 32 := Scalar.muli arg10 c1024_i32
  v99
def k0_off2 (v1 : BitVec 32) (k0_t1 : Fin (k0_t1_loop v1).trips) : Fin 3 → Nat :=
  let c0_34 : Index := 0#32
  let c0_i32_27 : BitVec 32 := 0#32
  let c1_i32_29 : BitVec 32 := 1#32
  let arg10 : BitVec 32 := Scf.iv c0_i32_27 c1_i32_29 k0_t1
  let c1024_i32 : BitVec 32 := 1024#32
  let v99 : BitVec 32 := Scalar.muli arg10 c1024_i32
  let v100 : BitVec 32 := v99
  let v101 : Index := Scalar.indexCast v100
  let c0_35 : Index := 0#32
  ![0, v101.toNat, 0]
@[reducible] def k0_t2_loop (v1 : BitVec 32) : Scf.Loop 32 :=
  let c0_i32_27 : BitVec 32 := 0#32
  let c127_i32 : BitVec 32 := 127#32
  let v85 : BitVec 32 := Scalar.addi v1 c127_i32
  let c128_i32 : BitVec 32 := 128#32
  let v86 : BitVec 32 := Scalar.divsi v85 c128_i32
  let v87 : BitVec 32 := Scalar.subi v86 c0_i32_27
  let c1_i32_28 : BitVec 32 := 1#32
  let v89 : BitVec 32 := Scalar.divsi v87 c1_i32_28
  let v90 : BitVec 32 := Scalar.muli v89 c1_i32_28
  let v91 : BitVec 32 := Scalar.addi c0_i32_27 v90
  let v88 : BitVec 32 := Scalar.addi c0_i32_27 v87
  let c1_i32_30 : BitVec 32 := 1#32
  ⟨v91, v88, c1_i32_30⟩
def k0_mult2 (v1 : BitVec 32) (k0_t2 : Fin (k0_t2_loop v1).trips) : BitVec 32 :=
  let c0_i32_27 : BitVec 32 := 0#32
  let c127_i32 : BitVec 32 := 127#32
  let v85 : BitVec 32 := Scalar.addi v1 c127_i32
  let c128_i32 : BitVec 32 := 128#32
  let v86 : BitVec 32 := Scalar.divsi v85 c128_i32
  let v87 : BitVec 32 := Scalar.subi v86 c0_i32_27
  let c1_i32_28 : BitVec 32 := 1#32
  let v89 : BitVec 32 := Scalar.divsi v87 c1_i32_28
  let v90 : BitVec 32 := Scalar.muli v89 c1_i32_28
  let v91 : BitVec 32 := Scalar.addi c0_i32_27 v90
  let c1_i32_30 : BitVec 32 := 1#32
  let arg10 : BitVec 32 := Scf.iv v91 c1_i32_30 k0_t2
  let c1024_i32 : BitVec 32 := 1024#32
  let v99 : BitVec 32 := Scalar.muli arg10 c1024_i32
  v99
def k0_off3 (v1 : BitVec 32) (k0_t2 : Fin (k0_t2_loop v1).trips) : Fin 3 → Nat :=
  let c0_34 : Index := 0#32
  let c0_i32_27 : BitVec 32 := 0#32
  let c127_i32 : BitVec 32 := 127#32
  let v85 : BitVec 32 := Scalar.addi v1 c127_i32
  let c128_i32 : BitVec 32 := 128#32
  let v86 : BitVec 32 := Scalar.divsi v85 c128_i32
  let v87 : BitVec 32 := Scalar.subi v86 c0_i32_27
  let c1_i32_28 : BitVec 32 := 1#32
  let v89 : BitVec 32 := Scalar.divsi v87 c1_i32_28
  let v90 : BitVec 32 := Scalar.muli v89 c1_i32_28
  let v91 : BitVec 32 := Scalar.addi c0_i32_27 v90
  let c1_i32_30 : BitVec 32 := 1#32
  let arg10 : BitVec 32 := Scf.iv v91 c1_i32_30 k0_t2
  let c1024_i32 : BitVec 32 := 1024#32
  let v99 : BitVec 32 := Scalar.muli arg10 c1024_i32
  let v100 : BitVec 32 := v99
  let v101 : Index := Scalar.indexCast v100
  let c0_35 : Index := 0#32
  ![0, v101.toNat, 0]

def k0_chk1 (v1 : BitVec 32) : Prop :=
  ((k0_t1_loop v1).OK) ∧
  (∀ k0_t1 : Fin (k0_t1_loop v1).trips, 1024 ∣ (k0_mult1 v1 k0_t1).toNat) ∧
  (∀ k0_t1 : Fin (k0_t1_loop v1).trips, ∀ a, (k0_off2 v1 k0_t1) a + S1x1024x128.size a ≤ S1x10240x128.size a) ∧
  ((k0_t2_loop v1).OK) ∧
  (∀ k0_t2 : Fin (k0_t2_loop v1).trips, 1024 ∣ (k0_mult2 v1 k0_t2).toNat) ∧
  (∀ k0_t2 : Fin (k0_t2_loop v1).trips, ∀ a, (k0_off3 v1 k0_t2) a + S1x1024x128.size a ≤ S1x10240x128.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 1024 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1x1024x128.size a ≤ S1x10240x128.size a := fun v1 k0_hw1 k0_t1 => k0_hw1.2.2.1 k0_t1
theorem k0_t2_ok : ∀ (v1 : BitVec 32) (k0_hw1 : k0_chk1 v1), (k0_t2_loop v1).OK := fun v1 k0_hw1 => k0_hw1.2.2.2.1
theorem k0_mult2_dvd : ∀ (v1 : BitVec 32) (k0_hw1 : k0_chk1 v1) (k0_t2 : Fin (k0_t2_loop v1).trips), 1024 ∣ (k0_mult2 v1 k0_t2).toNat := fun v1 k0_hw1 k0_t2 => k0_hw1.2.2.2.2.1 k0_t2
theorem k0_off3_inb : ∀ (v1 : BitVec 32) (k0_hw1 : k0_chk1 v1) (k0_t2 : Fin (k0_t2_loop v1).trips), ∀ a, (k0_off3 v1 k0_t2) a + S1x1024x128.size a ≤ S1x10240x128.size a := fun v1 k0_hw1 k0_t2 => k0_hw1.2.2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x10240x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x10240x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x24x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.KQkv.Runs.lean ====
/- The qkv projection: what the runs of the body share: the memory at the launch, the body's branch conditions over the grid points, the staging and scratch buffers. -/
module

public import proofs.«01_k».proof.Proof.Gen.KQkv.Launch
public import proofs.«01_k».proof.Proof.Gen.KQkv.Skeleton
public import proofs.«01_k».proof.Proof.Gen.KQkv.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KQkv`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 6 — decided over the grid. -/
theorem hcond0_1 : ∀ t : Fin cfg0.N, cond0_1 (grid0.coords t) ↔ t.val < 6 :=
  (by decide +kernel : ∀ t : Fin grid0.N, cond0_1 (grid0.coords t) ↔ t.val < 6)

/-- The condition of the body's `scf.if` 2 (`k0_h3`), from the grid coordinates (the skeleton's scalar
    chain substituted). -/
abbrev cond0_2 (i : grid0.Coords) : Prop := k0_cond3 i = 1#1
/-- It holds at the points whose coordinates have 6 ≤ i0 and i0 ≤ 7 — decided over the grid. -/
theorem hcond0_2 : ∀ t : Fin cfg0.N, cond0_2 (grid0.coords t) ↔ (6 ≤ t.val % 10 ∧ t.val % 10 ≤ 7) :=
  (by decide +kernel : ∀ t : Fin grid0.N, cond0_2 (grid0.coords t) ↔ (6 ≤ t.val % 10 ∧ t.val % 10 ≤ 7))

/-- The condition of the body's `scf.if` 3 (`k0_h4`), from the grid coordinates (the skeleton's scalar
    chain substituted). -/
abbrev cond0_3 (i : grid0.Coords) : Prop := k0_cond4 i = 1#1
/-- It holds at the points from point 8 on — decided over the grid. -/
theorem hcond0_3 : ∀ t : Fin cfg0.N, cond0_3 (grid0.coords t) ↔ 8 ≤ t.val :=
  (by decide +kernel : ∀ t : Fin grid0.N, cond0_3 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 10 idle: the case stores nothing into it. -/
theorem idleAt0_10_A : ∀ t : Fin cfg0.N, cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_A (grid0.coords t) → cfg0.idle 10 (grid0.coords t) = true) t ⟨h0, h1, h2, h3⟩
/-- At the points of case A the pipeline does not write output 10's block back. -/
theorem noFlush0_10_A : ∀ t : Fin cfg0.N, cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_A (grid0.coords t) → (cfg0.win 10).flush t = false) t ⟨h0, h1, h2, h3⟩
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_B (grid0.coords t) → cfg0.idle 10 (grid0.coords t) = true) t ⟨h0, h1, h2, h3⟩
/-- At the points of case B the pipeline does not write output 10's block back. -/
theorem noFlush0_10_B : ∀ t : Fin cfg0.N, ¬cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_B (grid0.coords t) → (cfg0.win 10).flush t = false) t ⟨h0, h1, h2, h3⟩
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → ¬cond0_3 (grid0.coords t) → cfg0.idle 10 (grid0.coords t) = false :=
  fun t h0 h1 h2 h3 => (by decide +kernel : ∀ t : Fin cfg0.N, conds0_C (grid0.coords t) → cfg0.idle 10 (grid0.coords t) = false) t ⟨h0, h1, h2, h3⟩
/-- At the points of case D the printed configuration (`Cfg.idle`) calls output 10 live: the case stores into it. -/
theorem liveAt0_10_D : ∀ t : Fin cfg0.N, ¬cond0_0 (grid0.coords t) → ¬cond0_1 (grid0.coords t) → ¬cond0_2 (grid0.coords t) → cond0_3 (grid0.coords t) → cfg0.idle 10 (grid0.coords t) = false :=
  fun t h0 h1 h2 h3 => (by decide +kernel : ∀ t : Fin cfg0.N, conds0_D (grid0.coords t) → cfg0.idle 10 (grid0.coords t) = false) t ⟨h0, h1, h2, h3⟩

/-! ## The kernel body on any staging memrefs: a subtype the run finds -/

/-- One staging buffer of output window 10, through which its contents are stated (`View.read_writes_of_cover`: the
    choice does not matter). -/
abbrev VO0_10 : View sig .tc .vmem S48x512 .fp8e4m3 := (Memref.whole cc0_stg10_0 : Memref sig .tc .vmem S48x512 .fp8e4m3).view
/-- Each window's current staging memref at point `t`, spelled as the pipeline passes it (`bodyAt0`), and its wholeness. -/
abbrev ms0_0 (t : Fin cfg0.N) : Memref sig .tc .vmem S48x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x512 .i16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S24x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x512 .fp8e4m3 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S48x3072 .bf16 := Memref.whole cc0_scratch0
/-- The scratch `arg12` the kernel carries between points, as a view: what it holds is stated through it. -/
abbrev VS0_0 : View sig .tc .vmem S48x3072 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KQkv.Gen

end
-- ==== Proof.KQkv.RunA.lean ====
/- The qkv projection: the run of the body at the first grid point, which fills the scratch and stores query columns. -/
module

public import proofs.«01_k».proof.Proof.KQkv.Runs

@[expose] public section

-- membership in a rectangle of production extents (`View.cover_of_tiled`): the elaborator's structural look
-- recurses once per coordinate of the long axes
set_option maxRecDepth 16384

noncomputable section

namespace Cert.KQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_A (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) :
    Σ' (L10 : List (View.Piece (Elt F) S48x512 .fp8e4m3)), { LS0 : List (View.Piece (Elt F) S48x3072 .bf16) //
      ∀ (xi10 : Vec F S48x512 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨[], ?_, fun xi10 E K => ?run⟩
  case run =>
    simp only [cc0_qkv_eq_skeleton]; unfold cc0_qkv_skel
    simp only [k0_part21_eq_skeleton, k0_part6_eq_skeleton, k0_part1_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _; isplitr; · ipureintro; exact harg11.read_unread _
      iexact H10
    iexists _; iexact HS0

end Cert.KQkv.Gen

end
-- ==== Proof.KQkv.RunB.lean ====
/- The qkv projection: the run of the body at the later points that store query columns. -/
module

public import proofs.«01_k».proof.Proof.KQkv.RunA

@[expose] public section

-- membership in a rectangle of production extents (`View.cover_of_tiled`): the elaborator's structural look
-- recurses once per coordinate of the long axes
set_option maxRecDepth 16384

noncomputable section

namespace Cert.KQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, 3, 4, 5), WITH the
    proof that on whole staging memrefs — the inputs' at their contents, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_B (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) :
    Σ' (L10 : List (View.Piece (Elt F) S48x512 .fp8e4m3)), { LS0 : List (View.Piece (Elt F) S48x3072 .bf16) //
      ∀ (xi10 : Vec F S48x512 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨[], [], fun xi10 E K => ?run⟩
  case run =>
    simp only [cc0_qkv_eq_skeleton]; unfold cc0_qkv_skel
    simp only [k0_part21_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _; isplitr; · ipureintro; exact harg11.read_unread _
      iexact H10
    iexists _; isplitr; · ipureintro; exact harg12.read_unread _
    iexact HS0

end Cert.KQkv.Gen

end
-- ==== Proof.KQkv.RunC.lean ====
/- The qkv projection: the run of the body at the points that store key codes. -/
module

public import proofs.«01_k».proof.Proof.KQkv.RunB

@[expose] public section

-- membership in a rectangle of production extents (`View.cover_of_tiled`): the elaborator's structural look
-- recurses once per coordinate of the long axes
set_option maxRecDepth 16384

noncomputable section

namespace Cert.KQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 6, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_C (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) :
    Σ' (L10 : List (View.Piece (Elt F) S48x512 .fp8e4m3)), { LS0 : List (View.Piece (Elt F) S48x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, [], fun E K => ?run⟩
  case run =>
    simp only [cc0_qkv_eq_skeleton]; unfold cc0_qkv_skel
    simp only [k0_part21_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]; · iexists _; iexact H10
    iexists _; isplitr; · ipureintro; exact harg12.read_unread _
    iexact HS0

end Cert.KQkv.Gen

end
-- ==== Proof.KQkv.RunD.lean ====
/- The qkv projection: the run of the body at the points that store value codes. -/
module

public import proofs.«01_k».proof.Proof.KQkv.RunC

@[expose] public section

-- membership in a rectangle of production extents (`View.cover_of_tiled`): the elaborator's structural look
-- recurses once per coordinate of the long axes
set_option maxRecDepth 16384

noncomputable section

namespace Cert.KQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 8, 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_D (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) :
    Σ' (L10 : List (View.Piece (Elt F) S48x512 .fp8e4m3)), { LS0 : List (View.Piece (Elt F) S48x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, [], fun E K => ?run⟩
  case run =>
    simp only [cc0_qkv_eq_skeleton]; unfold cc0_qkv_skel
    simp only [k0_part21_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]; · iexists _; iexact H10
    iexists _; isplitr; · ipureintro; exact harg12.read_unread _
    iexact HS0

end Cert.KQkv.Gen

end
-- ==== Proof.KQkv.Frame.lean ====
/- The qkv projection: what the code window and the scratch hold after each grid point, the body's obligation, the run of the program and its frame. Of the query window
   (window 9), which the program does not return, nothing is stated. -/
module

public import proofs.«01_k».proof.Proof.KQkv.RunD
public import Idealize.ShloMosaic.Lib.Claim

@[expose] public section

-- membership in a rectangle of production extents (`View.cover_of_tiled`): the elaborator's structural look
-- recurses once per coordinate of the long axes
set_option maxRecDepth 16384

noncomputable section

namespace Cert.KQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) : Vec F S48x512 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).1)

/-- Case A's pieces for scratch `arg12`, which the kernel carries between points, cover it: 6 pieces of `S48x512` tiling it (Lib/Ring.lean `Piece.tiledL`). -/
theorem scover0_A_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (y : S48x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).2.1 S48x512.size (by sl_kernel_rfl) y

/-- What case A leaves in scratch `arg12`: its pieces read back over junk. -/
def sout0_A_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) : Vec F S48x3072 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).2.1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x512 .fp8e4m3 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1)

/-- Case B stores nothing into scratch `arg12`: it holds what the point before left. -/
def sout0_B_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x3072 .bf16 := xs0

/-- Case C's pieces for output 10 tile its block (4 stores of `S48x128`, checked by the kernel's evaluation: Lib/Ring.lean `Piece.tiledL`, linear in the pieces, through a loop's `@[irreducible]` trip theorem too), so they cover it. -/
theorem cover0_C_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) (y : S48x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1 S48x128.size (by sl_kernel_rfl) y

/-- What case C leaves in output 10's staging buffer: its pieces read back over junk. -/
def out0_C_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x512 .fp8e4m3 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1)

/-- Case C stores nothing into scratch `arg12`: it holds what the point before left. -/
def sout0_C_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x3072 .bf16 := xs0

/-- Case D's pieces for output 10 tile its block (4 stores of `S48x128`, checked by the kernel's evaluation: Lib/Ring.lean `Piece.tiledL`, linear in the pieces, through a loop's `@[irreducible]` trip theorem too), so they cover it. -/
theorem cover0_D_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) (y : S48x512.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1 S48x128.size (by sl_kernel_rfl) y

/-- What case D leaves in output 10's staging buffer: its pieces read back over junk. -/
def out0_D_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x512 .fp8e4m3 :=
  VO0_10.read (Elt F) (VO0_10.writes (Elt F) VO0_10.junk (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1)

/-- Case D stores nothing into scratch `arg12`: it holds what the point before left. -/
def sout0_D_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x3072 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S48x512 .fp8e4m3 × Vec F S48x3072 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 10 = 0 then
      if h1 : (n + 1) < 6 then
        if h2 : (6 ≤ (n + 1) % 10 ∧ (n + 1) % 10 ≤ 7) then
          False.elim (by have hN : n + 1 < 10 := lt_of_lt_of_eq hn (show cfg0.N = 10 from N_0); omega)
        else
          if h3 : 8 ≤ (n + 1) then
            False.elim (by have hN : n + 1 < 10 := lt_of_lt_of_eq hn (show cfg0.N = 10 from N_0); omega)
          else
            (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
      else
        False.elim (by have hN : n + 1 < 10 := lt_of_lt_of_eq hn (show cfg0.N = 10 from N_0); omega)
    else
      if h1 : (n + 1) < 6 then
        if h2 : (6 ≤ (n + 1) % 10 ∧ (n + 1) % 10 ≤ 7) then
          False.elim (by have hN : n + 1 < 10 := lt_of_lt_of_eq hn (show cfg0.N = 10 from N_0); omega)
        else
          if h3 : 8 ≤ (n + 1) then
            False.elim (by have hN : n + 1 < 10 := lt_of_lt_of_eq hn (show cfg0.N = 10 from N_0); omega)
          else
            (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
      else
        if h2 : (6 ≤ (n + 1) % 10 ∧ (n + 1) % 10 ≤ 7) then
          if h3 : 8 ≤ (n + 1) then
            False.elim (by have hN : n + 1 < 10 := lt_of_lt_of_eq hn (show cfg0.N = 10 from N_0); omega)
          else
            (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
        else
          if h3 : 8 ≤ (n + 1) then
            (out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
          else
            False.elim (by have hN : n + 1 < 10 := lt_of_lt_of_eq hn (show cfg0.N = 10 from N_0); omega)

/-- `outsAt0` at a point of case A: that case's contents. -/
theorem outsAt0_A (c : Dev nD) (t : Fin cfg0.N) (h0 : t.val % 10 = 0) (h1 : t.val < 6) (h2 : ¬(6 ≤ t.val % 10 ∧ t.val % 10 ≤ 7)) (h3 : ¬8 ≤ t.val) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 10 = 0) (h1 : t.val < 6) (h2 : ¬(6 ≤ t.val % 10 ∧ t.val % 10 ≤ 7)) (h3 : ¬8 ≤ t.val) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 10 = 0) (h1 : ¬t.val < 6) (h2 : (6 ≤ t.val % 10 ∧ t.val % 10 ≤ 7)) (h3 : ¬8 ≤ t.val) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 10 = 0) (h1 : ¬t.val < 6) (h2 : ¬(6 ≤ t.val % 10 ∧ t.val % 10 ≤ 7)) (h3 : 8 ≤ t.val) :
    outsAt0 m c t.val t.isLt = (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The output windows this certificate FORGETS (9): nothing reads what the kernel leaves in them, so nothing
    of it is named (Lib/Pipeline/Dat.lean `Dat.toRForget`). -/
def forgets0 : Fin 11 → Bool := fun w => w.val == 9
theorem forgets0_10 : forgets0 (10 : Fin 11) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_10 (c : Dev nD) (t : Fin cfg0.N) : (dats m 0 c).after 10 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (dats m 0 c).leavesExact 10 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 10 = 0
  · by_cases h1 : t.val < 6
    · by_cases h2 : (6 ≤ t.val % 10 ∧ t.val % 10 ≤ 7)
      · exfalso; omega
      · by_cases h3 : 8 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [Dat.leavesExact_idle (dats m 0 c) 10 t (idleAt0_10_A t ((hcond0_0 t).mpr h0) ((hcond0_1 t).mpr h1) (fun h => h2 ((hcond0_2 t).mp h)) (fun h => h3 ((hcond0_3 t).mp h))) (noFlush0_10_A t ((hcond0_0 t).mpr h0) ((hcond0_1 t).mpr h1) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [HS0]; · iexact HS0
            iintro ⟨H0, H1, H2, H3, H4, H5, H6, H7, H8, H9, H10, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexists _; iexact H10
          · exfalso; have hN : t.val < 10 := lt_of_lt_of_eq t.isLt (show cfg0.N = 10 from N_0); omega
    · exfalso; omega
  · by_cases h1 : t.val < 6
    · by_cases h2 : (6 ≤ t.val % 10 ∧ t.val % 10 ≤ 7)
      · exfalso; omega
      · by_cases h3 : 8 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [Dat.leavesExact_idle (dats m 0 c) 10 t (idleAt0_10_B t (fun h => h0 ((hcond0_0 t).mp h)) ((hcond0_1 t).mpr h1) (fun h => h2 ((hcond0_2 t).mp h)) (fun h => h3 ((hcond0_3 t).mp h))) (noFlush0_10_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 10 := lt_of_lt_of_eq t.isLt (show cfg0.N = 10 from N_0); omega
          · rw [PhiS_castSucc m c t, PhiS_pos m c _ _ hz]
            rw [outsAt0_B m c t h0 h1 h2 h3]
            unfold sout0_B_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [HS0]; · iexact HS0
            iintro ⟨H0, H1, H2, H3, H4, H5, H6, H7, H8, H9, H10, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexists _; iexact H10
    · by_cases h2 : (6 ≤ t.val % 10 ∧ t.val % 10 ≤ 7)
      · by_cases h3 : 8 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2) (fun h => h3 ((hcond0_3 t).mp h))], after0_10]
          by_cases hz : t.val = 0
          · exfalso; have hN : t.val < 10 := lt_of_lt_of_eq t.isLt (show cfg0.N = 10 from N_0); omega
          · rw [PhiS_castSucc m c t, PhiS_pos m c _ _ hz]
            rw [outsAt0_C m c t h0 h1 h2 h3]
            unfold out0_C_10 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [HS0]; · iexact HS0
            iintro ⟨H0, H1, H2, H3, H4, H5, H6, H7, H8, H9, ⟨%e10, H10⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _)
      · by_cases h3 : 8 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) ((hcond0_3 t).mpr h3)], after0_10]
          by_cases hz : t.val = 0
          · exfalso; have hN : t.val < 10 := lt_of_lt_of_eq t.isLt (show cfg0.N = 10 from N_0); omega
          · rw [PhiS_castSucc m c t, PhiS_pos m c _ _ hz]
            rw [outsAt0_D m c t h0 h1 h2 h3]
            unfold out0_D_10 sout0_D_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [HS0]; · iexact HS0
            iintro ⟨H0, H1, H2, H3, H4, H5, H6, H7, H8, H9, ⟨%e10, H10⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_KQkv`'s statement (Defs.lean) at any `F` — Proof.lean cites it at `Bits`:
    `theorem Cert.Proof.claim : Cert.Claim := ⟨Cert.KQkv.Gen.facts, fun m ρ _ => Cert.KQkv.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KQkv.Gen

end
-- ==== Proof.KQkvIdeal.Runs.lean ====
/- The qkv projection, idealized: what the runs of the body share: the memory at the launch, the body's branch conditions over the grid points, the staging and scratch buffers. -/
module

public import proofs.«01_k».proof.Proof.Gen.KQkvIdeal.Launch
public import proofs.«01_k».proof.Proof.Gen.KQkvIdeal.Skeleton
public import proofs.«01_k».proof.Proof.Gen.KQkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KQkvIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 6 — decided over the grid. -/
theorem hcond0_1 : ∀ t : Fin cfg0.N, cond0_1 (grid0.coords t) ↔ t.val < 6 :=
  (by decide +kernel : ∀ t : Fin grid0.N, cond0_1 (grid0.coords t) ↔ t.val < 6)

/-- The condition of the body's `scf.if` 2 (`k0_h3`), from the grid coordinates (the skeleton's scalar
    chain substituted). -/
abbrev cond0_2 (i : grid0.Coords) : Prop := k0_cond3 i = 1#1
/-- It holds at the points whose coordinates have 6 ≤ i0 and i0 ≤ 7 — decided over the grid. -/
theorem hcond0_2 : ∀ t : Fin cfg0.N, cond0_2 (grid0.coords t) ↔ (6 ≤ t.val % 10 ∧ t.val % 10 ≤ 7) :=
  (by decide +kernel : ∀ t : Fin grid0.N, cond0_2 (grid0.coords t) ↔ (6 ≤ t.val % 10 ∧ t.val % 10 ≤ 7))

/-- The condition of the body's `scf.if` 3 (`k0_h4`), from the grid coordinates (the skeleton's scalar
    chain substituted). -/
abbrev cond0_3 (i : grid0.Coords) : Prop := k0_cond4 i = 1#1
/-- It holds at the points from point 8 on — decided over the grid. -/
theorem hcond0_3 : ∀ t : Fin cfg0.N, cond0_3 (grid0.coords t) ↔ 8 ≤ t.val :=
  (by decide +kernel : ∀ t : Fin grid0.N, cond0_3 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 10 idle: the case stores nothing into it. -/
theorem idleAt0_10_A : ∀ t : Fin cfg0.N, cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_A (grid0.coords t) → cfg0.idle 10 (grid0.coords t) = true) t ⟨h0, h1, h2, h3⟩
/-- At the points of case A the pipeline does not write output 10's block back. -/
theorem noFlush0_10_A : ∀ t : Fin cfg0.N, cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_A (grid0.coords t) → (cfg0.win 10).flush t = false) t ⟨h0, h1, h2, h3⟩
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_B (grid0.coords t) → cfg0.idle 10 (grid0.coords t) = true) t ⟨h0, h1, h2, h3⟩
/-- At the points of case B the pipeline does not write output 10's block back. -/
theorem noFlush0_10_B : ∀ t : Fin cfg0.N, ¬cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_B (grid0.coords t) → (cfg0.win 10).flush t = false) t ⟨h0, h1, h2, h3⟩
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → ¬cond0_3 (grid0.coords t) → cfg0.idle 10 (grid0.coords t) = false :=
  fun t h0 h1 h2 h3 => (by decide +kernel : ∀ t : Fin cfg0.N, conds0_C (grid0.coords t) → cfg0.idle 10 (grid0.coords t) = false) t ⟨h0, h1, h2, h3⟩
/-- At the points of case D the printed configuration (`Cfg.idle`) calls output 10 live: the case stores into it. -/
theorem liveAt0_10_D : ∀ t : Fin cfg0.N, ¬cond0_0 (grid0.coords t) → ¬cond0_1 (grid0.coords t) → ¬cond0_2 (grid0.coords t) → cond0_3 (grid0.coords t) → cfg0.idle 10 (grid0.coords t) = false :=
  fun t h0 h1 h2 h3 => (by decide +kernel : ∀ t : Fin cfg0.N, conds0_D (grid0.coords t) → cfg0.idle 10 (grid0.coords t) = false) t ⟨h0, h1, h2, h3⟩

/-! ## The kernel body on any staging memrefs: a subtype the run finds -/

/-- One staging buffer of output window 10, through which its contents are stated (`View.read_writes_of_cover`: the
    choice does not matter). -/
abbrev VO0_10 : View sig .tc .vmem S48x512 .fp8e4m3 := (Memref.whole cc0_stg10_0 : Memref sig .tc .vmem S48x512 .fp8e4m3).view
/-- Each window's current staging memref at point `t`, spelled as the pipeline passes it (`bodyAt0`), and its wholeness. -/
abbrev ms0_0 (t : Fin cfg0.N) : Memref sig .tc .vmem S48x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x512 .i16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S24x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x512 .fp8e4m3 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S48x3072 .bf16 := Memref.whole cc0_scratch0
/-- The scratch `arg12` the kernel carries between points, as a view: what it holds is stated through it. -/
abbrev VS0_0 : View sig .tc .vmem S48x3072 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KQkvIdeal.Gen

end
-- ==== Proof.KQkvIdeal.RunA.lean ====
/- The qkv projection, idealized: the run of the body at the first grid point, which fills the scratch and stores query columns. -/
module

public import proofs.«01_k».proof.Proof.KQkvIdeal.Runs

@[expose] public section

-- membership in a rectangle of production extents (`View.cover_of_tiled`): the elaborator's structural look
-- recurses once per coordinate of the long axes
set_option maxRecDepth 16384

noncomputable section

namespace Cert.KQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_A (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) :
    Σ' (L10 : List (View.Piece (Elt F) S48x512 .fp8e4m3)), { LS0 : List (View.Piece (Elt F) S48x3072 .bf16) //
      ∀ (xi10 : Vec F S48x512 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨[], ?_, fun xi10 E K => ?run⟩
  case run =>
    simp only [cc0_qkv_eq_skeleton]; unfold cc0_qkv_skel
    simp only [k0_part21_eq_skeleton, k0_part6_eq_skeleton, k0_part1_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _; isplitr; · ipureintro; exact harg11.read_unread _
      iexact H10
    iexists _; iexact HS0

end Cert.KQkvIdeal.Gen

end
-- ==== Proof.KQkvIdeal.RunB.lean ====
/- The qkv projection, idealized: the run of the body at the later points that store query columns. -/
module

public import proofs.«01_k».proof.Proof.KQkvIdeal.RunA

@[expose] public section

-- membership in a rectangle of production extents (`View.cover_of_tiled`): the elaborator's structural look
-- recurses once per coordinate of the long axes
set_option maxRecDepth 16384

noncomputable section

namespace Cert.KQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, 3, 4, 5), WITH the
    proof that on whole staging memrefs — the inputs' at their contents, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_B (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) :
    Σ' (L10 : List (View.Piece (Elt F) S48x512 .fp8e4m3)), { LS0 : List (View.Piece (Elt F) S48x3072 .bf16) //
      ∀ (xi10 : Vec F S48x512 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨[], [], fun xi10 E K => ?run⟩
  case run =>
    simp only [cc0_qkv_eq_skeleton]; unfold cc0_qkv_skel
    simp only [k0_part21_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _; isplitr; · ipureintro; exact harg11.read_unread _
      iexact H10
    iexists _; isplitr; · ipureintro; exact harg12.read_unread _
    iexact HS0

end Cert.KQkvIdeal.Gen

end
-- ==== Proof.KQkvIdeal.RunC.lean ====
/- The qkv projection, idealized: the run of the body at the points that store key codes. -/
module

public import proofs.«01_k».proof.Proof.KQkvIdeal.RunB

@[expose] public section

-- membership in a rectangle of production extents (`View.cover_of_tiled`): the elaborator's structural look
-- recurses once per coordinate of the long axes
set_option maxRecDepth 16384

noncomputable section

namespace Cert.KQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 6, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_C (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) :
    Σ' (L10 : List (View.Piece (Elt F) S48x512 .fp8e4m3)), { LS0 : List (View.Piece (Elt F) S48x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, [], fun E K => ?run⟩
  case run =>
    simp only [cc0_qkv_eq_skeleton]; unfold cc0_qkv_skel
    simp only [k0_part21_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]; · iexists _; iexact H10
    iexists _; isplitr; · ipureintro; exact harg12.read_unread _
    iexact HS0

end Cert.KQkvIdeal.Gen

end
-- ==== Proof.KQkvIdeal.RunD.lean ====
/- The qkv projection, idealized: the run of the body at the points that store value codes. -/
module

public import proofs.«01_k».proof.Proof.KQkvIdeal.RunC

@[expose] public section

-- membership in a rectangle of production extents (`View.cover_of_tiled`): the elaborator's structural look
-- recurses once per coordinate of the long axes
set_option maxRecDepth 16384

noncomputable section

namespace Cert.KQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 8, 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def kernelRun0_D (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) :
    Σ' (L10 : List (View.Piece (Elt F) S48x512 .fp8e4m3)), { LS0 : List (View.Piece (Elt F) S48x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, [], fun E K => ?run⟩
  case run =>
    simp only [cc0_qkv_eq_skeleton]; unfold cc0_qkv_skel
    simp only [k0_part21_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]; · iexists _; iexact H10
    iexists _; isplitr; · ipureintro; exact harg12.read_unread _
    iexact HS0

end Cert.KQkvIdeal.Gen

end
-- ==== Proof.KQkvIdeal.Frame.lean ====
/- The qkv projection, idealized: what the code window and the scratch hold after each grid point, the body's obligation, the run of the program and its frame. Of the query window
   (window 9), which the program does not return, nothing is stated. -/
module

public import proofs.«01_k».proof.Proof.KQkvIdeal.RunD
public import Idealize.ShloMosaic.Lib.Claim

@[expose] public section

-- membership in a rectangle of production extents (`View.cover_of_tiled`): the elaborator's structural look
-- recurses once per coordinate of the long axes
set_option maxRecDepth 16384

noncomputable section

namespace Cert.KQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) : Vec F S48x512 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).1)

/-- Case A's pieces for scratch `arg12`, which the kernel carries between points, cover it: 6 pieces of `S48x512` tiling it (Lib/Ring.lean `Piece.tiledL`). -/
theorem scover0_A_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (y : S48x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).2.1 S48x512.size (by sl_kernel_rfl) y

/-- What case A leaves in scratch `arg12`: its pieces read back over junk. -/
def sout0_A_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) : Vec F S48x3072 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8).2.1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x512 .fp8e4m3 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1)

/-- Case B stores nothing into scratch `arg12`: it holds what the point before left. -/
def sout0_B_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : cond0_1 i) (hc2 : ¬cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x3072 .bf16 := xs0

/-- Case C's pieces for output 10 tile its block (4 stores of `S48x128`, checked by the kernel's evaluation: Lib/Ring.lean `Piece.tiledL`, linear in the pieces, through a loop's `@[irreducible]` trip theorem too), so they cover it. -/
theorem cover0_C_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) (y : S48x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1 S48x128.size (by sl_kernel_rfl) y

/-- What case C leaves in output 10's staging buffer: its pieces read back over junk. -/
def out0_C_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x512 .fp8e4m3 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1)

/-- Case C stores nothing into scratch `arg12`: it holds what the point before left. -/
def sout0_C_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : cond0_2 i) (hc3 : ¬cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x3072 .bf16 := xs0

/-- Case D's pieces for output 10 tile its block (4 stores of `S48x128`, checked by the kernel's evaluation: Lib/Ring.lean `Piece.tiledL`, linear in the pieces, through a loop's `@[irreducible]` trip theorem too), so they cover it. -/
theorem cover0_D_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) (y : S48x512.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1 S48x128.size (by sl_kernel_rfl) y

/-- What case D leaves in output 10's staging buffer: its pieces read back over junk. -/
def out0_D_10 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x512 .fp8e4m3 :=
  VO0_10.read (Elt F) (VO0_10.writes (Elt F) VO0_10.junk (kernelRun0_D c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 xs0).1)

/-- Case D stores nothing into scratch `arg12`: it holds what the point before left. -/
def sout0_D_0 (c : Dev nD) (i : grid0.Coords) (arg1 : Memref sig .tc .vmem S48x3072 .bf16) (harg1 : arg1.IsWhole) (arg2 : Memref sig .tc .vmem S1x3072 .f32) (harg2 : arg2.IsWhole) (arg3 : Memref sig .tc .vmem S512x768 .i8) (harg3 : arg3.IsWhole) (arg4 : Memref sig .tc .vmem S192x512 .i16) (harg4 : arg4.IsWhole) (arg5 : Memref sig .tc .vmem S24x512 .f32) (harg5 : arg5.IsWhole) (arg6 : Memref sig .tc .vmem S48x128 .f32) (harg6 : arg6.IsWhole) (arg7 : Memref sig .tc .vmem S48x128 .f32) (harg7 : arg7.IsWhole) (arg8 : Memref sig .tc .smem S8 .f32) (harg8 : arg8.IsWhole) (arg9 : Memref sig .tc .smem S8 .f32) (harg9 : arg9.IsWhole) (arg10 : Memref sig .tc .vmem S48x512 .bf16) (harg10 : arg10.IsWhole) (arg11 : Memref sig .tc .vmem S48x512 .fp8e4m3) (harg11 : arg11.IsWhole) (arg12 : Memref sig .tc .vmem S48x3072 .bf16) (harg12 : arg12.IsWhole) (hc0 : ¬cond0_0 i) (hc1 : ¬cond0_1 i) (hc2 : ¬cond0_2 i) (hc3 : cond0_3 i)
    (x0 : Vec F S48x3072 .bf16) (x1 : Vec F S1x3072 .f32) (x2 : Vec F S512x768 .i8) (x3 : Vec F S192x512 .i16) (x4 : Vec F S24x512 .f32) (x5 : Vec F S48x128 .f32) (x6 : Vec F S48x128 .f32) (x7 : Vec F S8 .f32) (x8 : Vec F S8 .f32) (xs0 : Vec F S48x3072 .bf16) : Vec F S48x3072 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S48x512 .fp8e4m3 × Vec F S48x3072 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 10 = 0 then
      if h1 : (n + 1) < 6 then
        if h2 : (6 ≤ (n + 1) % 10 ∧ (n + 1) % 10 ≤ 7) then
          False.elim (by have hN : n + 1 < 10 := lt_of_lt_of_eq hn (show cfg0.N = 10 from N_0); omega)
        else
          if h3 : 8 ≤ (n + 1) then
            False.elim (by have hN : n + 1 < 10 := lt_of_lt_of_eq hn (show cfg0.N = 10 from N_0); omega)
          else
            (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
      else
        False.elim (by have hN : n + 1 < 10 := lt_of_lt_of_eq hn (show cfg0.N = 10 from N_0); omega)
    else
      if h1 : (n + 1) < 6 then
        if h2 : (6 ≤ (n + 1) % 10 ∧ (n + 1) % 10 ≤ 7) then
          False.elim (by have hN : n + 1 < 10 := lt_of_lt_of_eq hn (show cfg0.N = 10 from N_0); omega)
        else
          if h3 : 8 ≤ (n + 1) then
            False.elim (by have hN : n + 1 < 10 := lt_of_lt_of_eq hn (show cfg0.N = 10 from N_0); omega)
          else
            (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
      else
        if h2 : (6 ≤ (n + 1) % 10 ∧ (n + 1) % 10 ≤ 7) then
          if h3 : 8 ≤ (n + 1) then
            False.elim (by have hN : n + 1 < 10 := lt_of_lt_of_eq hn (show cfg0.N = 10 from N_0); omega)
          else
            (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
        else
          if h3 : 8 ≤ (n + 1) then
            (out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
          else
            False.elim (by have hN : n + 1 < 10 := lt_of_lt_of_eq hn (show cfg0.N = 10 from N_0); omega)

/-- `outsAt0` at a point of case A: that case's contents. -/
theorem outsAt0_A (c : Dev nD) (t : Fin cfg0.N) (h0 : t.val % 10 = 0) (h1 : t.val < 6) (h2 : ¬(6 ≤ t.val % 10 ∧ t.val % 10 ≤ 7)) (h3 : ¬8 ≤ t.val) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 10 = 0) (h1 : t.val < 6) (h2 : ¬(6 ≤ t.val % 10 ∧ t.val % 10 ≤ 7)) (h3 : ¬8 ≤ t.val) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 10 = 0) (h1 : ¬t.val < 6) (h2 : (6 ≤ t.val % 10 ∧ t.val % 10 ≤ 7)) (h3 : ¬8 ≤ t.val) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 10 = 0) (h1 : ¬t.val < 6) (h2 : ¬(6 ≤ t.val % 10 ∧ t.val % 10 ≤ 7)) (h3 : 8 ≤ t.val) :
    outsAt0 m c t.val t.isLt = (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The output windows this certificate FORGETS (9): nothing reads what the kernel leaves in them, so nothing
    of it is named (Lib/Pipeline/Dat.lean `Dat.toRForget`). -/
def forgets0 : Fin 11 → Bool := fun w => w.val == 9
theorem forgets0_10 : forgets0 (10 : Fin 11) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_10 (c : Dev nD) (t : Fin cfg0.N) : (dats m 0 c).after 10 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (dats m 0 c).leavesExact 10 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 10 = 0
  · by_cases h1 : t.val < 6
    · by_cases h2 : (6 ≤ t.val % 10 ∧ t.val % 10 ≤ 7)
      · exfalso; omega
      · by_cases h3 : 8 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [Dat.leavesExact_idle (dats m 0 c) 10 t (idleAt0_10_A t ((hcond0_0 t).mpr h0) ((hcond0_1 t).mpr h1) (fun h => h2 ((hcond0_2 t).mp h)) (fun h => h3 ((hcond0_3 t).mp h))) (noFlush0_10_A t ((hcond0_0 t).mpr h0) ((hcond0_1 t).mpr h1) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [HS0]; · iexact HS0
            iintro ⟨H0, H1, H2, H3, H4, H5, H6, H7, H8, H9, H10, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexists _; iexact H10
          · exfalso; have hN : t.val < 10 := lt_of_lt_of_eq t.isLt (show cfg0.N = 10 from N_0); omega
    · exfalso; omega
  · by_cases h1 : t.val < 6
    · by_cases h2 : (6 ≤ t.val % 10 ∧ t.val % 10 ≤ 7)
      · exfalso; omega
      · by_cases h3 : 8 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [Dat.leavesExact_idle (dats m 0 c) 10 t (idleAt0_10_B t (fun h => h0 ((hcond0_0 t).mp h)) ((hcond0_1 t).mpr h1) (fun h => h2 ((hcond0_2 t).mp h)) (fun h => h3 ((hcond0_3 t).mp h))) (noFlush0_10_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 10 := lt_of_lt_of_eq t.isLt (show cfg0.N = 10 from N_0); omega
          · rw [PhiS_castSucc m c t, PhiS_pos m c _ _ hz]
            rw [outsAt0_B m c t h0 h1 h2 h3]
            unfold sout0_B_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [HS0]; · iexact HS0
            iintro ⟨H0, H1, H2, H3, H4, H5, H6, H7, H8, H9, H10, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            iexists _; iexact H10
    · by_cases h2 : (6 ≤ t.val % 10 ∧ t.val % 10 ≤ 7)
      · by_cases h3 : 8 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2) (fun h => h3 ((hcond0_3 t).mp h))], after0_10]
          by_cases hz : t.val = 0
          · exfalso; have hN : t.val < 10 := lt_of_lt_of_eq t.isLt (show cfg0.N = 10 from N_0); omega
          · rw [PhiS_castSucc m c t, PhiS_pos m c _ _ hz]
            rw [outsAt0_C m c t h0 h1 h2 h3]
            unfold out0_C_10 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [HS0]; · iexact HS0
            iintro ⟨H0, H1, H2, H3, H4, H5, H6, H7, H8, H9, ⟨%e10, H10⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _)
      · by_cases h3 : 8 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) ((hcond0_3 t).mpr h3)], after0_10]
          by_cases hz : t.val = 0
          · exfalso; have hN : t.val < 10 := lt_of_lt_of_eq t.isLt (show cfg0.N = 10 from N_0); omega
          · rw [PhiS_castSucc m c t, PhiS_pos m c _ _ hz]
            rw [outsAt0_D m c t h0 h1 h2 h3]
            unfold out0_D_10 sout0_D_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [HS0]; · iexact HS0
            iintro ⟨H0, H1, H2, H3, H4, H5, H6, H7, H8, H9, ⟨%e10, H10⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_KQkvIdeal`'s statement (Defs.lean) at any `F` — Proof.lean cites it at `Bits`:
    `theorem Cert.Proof.claim : Cert.Claim := ⟨Cert.KQkvIdeal.Gen.facts, fun m ρ _ => Cert.KQkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KQkvIdeal.Gen

end
-- ==== Proof.KQkvIdeal.Value.lean ====
/- The qkv projection, idealized: the code array after the run, block by block, and the carried scratch as a fold over the grid points. -/
module

public import proofs.«01_k».proof.Proof.KQkvIdeal.Frame
public import Idealize.ShloMosaic.Lib.Pipeline.Value

@[expose] public section

noncomputable section

namespace Cert.KQkvIdeal.Value

open Cert.KQkvIdeal Cert.KQkvIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the run's contents for that window after the body (`Gen.outsAt0`: its component 0), read through the window's block. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 10 = 0) (h1 : t.val < 6) (h2 : ¬(6 ≤ t.val % 10 ∧ t.val % 10 ≤ 7)) (h3 : ¬8 ≤ t.val) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)) := by
  simp only [flushed10, outsAt0_A m c t h0 h1 h2 h3]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 10 = 0) (h1 : t.val < 6) (h2 : ¬(6 ≤ t.val % 10 ∧ t.val % 10 ≤ 7)) (h3 : ¬8 ≤ t.val) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  simp only [flushed10, outsAt0_B m c t h0 h1 h2 h3]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 10 = 0) (h1 : ¬t.val < 6) (h2 : (6 ≤ t.val % 10 ∧ t.val % 10 ≤ 7)) (h3 : ¬8 ≤ t.val) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  simp only [flushed10, outsAt0_C m c t h0 h1 h2 h3]

/-- … so at a point where case D runs, what its write-back would write is that case's NAMED TERM for the window (`Gen.out0_D_10`: the pieces
    its run found, read back) at the point's memrefs and input blocks, and for an output the case reads back what the point before left (`Gen.outsAt0` at `t - 1`) — by the frame's rewriting lemma for the case. -/
theorem flushed10_D (c : Dev nD) (t : Fin cfg0.N) (h0 : ¬t.val % 10 = 0) (h1 : ¬t.val < 6) (h2 : ¬(6 ≤ t.val % 10 ∧ t.val % 10 ≤ 7)) (h3 : 8 ≤ t.val) :
    (dats m 0 c).flushed 10 t = (cfg0.win 10).cut (grid0.coords t) (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  simp only [flushed10, outsAt0_D m c t h0 h1 h2 h3]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S48x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 11) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 10's array is `(dats m 0 c).arrAt 10 N`. -/
theorem post10 (r : PUnit × MemSt nD τ sig (Elt F)) (h : Pipeline.RDat.FramePost (cfgs 0) (fun c => (dats m 0 c).toRForget forgets0) (V m) r) (c : Dev nD) :
    r.2.mem ((c : Thread nD τ).loc main_v9_1) = (dats m 0 c).arrAt 10 cfg0.N :=
  finalR_out0 m r h c 10 forgets0_10

/-- After the frame run, argument `main_arg0` is as launched: no window stages it, and the run leaves the region's other buffers as they were. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

/-- After the frame run, argument `main_arg3` is as launched: no window stages it, and the run leaves the region's other buffers as they were. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  (Pipeline.RDat.FramePost.arr_in h c 7 rfl).trans ((A_eq m c 7).trans (V_main_arg7 m c))

/-- After the frame run, argument `main_arg8` is as launched: input window 8 stages it and never writes it back. -/
theorem kept_main_arg8 (r : PUnit × MemSt nD τ sig (Elt F)) (h : Pipeline.RDat.FramePost (cfgs 0) (fun c => (dats m 0 c).toRForget forgets0) (V m) r) (c : Dev nD) :
    r.2.mem ((c : Thread nD τ).loc main_arg8) = m ((c : Thread nD τ).loc main_arg8) :=
  (Pipeline.RDat.FramePost.arr_in h c 8 rfl).trans ((A_eq m c 8).trans (V_main_arg8 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9_1) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S48x3072 .bf16) : Vec F S48x3072 .bf16 :=
  if h0 : n % 10 = 0 then
    if h1 : n < 6 then
      if h2 : (6 ≤ n % 10 ∧ n % 10 ≤ 7) then
        acc
      else
        if h3 : 8 ≤ n then
          acc
        else
          sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N))
    else
      acc
  else
    if h1 : n < 6 then
      if h2 : (6 ≤ n % 10 ∧ n % 10 ≤ 7) then
        acc
      else
        if h3 : 8 ≤ n then
          acc
        else
          sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc
    else
      if h2 : (6 ≤ n % 10 ∧ n % 10 ≤ 7) then
        if h3 : 8 ≤ n then
          acc
        else
          sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc
      else
        if h3 : 8 ≤ n then
          sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc
        else
          acc

/-- WHAT CARRIED SCRATCH 0 HOLDS after point `t`: the fold of its run up to `t`, from the reset at the run's first point
    `10·(t / 10)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (10 * (t.val / 10)) (t.val % 10)
      (by have h1 := t.isLt; have h2 := Nat.div_add_mod t.val 10; omega) :=
  Pipeline.eq_accAt_of_mod (fun n h => (outsAt0 m c n h).2) 10 (fun n h => scAt0_0 m c n h (VS0_0.read (Elt F) VS0_0.junk)) (scAt0_0 m c)
    (fun n h hn => by
      have hN := lt_of_lt_of_eq h (show cfg0.N = 10 from N_0)
      by_cases h0 : n % 10 = 0 <;> by_cases h1 : n < 6 <;> by_cases h2 : (6 ≤ n % 10 ∧ n % 10 ≤ 7) <;> by_cases h3 : 8 ≤ n
      all_goals first | (exfalso; omega) | (rw [outsAt0_A m c ⟨n, h⟩ h0 h1 h2 h3]; dsimp only; unfold scAt0_0; rw [dif_pos h0, dif_pos h1, dif_neg h2, dif_neg h3] <;> try rfl) | (rw [outsAt0_B m c ⟨n, h⟩ h0 h1 h2 h3]; dsimp only; unfold scAt0_0; rw [dif_neg h0, dif_pos h1, dif_neg h2, dif_neg h3] <;> try rfl) | (rw [outsAt0_C m c ⟨n, h⟩ h0 h1 h2 h3]; dsimp only; unfold scAt0_0; rw [dif_neg h0, dif_neg h1, dif_pos h2, dif_neg h3] <;> try rfl) | (rw [outsAt0_D m c ⟨n, h⟩ h0 h1 h2 h3]; dsimp only; unfold scAt0_0; rw [dif_neg h0, dif_neg h1, dif_neg h2, dif_pos h3] <;> try rfl))
    (fun n h hn => by
      have hN := lt_of_lt_of_eq h (show cfg0.N = 10 from N_0)
      by_cases h0 : (n + 1) % 10 = 0 <;> by_cases h1 : (n + 1) < 6 <;> by_cases h2 : (6 ≤ (n + 1) % 10 ∧ (n + 1) % 10 ≤ 7) <;> by_cases h3 : 8 ≤ (n + 1)
      all_goals first | (exfalso; omega) | (rw [outsAt0_A m c ⟨n + 1, h⟩ h0 h1 h2 h3]; dsimp only; unfold scAt0_0; rw [dif_pos h0, dif_pos h1, dif_neg h2, dif_neg h3] <;> try rfl) | (rw [outsAt0_B m c ⟨n + 1, h⟩ h0 h1 h2 h3]; dsimp only; unfold scAt0_0; rw [dif_neg h0, dif_pos h1, dif_neg h2, dif_neg h3] <;> try rfl) | (rw [outsAt0_C m c ⟨n + 1, h⟩ h0 h1 h2 h3]; dsimp only; unfold scAt0_0; rw [dif_neg h0, dif_neg h1, dif_pos h2, dif_neg h3] <;> try rfl) | (rw [outsAt0_D m c ⟨n + 1, h⟩ h0 h1 h2 h3]; dsimp only; unfold scAt0_0; rw [dif_neg h0, dif_neg h1, dif_neg h2, dif_pos h3] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 10 from N_0)
  have hd : n / 10 = 0 := Nat.div_eq_of_lt hN
  have hm : n % 10 = n := Nat.mod_eq_of_lt hN
  simpa only [hd, hm, Nat.mul_zero] using e

end Cert.KQkvIdeal.Value

end
-- ==== Proof.Words.lean ====
/- The 2:4 decode on words, byte by byte: what the kernel's word operations (shifts, ands, xors on four bytes at a time) leave in one byte, and the
   integer that byte is when the metadata nibble names two different slots in order. -/
module

public import Idealize.ShloMosaic.Lib.Pointwise
public import Idealize.ShloMosaic.Lib.Pointwise.IndexVar
public import Idealize.ShloMosaic.Lib.BitcastFour

@[expose] public section

set_option maxRecDepth 16384

noncomputable section

namespace Cert.Sparse

open Idealize.ShloMosaic

/-- A matrix shape. -/
abbrev Sh (a b : Nat) : Shape := ⟨2, ![a, b]⟩

/-! ## Reinterpretations read at a bit -/

/-- A byte of a row of words: row `g` of the bytes is byte `g % 4` of word row `g / 4`. -/
theorem byte_of_word {R r n : Nat} (W : IVec (Sh r n) 32) (h : (Sh r n).Bitcasts 32 (Sh R n) 8) (g : Fin R) (a : Fin r) (c : Fin n)
    (ha : a.val = g.val / 4) (q : Nat) (hq : q < 8) :
    (bitcast (Sh R n) 8 W h (ix2 g c)).getLsbD q = (W (ix2 a c)).getLsbD (8 * (g.val % 4) + q) := by
  rw [bitcast_getLsbD W h _ q hq (by decide)]
  have hr : (Sh R n).row (ix2 g c) = g.val := rfl
  have e1 : ((Sh R n).row (ix2 g c) * 8 + q) / 32 = a.val := by rw [hr, ha]; omega
  have e2 : ((Sh R n).row (ix2 g c) * 8 + q) % 32 = 8 * (g.val % 4) + q := by rw [hr]; omega
  rw [e2]
  congr 2
  funext d
  match d with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A word of two 16-bit rows: bit `q` of word row `a` is bit `q % 16` of row `2a + q / 16`. -/
theorem word_of_halves {R r n : Nat} (x : IVec (Sh R n) 16) (h : (Sh R n).Bitcasts 16 (Sh r n) 32) (a : Fin r) (c : Fin n) (p : Fin R)
    (q : Nat) (hq : q < 32) (hp : p.val = 2 * a.val + q / 16) :
    (bitcast (Sh r n) 32 x h (ix2 a c)).getLsbD q = (x (ix2 p c)).getLsbD (q % 16) := by
  rw [bitcast_getLsbD x h _ q hq (by decide)]
  have hr : (Sh r n).row (ix2 a c) = a.val := rfl
  have e1 : ((Sh r n).row (ix2 a c) * 32 + q) / 16 = p.val := by rw [hr, hp]; omega
  have e2 : ((Sh r n).row (ix2 a c) * 32 + q) % 16 = q % 16 := by rw [hr]; omega
  rw [e2]
  congr 2
  funext d
  match d with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-! ## The mask of one metadata bit -/

/-- The word from which a byte's mask is taken: the metadata word shifted so that the wanted bit of nibble `k` is the top bit, then spread down. -/
def spread (x : BitVec 32) (g : BitVec 32) : BitVec 8 :=
  (IntOp.shrsi .vector (IntOp.shli .vector x (IntOp.subi 28#32 (IntOp.muli 4#32 (IntOp.andi g 7#32)))) 28#32).setWidth 8

/-- Above its low nibble, the spread byte repeats bit `4 (g % 8) + 3` of the word. -/
theorem spread_bit (x : BitVec 32) (g : Nat) (hg : g < 128) (q : Nat) (h4 : 4 ≤ q) (hq : q < 8) :
    (spread x (BitVec.ofNat 32 g)).getLsbD q = x.getLsbD (4 * (g % 8) + 3) := by
  have e : IntOp.andi (BitVec.ofNat 32 g) 7#32 = BitVec.ofNat 32 (g % 8) := by
    have : ∀ g : Fin 128, IntOp.andi (BitVec.ofNat 32 g.val) 7#32 = BitVec.ofNat 32 (g.val % 8) := by decide +kernel
    exact this ⟨g, hg⟩
  unfold spread
  rw [e]
  have h8 : g % 8 < 8 := Nat.mod_lt _ (by decide)
  generalize g % 8 = k at h8
  interval_cases k <;> interval_cases q <;>
    simp [IntOp.shrsi, IntOp.shli, IntOp.subi, IntOp.muli, BitVec.getElem_sshiftRight, BitVec.getLsbD_setWidth, BitVec.getLsbD_shiftLeft] <;>
    first | exact BitVec.msb_eq_getLsbD_last x | simp [BitVec.getMsbD]

/-! ## The four slot bytes -/

/-- A byte of ones or of zeros. -/
def ones (b : Bool) : BitVec 8 := if b then 255#8 else 0#8

/-- The byte that the kernel leaves for slot `j`, from the code byte `v` and the four bits of its metadata nibble. -/
def slotByte (j : Fin 4) (v : BitVec 8) (b : Nat → Bool) : BitVec 8 :=
  let lo := (v <<< 4) &&& 240#8
  let hi := v &&& 240#8
  let l1 := lo &&& ones (b 0)
  let l2 := lo &&& ones (b 1)
  let h3 := hi &&& ones (b 3)
  let p3 := h3 &&& ones (b 2)
  match j with
  | 0 => (lo ^^^ l1) ^^^ l2
  | 1 => l1 ||| (hi ^^^ h3)
  | 2 => l2 ||| (h3 ^^^ p3)
  | 3 => p3

/-- The same on a word of four bytes, as the kernel computes it, from the word of codes and the four words of masks. -/
def slotWord (j : Fin 4) (w b0 b1 b2 b3 : BitVec 32) : BitVec 32 :=
  let lo := IntOp.andi (IntOp.shli .vector w 4#32) 4042322160#32
  let hi := IntOp.andi w 4042322160#32
  let l1 := IntOp.andi lo b0
  let l2 := IntOp.andi lo b1
  let h3 := IntOp.andi hi b3
  let p3 := IntOp.andi h3 b2
  match j with
  | 0 => IntOp.xori (IntOp.xori lo l1) l2
  | 1 => IntOp.ori l1 (IntOp.xori hi h3)
  | 2 => IntOp.ori l2 (IntOp.xori h3 p3)
  | 3 => p3

theorem ones_bit (b : Bool) (q : Nat) (hq : q < 8) : (ones b).getLsbD q = b := by
  cases b <;> interval_cases q <;> rfl

/-- Byte `m` of the slot word is the slot byte of byte `m` of the codes. -/
theorem slotWord_bit (j : Fin 4) (w b0 b1 b2 b3 : BitVec 32) (v : BitVec 8) (b : Nat → Bool) (m : Nat) (hm : m < 4)
    (hv : ∀ q, q < 8 → w.getLsbD (8 * m + q) = v.getLsbD q)
    (h0 : ∀ q, 4 ≤ q → q < 8 → b0.getLsbD (8 * m + q) = b 0) (h1 : ∀ q, 4 ≤ q → q < 8 → b1.getLsbD (8 * m + q) = b 1)
    (h2 : ∀ q, 4 ≤ q → q < 8 → b2.getLsbD (8 * m + q) = b 2) (h3 : ∀ q, 4 ≤ q → q < 8 → b3.getLsbD (8 * m + q) = b 3)
    (q : Nat) (hq : q < 8) :
    (slotWord j w b0 b1 b2 b3).getLsbD (8 * m + q) = (slotByte j v b).getLsbD q := by
  have hlo : (IntOp.andi (IntOp.shli .vector w 4#32) 4042322160#32).getLsbD (8 * m + q) = ((v <<< 4) &&& 240#8).getLsbD q := by
    have e : 4 ≤ q → w.getLsbD (8 * m + q - 4) = v.getLsbD (q - 4) := fun h => by
      have := hv (q - 4) (by omega)
      rwa [show 8 * m + (q - 4) = 8 * m + q - 4 by omega] at this
    simp only [IntOp.andi, IntOp.shli, BitVec.getLsbD_and]
    rw [if_pos (by decide)]
    simp only [BitVec.shiftLeft_eq', BitVec.getLsbD_shiftLeft]
    by_cases h4 : 4 ≤ q
    · simp only [show (4#32 : BitVec 32).toNat = 4 from rfl, e h4]
      have : (4042322160#32 : BitVec 32).getLsbD (8 * m + q) = true ∧ (240#8 : BitVec 8).getLsbD q = true := by
        interval_cases m <;> interval_cases q <;> exact ⟨rfl, rfl⟩
      rw [this.1, this.2]
      simp [show 8 * m + q < 32 by omega, show ¬ 8 * m + q < 4 by omega, hq, show ¬ q < 4 by omega]
    · have : (4042322160#32 : BitVec 32).getLsbD (8 * m + q) = false ∧ (240#8 : BitVec 8).getLsbD q = false := by
        interval_cases m <;> interval_cases q <;> first | exact ⟨rfl, rfl⟩ | omega
      rw [this.1, this.2, Bool.and_false, Bool.and_false]
  have hhi : (IntOp.andi w 4042322160#32).getLsbD (8 * m + q) = (v &&& 240#8).getLsbD q := by
    simp only [IntOp.andi, BitVec.getLsbD_and, hv q hq]
    congr 1
    interval_cases m <;> interval_cases q <;> rfl
  have zlo : q < 4 → ((v <<< 4) &&& 240#8).getLsbD q = false := fun h => by
    rw [BitVec.getLsbD_and]; interval_cases q <;> simp
  have zhi : q < 4 → (v &&& 240#8).getLsbD q = false := fun h => by
    rw [BitVec.getLsbD_and]; interval_cases q <;> simp
  unfold slotWord slotByte
  by_cases h4 : 4 ≤ q
  · match j with
    | 0 => simp only [IntOp.xori, IntOp.andi, BitVec.getLsbD_xor, BitVec.getLsbD_and, ones_bit _ q hq, h0 q h4 hq, h1 q h4 hq] at hlo hhi ⊢; rw [hlo]
    | 1 => simp only [IntOp.xori, IntOp.ori, IntOp.andi, BitVec.getLsbD_xor, BitVec.getLsbD_or, BitVec.getLsbD_and, ones_bit _ q hq, h0 q h4 hq, h3 q h4 hq] at hlo hhi ⊢; rw [hlo, hhi]
    | 2 => simp only [IntOp.xori, IntOp.ori, IntOp.andi, BitVec.getLsbD_xor, BitVec.getLsbD_or, BitVec.getLsbD_and, ones_bit _ q hq, h1 q h4 hq, h2 q h4 hq, h3 q h4 hq] at hlo hhi ⊢; rw [hlo, hhi]
    | 3 => simp only [IntOp.andi, BitVec.getLsbD_and, ones_bit _ q hq, h2 q h4 hq, h3 q h4 hq] at hlo hhi ⊢; rw [hhi]
  · have zl := hlo.trans (zlo (by omega))
    have zh := hhi.trans (zhi (by omega))
    have yl := zlo (by omega)
    have yh := zhi (by omega)
    generalize IntOp.andi (IntOp.shli .vector w 4#32) 4042322160#32 = lo at zl ⊢
    generalize IntOp.andi w 4042322160#32 = hi at zh ⊢
    generalize v <<< 4 &&& 240#8 = lo' at yl ⊢
    generalize v &&& 240#8 = hi' at yh ⊢
    match j with
    | 0 => simp [IntOp.xori, IntOp.andi, BitVec.getLsbD_xor, BitVec.getLsbD_and, zl, yl]
    | 1 => simp [IntOp.xori, IntOp.ori, IntOp.andi, BitVec.getLsbD_xor, BitVec.getLsbD_or, BitVec.getLsbD_and, zl, zh, yl, yh]
    | 2 => simp [IntOp.xori, IntOp.ori, IntOp.andi, BitVec.getLsbD_xor, BitVec.getLsbD_or, BitVec.getLsbD_and, zl, zh, yl, yh]
    | 3 => simp [IntOp.andi, BitVec.getLsbD_and, zh, yh]

/-! ## The integer a slot holds -/

/-- A four-bit two's complement number. -/
def int4 (f : Nat) : ℤ := if 8 ≤ f then (f : ℤ) - 16 else f

/-- The integer in slot `j` of the group whose code byte is `v` and whose metadata nibble is `nib`: the low code where the nibble's first
    field names `j`, else the high code where its second field does, else zero. -/
def slotInt (j : Fin 4) (v : BitVec 8) (nib : Nat) : ℤ :=
  if nib % 4 = j.val then int4 (v.toNat % 16) else if nib / 4 = j.val then int4 (v.toNat / 16) else 0

/-- Where the nibble's two fields are in order, the kernel's slot byte is sixteen times that integer. -/
theorem slotByte_toInt (j : Fin 4) (v : BitVec 8) (nib : Nat) (hn : nib < 16) (h : nib % 4 < nib / 4) :
    (slotByte j v (fun k => nib.testBit k)).toInt = 16 * slotInt j v nib := by
  have key : ∀ (nib : Fin 16), nib.val % 4 < nib.val / 4 → ∀ (j : Fin 4) (x : Fin 256),
      (slotByte j (BitVec.ofNat 8 x.val) (fun k => nib.val.testBit k)).toInt = 16 * slotInt j (BitVec.ofNat 8 x.val) nib.val := by
    decide +kernel
  have := key ⟨nib, hn⟩ h j ⟨v.toNat, v.isLt⟩
  simpa using this

end Cert.Sparse

end
-- ==== Proof.Sparse.lean ====
/- One tile of the kernel's sparse product: its four decoded planes, the weights they make with the block scales, and the sum the tile's
   product is, in the words of the 2:4 format. -/
module

public import proofs.«01_k».proof.Proof.Words
public import Idealize.ShloMosaic.Lib.MatmulPlain
public import Idealize.ShloMosaic.Lib.IdealHost
public import Idealize.ShloMosaic.Lib.Pipeline.Value

@[expose] public section

set_option maxRecDepth 16384

noncomputable section

namespace Cert.Sparse

open Idealize.ShloMosaic
open scoped BigOperators

/-- The shape facts of a tile of `n` output columns. -/
structure Ev (n : Nat) : Prop where
  tr : (Sh n 128).Transposes [1, 0] (Sh 128 n)
  w8 : (Sh 128 n).Bitcasts 8 (Sh 32 n) 32
  w16 : (Sh 32 n).Bitcasts 16 (Sh 16 n) 32
  e1 : (Sh 16 n).ShapeCasts ⟨3, ![16, 1, n]⟩
  e2 : Shape.Broadcasts ⟨3, ![16, 1, n]⟩ ⟨3, ![16, 8, n]⟩
  e3 : Shape.ShapeCasts ⟨3, ![16, 8, n]⟩ (Sh 128 n)
  io : (Sh 128 n).Iotas .tc 32 [0]
  b8 : (Sh 32 n).Bitcasts 32 (Sh 128 n) 8
  s0 : (Sh 4 n).Slices ![0, 0] (Sh 1 n)
  s1 : (Sh 4 n).Slices ![1, 0] (Sh 1 n)
  s2 : (Sh 4 n).Slices ![2, 0] (Sh 1 n)
  s3 : (Sh 4 n).Slices ![3, 0] (Sh 1 n)
  bc : (Sh 1 n).Broadcasts (Sh 32 n)
  idc : (Sh 1 n).ShapeCasts (Sh 1 n)
  id4 : (Sh 4 n).ShapeCasts (Sh 4 n)
  id32 : (Sh 32 n).ShapeCasts (Sh 32 n)
  c32 : Shape.Concatenates [Sh 32 n, Sh 32 n, Sh 32 n, Sh 32 n] (Sh 128 n) 0
  c128 : Shape.Concatenates [Sh 128 n, Sh 128 n, Sh 128 n, Sh 128 n] (Sh 512 n) 0

variable {n : Nat} (E : Ev n)

/-! ## What the kernel computes -/

/-- The byte masks, as bytes: every metadata word spread over its eight nibbles. -/
def maskBytes (m : IVec (Sh 16 n) 32) : IVec (Sh 128 n) 8 :=
  trunci 8 (shrsi (shli (shapeCast (Sh 128 n) (broadcastTo ⟨3, ![16, 8, n]⟩ (shapeCast ⟨3, ![16, 1, n]⟩ m E.e1) E.e2) E.e3)
    (subi (broadcast (Sh 128 n) 28#32) (muli (broadcast (Sh 128 n) 4#32) (andi (iota .tc (Sh 128 n) 32 [0] E.io) (broadcast (Sh 128 n) 7#32)))))
    (broadcast (Sh 128 n) 28#32)) (by decide)

/-- The metadata as words of two rows. -/
def metaWords (M : IVec (Sh 32 n) 16) : IVec (Sh 16 n) 32 := bitcast (Sh 16 n) 32 M E.w16

/-- The metadata words from which the masks of bit `k` are spread: shifted up by `3 - k`. -/
def shifted (M : IVec (Sh 32 n) 16) (k : Fin 4) : IVec (Sh 16 n) 32 :=
  match k with
  | 0 => shli (metaWords E M) (broadcast (Sh 16 n) 3#32)
  | 1 => shli (metaWords E M) (broadcast (Sh 16 n) 2#32)
  | 2 => shli (metaWords E M) (broadcast (Sh 16 n) 1#32)
  | 3 => metaWords E M

/-- The words of masks of metadata bit `k`. -/
def maskWords (M : IVec (Sh 32 n) 16) (k : Fin 4) : IVec (Sh 32 n) 32 := bitcast (Sh 32 n) 32 (maskBytes E (shifted E M k)) E.w8

/-- The codes as words of four rows. -/
def codeWords (V : IVec (Sh n 128) 8) : IVec (Sh 32 n) 32 := bitcast (Sh 32 n) 32 (transpose (Sh 128 n) [1, 0] V E.tr) E.w8

/-- The words decoded for slot `j`. -/
def slotWords (w b0 b1 b2 b3 : IVec (Sh 32 n) 32) (j : Fin 4) : IVec (Sh 32 n) 32 :=
  let lo := andi (shli w (broadcast (Sh 32 n) 4#32)) (broadcast (Sh 32 n) 4042322160#32)
  let hi := andi w (broadcast (Sh 32 n) 4042322160#32)
  let l1 := andi lo b0
  let l2 := andi lo b1
  let h3 := andi hi b3
  let p3 := andi h3 b2
  match j with
  | 0 => xori (xori lo l1) l2
  | 1 => ori l1 (xori hi h3)
  | 2 => ori l2 (xori h3 p3)
  | 3 => p3

/-- The bytes decoded for slot `j`. -/
def plane (V : IVec (Sh n 128) 8) (M : IVec (Sh 32 n) 16) (j : Fin 4) : IVec (Sh 128 n) 8 :=
  bitcast (Sh 128 n) 8 (slotWords (codeWords E V) (maskWords E M 0) (maskWords E M 1) (maskWords E M 2) (maskWords E M 3) j) E.b8

variable {F : FTy → Type} [FloatOps F]

/-- The block scales over sixteen, one row of scales for every 32 groups. -/
def scales (S : FVec F (Sh 4 n) .f32) : FVec F (Sh 128 n) .bf16 :=
  let s : FVec F (Sh 4 n) .bf16 := mulf (truncf .bf16 (shapeCast (Sh 4 n) S E.id4) (by decide)) (broadcast (Sh 4 n) (Scalar.ofBits .bf16 0x3D80#16))
  concatenate (Sh 128 n) 0
    [⟨Sh 32 n, broadcastTo (Sh 32 n) (shapeCast (Sh 1 n) (extractStridedSlice (Sh 1 n) ![0, 0] s E.s0) E.idc) E.bc⟩,
     ⟨Sh 32 n, broadcastTo (Sh 32 n) (shapeCast (Sh 1 n) (extractStridedSlice (Sh 1 n) ![1, 0] s E.s1) E.idc) E.bc⟩,
     ⟨Sh 32 n, broadcastTo (Sh 32 n) (shapeCast (Sh 1 n) (extractStridedSlice (Sh 1 n) ![2, 0] s E.s2) E.idc) E.bc⟩,
     ⟨Sh 32 n, broadcastTo (Sh 32 n) (shapeCast (Sh 1 n) (extractStridedSlice (Sh 1 n) ![3, 0] s E.s3) E.idc) E.bc⟩] E.c32

/-- The tile's weights, in decode order: slot 0 of all 128 groups, then slot 1, 2, 3. -/
def weights (V : IVec (Sh n 128) 8) (M : IVec (Sh 32 n) 16) (S : FVec F (Sh 4 n) .f32) : FVec F (Sh 512 n) .bf16 :=
  concatenate (Sh 512 n) 0
    [⟨Sh 128 n, mulf (sitofp .bf16 (plane E V M 0)) (scales E S)⟩, ⟨Sh 128 n, mulf (sitofp .bf16 (plane E V M 1)) (scales E S)⟩,
     ⟨Sh 128 n, mulf (sitofp .bf16 (plane E V M 2)) (scales E S)⟩, ⟨Sh 128 n, mulf (sitofp .bf16 (plane E V M 3)) (scales E S)⟩] E.c128

/-- The tile's product. -/
def tile (A : FVec F (Sh 48 512) .bf16) (V : IVec (Sh n 128) 8) (M : IVec (Sh 32 n) 16) (S : FVec F (Sh 4 n) .f32) : FVec F (Sh 48 n) .f32 :=
  matmul (DotDims.plain 48 512 n) none A (weights E V M S) (constant (Sh 48 n) .f32 0x00000000#32)

/-! ## Its bytes -/

/-- The four-bit metadata field of group `g`, of the four in a 16-bit word. -/
def nibOf (x : BitVec 16) (g : Nat) : Nat := x.toNat / 2 ^ (4 * (g % 4)) % 16

theorem nibOf_testBit (x : BitVec 16) (g k : Nat) (hk : k < 4) : (nibOf x g).testBit k = x.getLsbD (4 * (g % 4) + k) := by
  unfold nibOf
  have e : x.toNat / 2 ^ (4 * (g % 4)) % 16 = x.toNat / 2 ^ (4 * (g % 4)) % 2 ^ 4 := rfl
  rw [e, Nat.testBit_mod_two_pow, Nat.testBit_div_two_pow]
  simp [hk, BitVec.testBit_toNat, Nat.add_comm]

theorem nibOf_lt (x : BitVec 16) (g : Nat) : nibOf x g < 16 := Nat.mod_lt _ (by decide)

/-- A byte of the masks is its metadata word spread. -/
theorem maskBytes_apply (m : IVec (Sh 16 n) 32) (g : Fin 128) (c : Fin n) (a : Fin 16) (ha : a.val = g.val / 8) :
    maskBytes E m (ix2 g c) = spread (m (ix2 a c)) (BitVec.ofNat 32 g.val) := by
  have e : shapeCast (Sh 128 n) (broadcastTo ⟨3, ![16, 8, n]⟩ (shapeCast ⟨3, ![16, 1, n]⟩ m E.e1) E.e2) E.e3 (ix2 g c) = m (ix2 a c) := by
    rw [shapeCast_apply _ E.e3 (ix2 g c) (ix3 a ⟨g.val % 8, Nat.mod_lt _ (by decide)⟩ c)
      (by rw [Shape.rowMajor_val_three, Shape.rowMajor_val_two]
          show ((a.val * 8 + g.val % 8) * n + c.val) = g.val * n + c.val
          rw [ha, Nat.div_add_mod'])]
    rw [broadcastTo_apply _ E.e2 _ (ix3 a (0 : Fin 1) c) (by
      intro d
      match d with
      | ⟨0, _⟩ => rfl
      | ⟨1, _⟩ => rfl
      | ⟨2, _⟩ =>
        show c.val = if n = 1 then 0 else c.val
        split
        · have := c.isLt; omega
        · rfl)]
    exact shapeCast_apply _ E.e1 _ (ix2 a c)
      (by rw [Shape.rowMajor_val_three, Shape.rowMajor_val_two]
          show a.val * n + c.val = (a.val * 1 + 0) * n + c.val
          rw [Nat.mul_one, Nat.add_zero])
  unfold spread
  rw [← e]
  show _ = (IntOp.shrsi .vector (IntOp.shli .vector _ (IntOp.subi 28#32 (IntOp.muli 4#32 (IntOp.andi (BitVec.ofNat 32 g.val) 7#32)))) 28#32).setWidth 8
  have hi : iota .tc (Sh 128 n) 32 [0] E.io (ix2 g c) = BitVec.ofNat 32 g.val := iota_single_apply _ _ _ _ _ _
  rw [← hi]
  rfl

/-- A row of words of four bytes: bit `8 m + q` of word row `a` is bit `q` of byte row `4 a + m`. -/
theorem word_of_bytes (x : IVec (Sh 128 n) 8) (a : Fin 32) (c : Fin n) (m q : Nat) (hm : m < 4) (hq : q < 8) (g : Fin 128)
    (hg : g.val = 4 * a.val + m) :
    (bitcast (Sh 32 n) 32 x E.w8 (ix2 a c)).getLsbD (8 * m + q) = (x (ix2 g c)).getLsbD q := by
  rw [bitcast_getLsbD x E.w8 _ (8 * m + q) (by omega) (by decide)]
  have hr : (Sh 32 n).row (ix2 a c) = a.val := rfl
  have e1 : ((Sh 32 n).row (ix2 a c) * 32 + (8 * m + q)) / 8 = g.val := by rw [hr, hg]; omega
  have e2 : ((Sh 32 n).row (ix2 a c) * 32 + (8 * m + q)) % 8 = q := by rw [hr]; omega
  rw [e2]
  congr 2
  funext d
  match d with
  | ⟨0, _⟩ => exact Fin.ext ((E.w8.srcIdx_row _ _ _ ⟨0, Nat.zero_lt_two⟩ rfl).trans e1)
  | ⟨1, _⟩ => exact Fin.ext (E.w8.srcIdx_other _ _ _ ⟨1, Nat.one_lt_two⟩ (by show ¬ 1 + 2 = 2; omega))

/-- A bit of the metadata words, after a shift by `3 - k`: bit `k` of the group's nibble. -/
theorem metaBit (M : IVec (Sh 32 n) 16) (g : Fin 128) (c : Fin n) (k : Nat) (hk : k < 4) (a : Fin 16) (ha : a.val = g.val / 8) (p : Fin 32)
    (hp : p.val = g.val / 4) :
    (metaWords E M (ix2 a c)).getLsbD (4 * (g.val % 8) + k) = (nibOf (M (ix2 p c)) g.val).testBit k := by
  rw [nibOf_testBit _ _ _ hk]
  unfold metaWords
  rw [word_of_halves M E.w16 a c p (4 * (g.val % 8) + k) (by omega) (by omega)]
  congr 1
  omega

/-- The mask of bit `k` in the high half of a group's byte. -/
theorem maskWords_bit (M : IVec (Sh 32 n) 16) (k : Fin 4) (g : Fin 128) (c : Fin n) (a : Fin 32) (m : Nat) (hm : m < 4) (hg : g.val = 4 * a.val + m)
    (p : Fin 32) (hp : p.val = g.val / 4) (q : Nat) (h4 : 4 ≤ q) (hq : q < 8) :
    (maskWords E M k (ix2 a c)).getLsbD (8 * m + q) = (nibOf (M (ix2 p c)) g.val).testBit k.val := by
  obtain ⟨a', ha⟩ : ∃ a' : Fin 16, a'.val = g.val / 8 := ⟨⟨g.val / 8, by have := g.isLt; omega⟩, rfl⟩
  have hb := fun k hk => metaBit E M g c k hk a' ha p hp
  unfold maskWords
  rw [word_of_bytes E _ a c m q hm hq g hg, maskBytes_apply E _ g c a' ha, spread_bit _ g.val g.isLt q h4 hq]
  have sh : ∀ (s : Nat) (hs : s < 4) (y : BitVec 32), y = metaWords E M (ix2 a' c) → (IntOp.shli .vector y (BitVec.ofNat 32 s)).getLsbD
      (4 * (g.val % 8) + 3) = (nibOf (M (ix2 p c)) g.val).testBit (3 - s) := by
    intro s hs y hy
    rw [← hb (3 - s) (by omega), ← hy]
    have hs' : (BitVec.ofNat 32 s).toNat = s := by rw [BitVec.toNat_ofNat]; omega
    unfold IntOp.shli
    rw [if_pos (by rw [hs']; omega)]
    simp only [BitVec.shiftLeft_eq', BitVec.getLsbD_shiftLeft, hs']
    rw [decide_eq_true (show 4 * (g.val % 8) + 3 < 32 by omega), decide_eq_false (show ¬ 4 * (g.val % 8) + 3 < s by omega)]
    simp only [Bool.not_false, Bool.and_true, Bool.true_and]
    congr 1
    omega
  have e0 : shifted E M 0 (ix2 a' c) = IntOp.shli .vector (metaWords E M (ix2 a' c)) 3#32 := rfl
  have e1 : shifted E M 1 (ix2 a' c) = IntOp.shli .vector (metaWords E M (ix2 a' c)) 2#32 := rfl
  have e2 : shifted E M 2 (ix2 a' c) = IntOp.shli .vector (metaWords E M (ix2 a' c)) 1#32 := rfl
  have e3 : shifted E M 3 (ix2 a' c) = metaWords E M (ix2 a' c) := rfl
  match k with
  | 0 => rw [e0]; exact sh 3 (by decide) _ rfl
  | 1 => rw [e1]; exact sh 2 (by decide) _ rfl
  | 2 => rw [e2]; exact sh 1 (by decide) _ rfl
  | 3 => rw [e3]; exact hb 3 (by decide)

/-- The words of codes, bit by bit. -/
theorem codeWords_bit (V : IVec (Sh n 128) 8) (g : Fin 128) (c : Fin n) (a : Fin 32) (m : Nat) (hm : m < 4) (hg : g.val = 4 * a.val + m)
    (q : Nat) (hq : q < 8) : (codeWords E V (ix2 a c)).getLsbD (8 * m + q) = (V (ix2 c g)).getLsbD q := by
  unfold codeWords
  rw [word_of_bytes E _ a c m q hm hq g hg, transpose_apply _ _ E.tr (ix2 g c) (ix2 c g) (by
    intro d
    match d with
    | ⟨0, _⟩ => rfl
    | ⟨1, _⟩ => rfl)]

/-- The slot words, word by word. -/
theorem slotWords_apply (w b0 b1 b2 b3 : IVec (Sh 32 n) 32) (j : Fin 4) (i : (Sh 32 n).Idx) :
    slotWords w b0 b1 b2 b3 j i = slotWord j (w i) (b0 i) (b1 i) (b2 i) (b3 i) := by
  match j with
  | 0 => rfl
  | 1 => rfl
  | 2 => rfl
  | 3 => rfl

/-- A decoded byte is the slot byte of its code byte and its metadata nibble. -/
theorem plane_apply (V : IVec (Sh n 128) 8) (M : IVec (Sh 32 n) 16) (j : Fin 4) (g : Fin 128) (c : Fin n) (p : Fin 32) (hp : p.val = g.val / 4) :
    plane E V M j (ix2 g c) = slotByte j (V (ix2 c g)) (fun k => (nibOf (M (ix2 p c)) g.val).testBit k) := by
  have hm : g.val % 4 < 4 := Nat.mod_lt _ (by decide)
  let a : Fin 32 := ⟨g.val / 4, by have := g.isLt; omega⟩
  have hg : g.val = 4 * a.val + g.val % 4 := by show g.val = 4 * (g.val / 4) + g.val % 4; omega
  have key := fun q hq => slotWord_bit j (codeWords E V (ix2 a c)) (maskWords E M 0 (ix2 a c)) (maskWords E M 1 (ix2 a c)) (maskWords E M 2 (ix2 a c))
    (maskWords E M 3 (ix2 a c)) (V (ix2 c g)) (fun k => (nibOf (M (ix2 p c)) g.val).testBit k) (g.val % 4) hm
    (fun q hq => codeWords_bit E V g c a _ hm hg q hq)
    (fun q h4 hq => maskWords_bit E M 0 g c a _ hm hg p hp q h4 hq) (fun q h4 hq => maskWords_bit E M 1 g c a _ hm hg p hp q h4 hq)
    (fun q h4 hq => maskWords_bit E M 2 g c a _ hm hg p hp q h4 hq) (fun q h4 hq => maskWords_bit E M 3 g c a _ hm hg p hp q h4 hq) q hq
  apply BitVec.eq_of_getLsbD_eq
  intro q hq
  unfold plane
  rw [← key q hq, byte_of_word _ E.b8 g a c rfl q hq, slotWords_apply]

/-! ## Its weights -/

/-- A row of the block scales, over sixteen. -/
theorem scales_apply (S : FVec Ideal (Sh 4 n) .f32) (g : Fin 128) (c : Fin n) (p : Fin 4) (hp : p.val = g.val / 32) :
    scales E S (ix2 g c) = (S (ix2 p c) : EReal) * (((1 : ℝ) / 16 : ℝ) : EReal) := by
  have row : ∀ (k : Fin 4) (hk : (Sh 4 n).Slices ![k.val, 0] (Sh 1 n)) (x : FVec Ideal (Sh 4 n) .bf16) (i : Fin 32),
      broadcastTo (Sh 32 n) (shapeCast (Sh 1 n) (extractStridedSlice (Sh 1 n) ![k.val, 0] x hk) E.idc) E.bc (ix2 i c) = x (ix2 k c) := by
    intro k hk x i
    rw [broadcastTo_apply _ E.bc _ (ix2 (0 : Fin 1) c) (by
      intro d
      match d with
      | ⟨0, _⟩ => rfl
      | ⟨1, _⟩ =>
        show c.val = if n = 1 then 0 else c.val
        split
        · have := c.isLt; omega
        · rfl)]
    rw [shapeCast_apply _ E.idc _ (ix2 (0 : Fin 1) c) rfl]
    exact extractStridedSlice_apply _ _ hk _ (ix2 k c) (by
      intro d
      match d with
      | ⟨0, _⟩ => rfl
      | ⟨1, _⟩ => exact (Nat.zero_add _).symm)
  let s : FVec Ideal (Sh 4 n) .bf16 := mulf (truncf .bf16 (shapeCast (Sh 4 n) S E.id4) (by decide)) (broadcast (Sh 4 n) (Scalar.ofBits .bf16 0x3D80#16))
  have hs : s (ix2 p c) = (S (ix2 p c) : EReal) * (((1 : ℝ) / 16 : ℝ) : EReal) := by
    rw [← Ideal.ofBits_sixteenth_bf16]
    show (shapeCast (Sh 4 n) S E.id4 (ix2 p c) : EReal) * _ = _
    rw [shapeCast_apply S E.id4 (ix2 p c) (ix2 p c) rfl]
    rfl
  rw [← hs]
  let f : Fin 4 → (Sh 32 n).Idx → Ideal .bf16 := ![broadcastTo (Sh 32 n) (shapeCast (Sh 1 n) (extractStridedSlice (Sh 1 n) ![0, 0] s E.s0) E.idc) E.bc,
    broadcastTo (Sh 32 n) (shapeCast (Sh 1 n) (extractStridedSlice (Sh 1 n) ![1, 0] s E.s1) E.idc) E.bc,
    broadcastTo (Sh 32 n) (shapeCast (Sh 1 n) (extractStridedSlice (Sh 1 n) ![2, 0] s E.s2) E.idc) E.bc,
    broadcastTo (Sh 32 n) (shapeCast (Sh 1 n) (extractStridedSlice (Sh 1 n) ![3, 0] s E.s3) E.idc) E.bc]
  have h1 : scales E S (ix2 g c) = f p (ix2 ⟨g.val % 32, Nat.mod_lt _ (by decide)⟩ c) :=
    concatenate_ofFn_apply (t := Sh 128 n) 0 f E.c32 rfl 32 rfl (ix2 g c) p hp.symm (ix2 ⟨g.val % 32, Nat.mod_lt _ (by decide)⟩ c) rfl (by
      intro d hd
      match d with
      | ⟨0, _⟩ => exact absurd rfl hd
      | ⟨1, _⟩ => rfl)
  rw [h1]
  match p with
  | 0 => exact row 0 E.s0 s _
  | 1 => exact row 1 E.s1 s _
  | 2 => exact row 2 E.s2 s _
  | 3 => exact row 3 E.s3 s _

/-- Sixteen times an integer against a scale over sixteen is the integer against the scale. -/
theorem sixteen_mul (z : ℤ) (s : EReal) : (((16 * z : ℤ) : ℝ) : EReal) * (s * (((1 : ℝ) / 16 : ℝ) : EReal)) = ((z : ℝ) : EReal) * s := by
  rw [mul_comm s, ← mul_assoc, ← EReal.coe_mul]
  congr 2
  push_cast
  ring

/-- A weight of the tile: slot `j` of group `g`, against its scale. -/
theorem weights_apply (V : IVec (Sh n 128) 8) (M : IVec (Sh 32 n) 16) (S : FVec Ideal (Sh 4 n) .f32) (c : Fin n)
    (o : Fin 512) (j : Fin 4) (g : Fin 128) (ho : o.val = j.val * 128 + g.val) (p : Fin 32) (hp : p.val = g.val / 4) (b : Fin 4) (hb : b.val = g.val / 32)
    (hv : nibOf (M (ix2 p c)) g.val % 4 < nibOf (M (ix2 p c)) g.val / 4) :
    weights E V M S (ix2 o c) = ((slotInt j (V (ix2 c g)) (nibOf (M (ix2 p c)) g.val) : ℝ) : EReal) * (S (ix2 b c) : EReal) := by
  let f : Fin 4 → (Sh 128 n).Idx → Ideal .bf16 := ![mulf (sitofp .bf16 (plane E V M 0)) (scales E S), mulf (sitofp .bf16 (plane E V M 1)) (scales E S),
    mulf (sitofp .bf16 (plane E V M 2)) (scales E S), mulf (sitofp .bf16 (plane E V M 3)) (scales E S)]
  have hlt := g.isLt
  have h1 : weights E V M S (ix2 o c) = f j (ix2 g c) :=
    concatenate_ofFn_apply (t := Sh 512 n) 0 f E.c128 rfl 128 rfl (ix2 o c) j (by show o.val / 128 = j.val; omega) (ix2 g c)
      (by show g.val = o.val % 128; omega) (by
      intro d hd
      match d with
      | ⟨0, _⟩ => exact absurd rfl hd
      | ⟨1, _⟩ => rfl)
  have h2 : f j (ix2 g c) = (((plane E V M j (ix2 g c)).toInt : ℝ) : EReal) * (scales E S (ix2 g c) : EReal) := by
    match j with
    | 0 => rfl
    | 1 => rfl
    | 2 => rfl
    | 3 => rfl
  rw [h1, h2, plane_apply E V M j g c p hp, slotByte_toInt j _ _ (nibOf_lt _ _) hv, scales_apply E S g c b hb, sixteen_mul]

/-! ## The tile's product -/

/-- The two spellings of a matrix index. -/
theorem ix2_eq {a b : Nat} (i : Fin a) (j : Fin b) : ValueIdx.ix2 i j = ix2 i j := by
  funext d
  match d with
  | ⟨0, _⟩ => rfl
  | ⟨1, _⟩ => rfl

/-- One group's part of a sparse row product: the four activations of the group against its four slots, all at the group's scale. -/
def term (a : Nat → EReal) (v : Nat → BitVec 8) (m : Nat → BitVec 16) (s : Nat → EReal) (G : Nat) : EReal :=
  ∑ j : Fin 4, a (4 * G + j.val) * (((slotInt j (v G) (nibOf (m (G / 4)) G) : ℝ) : EReal) * s (G / 32))

/-- A tile's product at one place is the sum of its 128 groups' parts. -/
theorem tile_apply (A : FVec Ideal (Sh 48 512) .bf16) (V : IVec (Sh n 128) 8) (M : IVec (Sh 32 n) 16) (S : FVec Ideal (Sh 4 n) .f32) (r : Fin 48) (c : Fin n)
    (t : Nat) (a : Nat → EReal) (v : Nat → BitVec 8) (m : Nat → BitVec 16) (s : Nat → EReal)
    (hA : ∀ o : Fin 512, (A (ix2 r o) : EReal) = a (t * 512 + 4 * (o.val % 128) + o.val / 128)) (hV : ∀ g : Fin 128, V (ix2 c g) = v (t * 128 + g.val))
    (hM : ∀ p : Fin 32, M (ix2 p c) = m (t * 32 + p.val)) (hS : ∀ b : Fin 4, (S (ix2 b c) : EReal) = s (t * 4 + b.val))
    (hv : ∀ G, t * 128 ≤ G → G < (t + 1) * 128 → nibOf (m (G / 4)) G % 4 < nibOf (m (G / 4)) G / 4) :
    tile E A V M S (ix2 r c) = ∑ g ∈ Finset.range 128, term a v m s (t * 128 + g) := by
  have h0 : tile E A V M S (ix2 r c) = ∑ o : Fin 512, (A (ix2 r o) : EReal) * (weights E V M S (ix2 o c) : EReal) := by
    have := Ideal.matmul_plain_apply none A (weights E V M S) (constant (Sh 48 n) .f32 0x00000000#32) r c
    refine Eq.trans (b := _) ?_ (this.trans ?_)
    · show tile E A V M S (ix2 r c) = tile E A V M S (ValueIdx.ix2 r c)
      rw [ix2_eq]
    · rw [show (constant (F := Ideal) (Sh 48 n) .f32 0x00000000#32) (ValueIdx.ix2 r c) = (0 : EReal) from Ideal.ofBits_zero .f32, zero_add]
      refine Finset.sum_congr rfl fun k _ => ?_
      rw [ix2_eq, ix2_eq]
  rw [h0, ← (finProdFinEquiv (m := 4) (n := 128)).sum_comp, Fintype.sum_prod_type_right, Finset.sum_range]
  refine Finset.sum_congr rfl fun g _ => ?_
  unfold term
  refine Finset.sum_congr rfl fun j _ => ?_
  have hg := g.isLt
  have hj := j.isLt
  have hnib : nibOf (m ((t * 128 + g.val) / 4)) (t * 128 + g.val) = nibOf (M (ix2 (⟨g.val / 4, by omega⟩ : Fin 32) c)) g.val := by
    rw [hM]
    unfold nibOf
    rw [show (t * 128 + g.val) / 4 = t * 32 + g.val / 4 by omega, show (t * 128 + g.val) % 4 = g.val % 4 by omega]
  have hv' := hv (t * 128 + g.val) (by omega) (by omega)
  rw [hnib] at hv' ⊢
  rw [weights_apply E V M S c _ j g (by show g.val + 128 * j.val = _; omega) ⟨g.val / 4, by omega⟩ rfl ⟨g.val / 32, by omega⟩ rfl hv', hA, hV, hS]
  congr 1
  · congr 1
    show t * 512 + 4 * ((g.val + 128 * j.val) % 128) + (g.val + 128 * j.val) / 128 = 4 * (t * 128 + g.val) + j.val
    omega
  · congr 2
    show t * 4 + g.val / 32 = _
    omega

end Cert.Sparse

end
-- ==== Proof.Order.lean ====
/- The kernel's decode order of the activations: the permutation product that makes it, and its tiles. Also reads of a matrix at natural
   numbers, and of a tile loaded from a block. -/
module

public import proofs.«01_k».proof.Proof.Sparse
public import Idealize.ShloMosaic.Lib.Pipeline.ValueKit

@[expose] public section

set_option maxRecDepth 16384

noncomputable section

namespace Cert.Sparse

open Idealize.ShloMosaic
open scoped BigOperators

/-! ## Reads at natural numbers -/

/-- A matrix read at natural numbers, `d` outside it. -/
def at2 {α : Type} {a b : Nat} (d : α) (x : (Sh a b).Idx → α) (i j : Nat) : α := if h : i < a ∧ j < b then x (ix2 ⟨i, h.1⟩ ⟨j, h.2⟩) else d

theorem at2_eq {α : Type} {a b : Nat} (d : α) (x : (Sh a b).Idx → α) (i : Fin a) (j : Fin b) : x (ix2 i j) = at2 d x i.val j.val := by
  unfold at2; rw [dif_pos ⟨i.isLt, j.isLt⟩]

/-- A tile loaded from a block, read at an index. -/
theorem ld_ix2 {Val : EltTy → Type} {e : EltTy} {a b p q : Nat} (X : (Sh a b).Idx → Val e) (o0 o1 : Nat)
    (inb : ∀ d, (![o0, o1] : Fin 2 → Nat) d + (![p, q] : Fin 2 → Nat) d ≤ (Sh a b).size d) (i : Fin p) (j : Fin q) :
    View.ld X (Rect.unit ![o0, o1] ![p, q] inb) (ix2 i j)
      = X (ix2 ⟨o0 + i.val, by have := inb 0; have := i.isLt; simp at *; omega⟩ ⟨o1 + j.val, by have := inb 1; have := j.isLt; simp at *; omega⟩) := by
  rw [View.ld_apply]
  congr 1
  funext d
  match d with
  | ⟨0, _⟩ => exact Fin.ext (by show o0 + 1 * i.val = o0 + i.val; omega)
  | ⟨1, _⟩ => exact Fin.ext (by show o1 + 1 * j.val = o1 + j.val; omega)

/-! ## The permutation product -/

variable {F : FTy → Type} [FloatOps F]

/-- The permutation matrix: column `o` takes row `4 (o % 128) + o / 128`. -/
def perm (h0 : (Sh 512 512).Iotas .tc 32 [0]) (h1 : (Sh 512 512).Iotas .tc 32 [1]) : FVec F (Sh 512 512) .bf16 :=
  truncf .bf16 (sitofp (F := F) .f32 (extui 32 (cmpi .eq (iota .tc (Sh 512 512) 32 [0] h0)
    (addi (muli (broadcast (Sh 512 512) 4#32) (andi (iota .tc (Sh 512 512) 32 [1] h1) (broadcast (Sh 512 512) 127#32)))
      (shrsi (iota .tc (Sh 512 512) 32 [1] h1) (broadcast (Sh 512 512) 7#32)))) (by decide))) (by decide)

/-- A row of tiles in decode order. -/
def reordered {R : Nat} (h0 : (Sh 512 512).Iotas .tc 32 [0]) (h1 : (Sh 512 512).Iotas .tc 32 [1]) (x : FVec F (Sh R 512) .bf16) : FVec F (Sh R 512) .bf16 :=
  truncf .bf16 (matmul (DotDims.plain R 512 512) none x (perm h0 h1) (constant (Sh R 512) .f32 0x00000000#32)) (by decide)

/-- The place from which decode order takes position `o`. -/
def src (o : Fin 512) : Fin 512 := ⟨4 * (o.val % 128) + o.val / 128, by have := o.isLt; omega⟩

theorem perm_apply (h0 : (Sh 512 512).Iotas .tc 32 [0]) (h1 : (Sh 512 512).Iotas .tc 32 [1]) (k o : Fin 512) :
    (perm (F := Ideal) h0 h1 (ix2 k o) : EReal) = if k = src o then 1 else 0 := by
  have e : IntOp.addi (IntOp.muli 4#32 (IntOp.andi (BitVec.ofNat 32 o.val) 127#32)) (IntOp.shrsi .vector (BitVec.ofNat 32 o.val) 7#32)
      = BitVec.ofNat 32 (src o).val := by
    have : ∀ o : Fin 512, IntOp.addi (IntOp.muli 4#32 (IntOp.andi (BitVec.ofNat 32 o.val) 127#32)) (IntOp.shrsi .vector (BitVec.ofNat 32 o.val) 7#32)
      = BitVec.ofNat 32 (src o).val := by decide +kernel
    exact this o
  have r0 : iota .tc (Sh 512 512) 32 [0] h0 (ix2 k o) = BitVec.ofNat 32 k.val := iota_single_apply _ _ _ _ _ _
  have r1 : iota .tc (Sh 512 512) 32 [1] h1 (ix2 k o) = BitVec.ofNat 32 o.val := iota_single_apply _ _ _ _ _ _
  have h : (perm (F := Ideal) h0 h1 (ix2 k o) : EReal) = ((((IntOp.cmpi .eq (iota .tc (Sh 512 512) 32 [0] h0 (ix2 k o))
      (IntOp.addi (IntOp.muli 4#32 (IntOp.andi (iota .tc (Sh 512 512) 32 [1] h1 (ix2 k o)) 127#32))
        (IntOp.shrsi .vector (iota .tc (Sh 512 512) 32 [1] h1 (ix2 k o)) 7#32))).setWidth 32).toInt : ℝ) : EReal) := rfl
  rw [h, r0, r1, e]
  by_cases hk : k = src o
  · rw [if_pos hk, hk]
    simp [IntOp.cmpi]
  · rw [if_neg hk]
    have hne : ¬ BitVec.ofNat 32 k.val = BitVec.ofNat 32 (src o).val := fun hh => hk (Fin.ext (by
      have := congrArg BitVec.toNat hh
      simp only [BitVec.toNat_ofNat] at this
      have := k.isLt; have := (src o).isLt
      omega))
    have hb : (BitVec.ofNat 32 k.val == BitVec.ofNat 32 (src o).val) = false := beq_eq_false_iff_ne.mpr hne
    simp [IntOp.cmpi, hb]

/-- Decode order, read: position `o` of a row holds position `src o`. -/
theorem reordered_apply {R : Nat} (h0 : (Sh 512 512).Iotas .tc 32 [0]) (h1 : (Sh 512 512).Iotas .tc 32 [1]) (x : FVec Ideal (Sh R 512) .bf16)
    (r : Fin R) (o : Fin 512) : reordered h0 h1 x (ix2 r o) = x (ix2 r (src o)) := by
  have e := Ideal.matmul_plain_apply none x (perm h0 h1) (constant (Sh R 512) .f32 0x00000000#32) r o
  simp only [ix2_eq] at e
  refine Eq.trans (b := _) ?_ (e.trans ?_)
  · rfl
  · rw [show (constant (F := Ideal) (Sh R 512) .f32 0x00000000#32) (ix2 r o) = (0 : EReal) from Ideal.ofBits_zero .f32, zero_add]
    rw [Finset.sum_eq_single (src o)]
    · rw [perm_apply, if_pos rfl, mul_one]
    · intro k _ hk
      rw [perm_apply, if_neg hk, mul_zero]
    · intro h; exact absurd (Finset.mem_univ _) h

/-! ## Six tiles -/

theorem cat6 : Shape.Concatenates [Sh 48 512, Sh 48 512, Sh 48 512, Sh 48 512, Sh 48 512, Sh 48 512] (Sh 288 512) 0 := by decide

/-- The six tiles of 512 columns, one under another. -/
def stack6 (x : FVec F (Sh 48 3072) .bf16) : FVec F (Sh 288 512) .bf16 :=
  concatenate (Sh 288 512) 0
    [⟨Sh 48 512, extractStridedSlice (Sh 48 512) ![0, 0] x (by decide)⟩, ⟨Sh 48 512, extractStridedSlice (Sh 48 512) ![0, 512] x (by decide)⟩,
     ⟨Sh 48 512, extractStridedSlice (Sh 48 512) ![0, 1024] x (by decide)⟩, ⟨Sh 48 512, extractStridedSlice (Sh 48 512) ![0, 1536] x (by decide)⟩,
     ⟨Sh 48 512, extractStridedSlice (Sh 48 512) ![0, 2048] x (by decide)⟩, ⟨Sh 48 512, extractStridedSlice (Sh 48 512) ![0, 2560] x (by decide)⟩]
    cat6

theorem slices6 : ∀ k : Fin 6, (Sh 288 512).Slices ![48 * k.val, 0] (Sh 48 512) := by decide

/-- Tile `k` of the activations, in decode order. -/
def tile6 (x : FVec F (Sh 48 3072) .bf16) (k : Fin 6) : FVec F (Sh 48 512) .bf16 :=
  shapeCast (Sh 48 512) (extractStridedSlice (Sh 48 512) ![48 * k.val, 0] (reordered (by decide) (by decide) (stack6 x)) (slices6 k)) (by decide)

theorem tile6_apply (x : FVec Ideal (Sh 48 3072) .bf16) (k : Fin 6) (r : Fin 48) (o : Fin 512) :
    (tile6 x k (ix2 r o) : EReal) = at2 (0 : EReal) x r.val (k.val * 512 + 4 * (o.val % 128) + o.val / 128) := by
  have hk := k.isLt; have hr := r.isLt; have ho := o.isLt
  unfold tile6
  rw [shapeCast_apply _ _ (ix2 r o) (ix2 r o) rfl,
    extractStridedSlice_apply _ _ (slices6 k) (ix2 r o) (ix2 (⟨48 * k.val + r.val, by omega⟩ : Fin 288) o) (by
      intro d
      match d with
      | ⟨0, _⟩ => rfl
      | ⟨1, _⟩ => exact (Nat.zero_add _).symm),
    reordered_apply]
  let f : Fin 6 → (Sh 48 512).Idx → Ideal .bf16 := ![extractStridedSlice (Sh 48 512) ![0, 0] x (by decide), extractStridedSlice (Sh 48 512) ![0, 512] x (by decide),
    extractStridedSlice (Sh 48 512) ![0, 1024] x (by decide), extractStridedSlice (Sh 48 512) ![0, 1536] x (by decide),
    extractStridedSlice (Sh 48 512) ![0, 2048] x (by decide), extractStridedSlice (Sh 48 512) ![0, 2560] x (by decide)]
  have h1 : stack6 x (ix2 (⟨48 * k.val + r.val, by omega⟩ : Fin 288) (src o)) = f k (ix2 r (src o)) :=
    concatenate_ofFn_apply (t := Sh 288 512) 0 f cat6 rfl 48 rfl (ix2 (⟨48 * k.val + r.val, by omega⟩ : Fin 288) (src o)) k (by show (48 * k.val + r.val) / 48 = k.val; omega) (ix2 r (src o))
      (by show r.val = (48 * k.val + r.val) % 48; omega) (by
      intro d hd
      match d with
      | ⟨0, _⟩ => exact absurd rfl hd
      | ⟨1, _⟩ => rfl)
  have row : ∀ (off : Nat) (hs : (Sh 48 3072).Slices ![0, off] (Sh 48 512)), off + 512 ≤ 3072 →
      (extractStridedSlice (Sh 48 512) ![0, off] x hs (ix2 r (src o)) : EReal) = at2 (0 : EReal) x r.val (off + 4 * (o.val % 128) + o.val / 128) := by
    intro off hs he
    rw [extractStridedSlice_apply _ _ hs _ (ix2 r (⟨off + (src o).val, by have := (src o).isLt; omega⟩ : Fin 3072)) (by
      intro d
      match d with
      | ⟨0, _⟩ => exact (Nat.zero_add _).symm
      | ⟨1, _⟩ => rfl)]
    refine (at2_eq (0 : EReal) x _ _).trans ?_
    congr 1
    show off + (4 * (o.val % 128) + o.val / 128) = _
    omega
  rw [h1]
  clear h1
  match k with
  | 0 => exact row 0 (by decide) (by decide)
  | 1 => exact row 512 (by decide) (by decide)
  | 2 => exact row 1024 (by decide) (by decide)
  | 3 => exact row 1536 (by decide) (by decide)
  | 4 => exact row 2048 (by decide) (by decide)
  | 5 => exact row 2560 (by decide) (by decide)

/-- The place from which decode order takes column `C` of a row of tiles. -/
def srcCol (C : Nat) : Nat := C / 512 * 512 + 4 * (C % 512 % 128) + C % 512 / 128

/-- A scratch in which the six tiles are stored side by side, read back. -/
theorem canon6 (x : FVec Ideal (Sh 48 3072) .bf16) (h5 : ∀ d, (![0, 2560] : Fin 2 → Nat) d + (![48, 512] : Fin 2 → Nat) d ≤ (Sh 48 3072).size d)
    (h4 : ∀ d, (![0, 2048] : Fin 2 → Nat) d + (![48, 512] : Fin 2 → Nat) d ≤ (Sh 48 3072).size d)
    (h3 : ∀ d, (![0, 1536] : Fin 2 → Nat) d + (![48, 512] : Fin 2 → Nat) d ≤ (Sh 48 3072).size d)
    (h2 : ∀ d, (![0, 1024] : Fin 2 → Nat) d + (![48, 512] : Fin 2 → Nat) d ≤ (Sh 48 3072).size d)
    (h1 : ∀ d, (![0, 512] : Fin 2 → Nat) d + (![48, 512] : Fin 2 → Nat) d ≤ (Sh 48 3072).size d)
    (h0 : ∀ d, (![0, 0] : Fin 2 → Nat) d + (![48, 512] : Fin 2 → Nat) d ≤ (Sh 48 3072).size d) (r : Fin 48) (C : Fin 3072) :
    (View.canon (Val := Elt Ideal) (e := .bf16)
      [⟨Rect.unit ![0, 2560] ![48, 512] h5, tile6 x 5⟩, ⟨Rect.unit ![0, 2048] ![48, 512] h4, tile6 x 4⟩,
       ⟨Rect.unit ![0, 1536] ![48, 512] h3, tile6 x 3⟩, ⟨Rect.unit ![0, 1024] ![48, 512] h2, tile6 x 2⟩,
       ⟨Rect.unit ![0, 512] ![48, 512] h1, tile6 x 1⟩, ⟨Rect.unit ![0, 0] ![48, 512] h0, tile6 x 0⟩] (ix2 r C) : EReal)
      = at2 (0 : EReal) x r.val (srcCol C.val) := by
  have key : ∀ k : Fin 6, View.TileAt (Val := Elt Ideal) (e := .bf16) (S := Sh 48 3072) (ix2 r C) ![0, 512 * k.val] ![48, 512] (tile6 x k)
      (at2 (0 : EReal) x r.val (srcCol C.val)) := by
    intro k z hz
    have z0 : r.val = 0 + (z 0).val := hz 0
    have z1 : C.val = 512 * k.val + (z 1).val := hz 1
    have b1 : (z 1).val < 512 := (z 1).isLt
    rw [eq_ix2 z]
    refine (tile6_apply x k (z 0) (z 1)).trans ?_
    unfold srcCol
    congr 1 <;> omega
  refine View.canon_eq_of_allAt _ _ _ ?_ ?_
  · have hC := C.isLt
    have hr := r.isLt
    have mem : ∀ (o : Nat) (h : ∀ d, (![0, o] : Fin 2 → Nat) d + (![48, 512] : Fin 2 → Nat) d ≤ (Sh 48 3072).size d),
        o ≤ C.val → C.val < o + 512 → ix2 r C ∈ (Rect.unit (s := Sh 48 3072) ![0, o] ![48, 512] h).set := fun o h a b =>
      Rect.mem_set_unit.2 fun d => match d with
        | 0 => ⟨Nat.zero_le _, by show r.val < 0 + 48; omega⟩
        | 1 => ⟨a, b⟩
    rcases (by omega : C.val < 512 ∨ (512 ≤ C.val ∧ C.val < 1024) ∨ (1024 ≤ C.val ∧ C.val < 1536) ∨ (1536 ≤ C.val ∧ C.val < 2048)
        ∨ (2048 ≤ C.val ∧ C.val < 2560) ∨ 2560 ≤ C.val) with h | h | h | h | h | h
    · exact ⟨⟨Rect.unit ![0, 0] ![48, 512] h0, tile6 x 0⟩, by simp only [List.mem_cons, true_or, or_true], mem 0 h0 (by omega) (by omega)⟩
    · exact ⟨⟨Rect.unit ![0, 512] ![48, 512] h1, tile6 x 1⟩, by simp only [List.mem_cons, true_or, or_true], mem 512 h1 (by omega) (by omega)⟩
    · exact ⟨⟨Rect.unit ![0, 1024] ![48, 512] h2, tile6 x 2⟩, by simp only [List.mem_cons, true_or, or_true], mem 1024 h2 (by omega) (by omega)⟩
    · exact ⟨⟨Rect.unit ![0, 1536] ![48, 512] h3, tile6 x 3⟩, by simp only [List.mem_cons, true_or, or_true], mem 1536 h3 (by omega) (by omega)⟩
    · exact ⟨⟨Rect.unit ![0, 2048] ![48, 512] h4, tile6 x 4⟩, by simp only [List.mem_cons, true_or, or_true], mem 2048 h4 (by omega) (by omega)⟩
    · exact ⟨⟨Rect.unit ![0, 2560] ![48, 512] h5, tile6 x 5⟩, by simp only [List.mem_cons, true_or, or_true], mem 2560 h5 (by omega) (by omega)⟩
  · exact View.allAt_cons_unit _ _ _ _ _ (key 5) (View.allAt_cons_unit _ _ _ _ _ (key 4) (View.allAt_cons_unit _ _ _ _ _ (key 3)
      (View.allAt_cons_unit _ _ _ _ _ (key 2) (View.allAt_cons_unit _ _ _ _ _ (key 1) (View.allAt_cons_unit _ _ _ _ _ (key 0) (View.allAt_nil _ _))))))

/-- A sparse row product over the first `n` groups. -/
def rowSum (a : Nat → EReal) (v : Nat → BitVec 8) (m : Nat → BitVec 16) (s : Nat → EReal) (n : Nat) : EReal :=
  ∑ G ∈ Finset.range n, term a v m s G

/-- One more tile of 128 groups. -/
theorem rowSum_tile (a : Nat → EReal) (v : Nat → BitVec 8) (m : Nat → BitVec 16) (s : Nat → EReal) (k : Nat) :
    rowSum a v m s (128 * k) + ∑ g ∈ Finset.range 128, term a v m s (k * 128 + g) = rowSum a v m s (128 * (k + 1)) := by
  unfold rowSum
  rw [Nat.mul_add, Nat.mul_one, Finset.sum_range_add, Nat.mul_comm 128 k]

/-- Six tiles make the row product over 768 groups. -/
theorem rowSum6 (a : Nat → EReal) (v : Nat → BitVec 8) (m : Nat → BitVec 16) (s : Nat → EReal) (f : Nat → EReal)
    (h : ∀ k, k < 6 → f k = ∑ g ∈ Finset.range 128, term a v m s (k * 128 + g)) :
    f 0 + f 1 + f 2 + f 3 + f 4 + f 5 = rowSum a v m s 768 := by
  have e := rowSum_tile a v m s
  have e0 : rowSum a v m s (128 * 0) = 0 := by simp [rowSum]
  have e1 := e 0
  rw [e0, zero_add, ← h 0 (by omega)] at e1
  rw [e1, h 1 (by omega), h 2 (by omega), h 3 (by omega), h 4 (by omega), h 5 (by omega), e 1, e 2, e 3, e 4, e 5]

end Cert.Sparse

end
-- ==== Proof.Tiles.lean ====
/- Any number of tiles: the activations put in decode order tile by tile, and one tile of the sparse product loaded from a grid point's
   blocks, with the sums they make. -/
module

public import proofs.«01_k».proof.Proof.Order

@[expose] public section

set_option maxRecDepth 16384

noncomputable section

namespace Cert.Sparse

open Idealize.ShloMosaic
open scoped BigOperators

/-- The shape facts of `T` activation tiles of 512 columns. -/
structure TEv (T K R : Nat) : Prop where
  sl : ∀ k : Fin T, (Sh 48 K).Slices ![0, 512 * k.val] (Sh 48 512)
  cat : ∀ f : Fin T → ((Sh 48 512).Idx → Ideal .bf16),
    Shape.Concatenates ((List.ofFn fun n : Fin T => (⟨Sh 48 512, f n⟩ : (s : Shape) × (s.Idx → Ideal .bf16))).map (·.1)) (Sh R 512) 0
  rs : ∀ k : Fin T, (Sh R 512).Slices ![48 * k.val, 0] (Sh 48 512)
  hK : K = 512 * T
  hR : R = 48 * T
  h0 : (Sh 512 512).Iotas .tc 32 [0]
  h1 : (Sh 512 512).Iotas .tc 32 [1]
  id : (Sh 48 512).ShapeCasts (Sh 48 512)

variable {T K R : Nat} (E : TEv T K R)

/-- The tiles of 512 columns, one under another. -/
def stackT (x : FVec Ideal (Sh 48 K) .bf16) : FVec Ideal (Sh R 512) .bf16 :=
  concatenate (Sh R 512) 0 (List.ofFn fun k : Fin T => (⟨Sh 48 512, extractStridedSlice (Sh 48 512) ![0, 512 * k.val] x (E.sl k)⟩ : (s : Shape) × (s.Idx → Ideal .bf16))) (E.cat _)

/-- Tile `k` of the activations, in decode order. -/
def tileT (x : FVec Ideal (Sh 48 K) .bf16) (k : Fin T) : FVec Ideal (Sh 48 512) .bf16 :=
  shapeCast (Sh 48 512) (extractStridedSlice (Sh 48 512) ![48 * k.val, 0] (reordered E.h0 E.h1 (stackT E x)) (E.rs k)) E.id

/-- A tile in decode order, read at a place. -/
theorem tileT_apply (x : FVec Ideal (Sh 48 K) .bf16) (k : Fin T) (r : Fin 48) (o : Fin 512) :
    (tileT E x k (ix2 r o) : EReal) = at2 (0 : EReal) x r.val (k.val * 512 + 4 * (o.val % 128) + o.val / 128) := by
  have hk := k.isLt; have hr := r.isLt; have ho := o.isLt; have hR := E.hR; have hK := E.hK
  unfold tileT
  rw [shapeCast_apply _ _ (ix2 r o) (ix2 r o) rfl,
    extractStridedSlice_apply _ _ (E.rs k) (ix2 r o) (ix2 (⟨48 * k.val + r.val, by omega⟩ : Fin R) o) (by
      intro d
      match d with
      | ⟨0, _⟩ => rfl
      | ⟨1, _⟩ => exact (Nat.zero_add _).symm),
    reordered_apply]
  have h1 : stackT E x (ix2 (⟨48 * k.val + r.val, by omega⟩ : Fin R) (src o)) = extractStridedSlice (Sh 48 512) ![0, 512 * k.val] x (E.sl k) (ix2 r (src o)) :=
    concatenate_ofFn_apply (t := Sh R 512) 0 (fun k : Fin T => extractStridedSlice (Sh 48 512) ![0, 512 * k.val] x (E.sl k)) (E.cat _) rfl 48 rfl
      (ix2 (⟨48 * k.val + r.val, by omega⟩ : Fin R) (src o)) k (by show (48 * k.val + r.val) / 48 = k.val; omega) (ix2 r (src o))
      (by show r.val = (48 * k.val + r.val) % 48; omega) (by
      intro d hd
      match d with
      | ⟨0, _⟩ => exact absurd rfl hd
      | ⟨1, _⟩ => rfl)
  rw [h1, extractStridedSlice_apply _ _ (E.sl k) _ (ix2 r (⟨512 * k.val + (src o).val, by have := (src o).isLt; omega⟩ : Fin K)) (by
      intro d
      match d with
      | ⟨0, _⟩ => exact (Nat.zero_add _).symm
      | ⟨1, _⟩ => rfl)]
  refine (at2_eq (0 : EReal) x _ _).trans ?_
  congr 1
  show 512 * k.val + (4 * (o.val % 128) + o.val / 128) = _
  omega

/-- A scratch in which the tiles are stored side by side, the last tile last, read back. -/
theorem canonT (x : FVec Ideal (Sh 48 K) .bf16) (h : ∀ (k : Fin T) d, (![0, 512 * k.val] : Fin 2 → Nat) d + (![48, 512] : Fin 2 → Nat) d ≤ (Sh 48 K).size d)
    (r : Fin 48) (C : Fin K) :
    (View.canon (Val := Elt Ideal) (s := Sh 48 K) (e := .bf16)
      (List.ofFn fun k : Fin T => (⟨Rect.unit ![0, 512 * k.rev.val] ![48, 512] (h k.rev), tileT E x k.rev⟩ : View.Piece (Elt Ideal) (Sh 48 K) .bf16)) (ix2 r C) : EReal)
      = at2 (0 : EReal) x r.val (srcCol C.val) := by
  have hK := E.hK
  have hC := C.isLt
  have hr := r.isLt
  refine View.canon_eq_of_allAt _ _ _ ?_ ?_
  · have hT : C.val / 512 < T := by omega
    refine ⟨⟨Rect.unit ![0, 512 * (C.val / 512)] ![48, 512] (h ⟨C.val / 512, hT⟩), tileT E x ⟨C.val / 512, hT⟩⟩, ?_, ?_⟩
    · refine List.mem_ofFn.2 ⟨(⟨C.val / 512, hT⟩ : Fin T).rev, ?_⟩
      have e : ∀ j : Fin T, j = ⟨C.val / 512, hT⟩ → (⟨Rect.unit ![0, 512 * j.val] ![48, 512] (h j), tileT E x j⟩ : View.Piece (Elt Ideal) (Sh 48 K) .bf16)
          = ⟨Rect.unit ![0, 512 * (C.val / 512)] ![48, 512] (h ⟨C.val / 512, hT⟩), tileT E x ⟨C.val / 512, hT⟩⟩ := by
        rintro j rfl; rfl
      exact e _ (Fin.rev_rev _)
    · exact (Rect.mem_set_unit (inb := h ⟨C.val / 512, hT⟩)).2 fun d => match d with
        | 0 => ⟨Nat.zero_le _, by show r.val < 0 + 48; omega⟩
        | 1 => ⟨by show 512 * (C.val / 512) ≤ C.val; omega, by show C.val < 512 * (C.val / 512) + 512; omega⟩
  · intro p hp
    obtain ⟨k, rfl⟩ := List.mem_ofFn.1 hp
    intro z hz
    have z0 : 0 + 1 * (z 0).val = r.val := congrArg (fun y => (y 0).val) hz
    have z1 : 512 * k.rev.val + 1 * (z 1).val = C.val := congrArg (fun y => (y 1).val) hz
    have b1 : (z 1).val < 512 := (z 1).isLt
    rw [eq_ix2 z]
    refine (tileT_apply E x k.rev (z 0) (z 1)).trans ?_
    unfold srcCol
    congr 1 <;> omega

/-- A load from a scratch that one store filled whole reads the stored array. -/
theorem readCov_filled {Val : EltTy → Type} [∀ e, Nonempty (Val e)] {sig : RefSig} {κ : Kind} {sp : Space} {e : EltTy} {a b : Nat} (v : View sig κ sp (Sh a b) e)
    (inb : ∀ d, (![0, 0] : Fin 2 → Nat) d + (![a, b] : Fin 2 → Nat) d ≤ (Sh a b).size d) (w : (Sh a b).Idx → Val e) (r : Rect (Sh a b)) :
    v.readCov [(⟨Rect.unit ![0, 0] ![a, b] inb, w⟩ : View.Piece Val (Sh a b) e)] r.toLoadRect = View.ld w r := by
  have hz : (![0, 0] : Fin 2 → Nat) = fun _ => 0 := by funext d; match d with | 0 => rfl | 1 => rfl
  have cov : ∀ y : (Sh a b).Idx, ∃ p ∈ [(⟨Rect.unit ![0, 0] ![a, b] inb, w⟩ : View.Piece Val (Sh a b) e)], y ∈ p.1.set := fun y =>
    ⟨_, List.mem_singleton.2 rfl, (Rect.mem_set_unit (inb := inb)).2 fun d => ⟨by rw [congrFun hz d]; exact Nat.zero_le _, by
      rw [congrFun hz d, Nat.zero_add]; exact (y d).isLt⟩⟩
  rw [View.readCov_eq_canon_ld v _ r cov]
  congr 1
  exact View.canon_cons_unit_zero hz _ _ _

/-! ## One tile of the product, from the blocks of a grid point -/

variable {n Vw Mh Sh' : Nat}

/-- The tile of column block `k` of the codes and row block `k` of the scales, with its metadata already loaded. -/
def loadTile (D : Ev n) (A : FVec Ideal (Sh 48 512) .bf16) (V : Vec Ideal (Sh n Vw) .i8) (M : IVec (Sh 32 n) 16) (S : Vec Ideal (Sh Sh' n) .f32) (k : Nat)
    (hV : ∀ d, (![0, 128 * k] : Fin 2 → Nat) d + (![n, 128] : Fin 2 → Nat) d ≤ (Sh n Vw).size d)
    (hS : ∀ d, (![4 * k, 0] : Fin 2 → Nat) d + (![4, n] : Fin 2 → Nat) d ≤ (Sh Sh' n).size d) : FVec Ideal (Sh 48 n) .f32 :=
  tile D A (View.ld V (Rect.unit ![0, 128 * k] ![n, 128] hV)) M (View.ld S (Rect.unit ![4 * k, 0] ![4, n] hS))

/-- Row block `k` of the metadata, loaded. -/
def loadMeta (M : Vec Ideal (Sh Mh n) .i16) (k : Nat) (hM : ∀ d, (![32 * k, 0] : Fin 2 → Nat) d + (![32, n] : Fin 2 → Nat) d ≤ (Sh Mh n).size d) : IVec (Sh 32 n) 16 :=
  View.ld M (Rect.unit ![32 * k, 0] ![32, n] hM)

/-- The loaded metadata, read at a place. -/
theorem loadMeta_apply (M : Vec Ideal (Sh Mh n) .i16) (k : Nat) (hM) (q : Fin n) (m : Nat → BitVec 16) (hm : ∀ p : Fin Mh, M (ix2 p q) = m p.val) (p : Fin 32) :
    loadMeta M k hM (ix2 p q) = m (k * 32 + p.val) := by
  refine (ld_ix2 (Val := Elt Ideal) (e := .i16) M (32 * k) 0 hM p q).trans ?_
  rw [Nat.mul_comm k, ← hm ⟨32 * k + p.val, by have : 32 * k + 32 ≤ Mh := hM 0; have := p.isLt; omega⟩]
  congr 2
  exact Fin.ext (Nat.zero_add _)

/-- One loaded tile, summed over its groups. -/
theorem loadTile_apply (D : Ev n) (A : FVec Ideal (Sh 48 512) .bf16) (V : Vec Ideal (Sh n Vw) .i8) (M : IVec (Sh 32 n) 16) (S : Vec Ideal (Sh Sh' n) .f32) (k : Nat)
    (hV hS) (r : Fin 48) (q : Fin n) (a : Nat → EReal) (v : Nat → BitVec 8) (m : Nat → BitVec 16) (s : Nat → EReal)
    (hA : ∀ o : Fin 512, (A (ix2 r o) : EReal) = a (k * 512 + 4 * (o.val % 128) + o.val / 128))
    (hv : ∀ G : Fin Vw, V (ix2 q G) = v G.val) (hm : ∀ p : Fin 32, M (ix2 p q) = m (k * 32 + p.val)) (hs : ∀ b : Fin Sh', (S (ix2 b q) : EReal) = s b.val)
    (ho : ∀ G, G < Vw → nibOf (m (G / 4)) G % 4 < nibOf (m (G / 4)) G / 4) :
    (loadTile D A V M S k hV hS (ix2 r q) : EReal) = ∑ g ∈ Finset.range 128, term a v m s (k * 128 + g) := by
  have bV : 128 * k + 128 ≤ Vw := hV 1
  unfold loadTile
  refine tile_apply D A _ _ _ r q k a v m s hA ?_ hm ?_ (fun G _ h => ho G (by omega))
  · intro g
    refine (ld_ix2 (Val := Elt Ideal) (e := .i8) V 0 (128 * k) hV q g).trans ?_
    rw [Nat.mul_comm k, ← hv ⟨128 * k + g.val, by have := g.isLt; omega⟩]
    congr 2
    exact Fin.ext (Nat.zero_add _)
  · intro b
    refine (ld_ix2 (Val := Elt Ideal) (e := .f32) S (4 * k) 0 hS b q).trans ?_
    rw [Nat.mul_comm k, ← hs ⟨4 * k + b.val, by have : 4 * k + 4 ≤ Sh' := hS 0; have := b.isLt; omega⟩]
    congr 2
    exact Fin.ext (Nat.zero_add _)

/-! ## Six tiles and sixteen -/

/-- The product's six tiles, summed in order. -/
def sum6 (f : Fin 6 → FVec Ideal (Sh 48 n) .f32) : FVec Ideal (Sh 48 n) .f32 :=
  addf (addf (addf (addf (addf (f 0) (f 1)) (f 2)) (f 3)) (f 4)) (f 5)

/-- The product's sixteen tiles, summed in order. -/
def sum16 (f : Fin 16 → FVec Ideal (Sh 48 n) .f32) : FVec Ideal (Sh 48 n) .f32 :=
  addf (addf (addf (addf (addf (addf (addf (addf (addf (addf (addf (addf (addf (addf (addf (f 0) (f 1)) (f 2)) (f 3)) (f 4)) (f 5)) (f 6)) (f 7)) (f 8)) (f 9))
    (f 10)) (f 11)) (f 12)) (f 13)) (f 14)) (f 15)

/-- Six tiles make the row product over 768 groups. -/
theorem sum6_apply (f : Fin 6 → FVec Ideal (Sh 48 n) .f32) (i : (Sh 48 n).Idx) (a : Nat → EReal) (v : Nat → BitVec 8) (m : Nat → BitVec 16) (s : Nat → EReal)
    (h : ∀ k : Fin 6, (f k i : EReal) = ∑ g ∈ Finset.range 128, term a v m s (k.val * 128 + g)) : (sum6 f i : EReal) = rowSum a v m s 768 := by
  rw [← rowSum6 a v m s (fun k => ∑ g ∈ Finset.range 128, term a v m s (k * 128 + g)) (fun _ _ => rfl)]
  refine congrArg₂ (· + ·) (congrArg₂ (· + ·) (congrArg₂ (· + ·) (congrArg₂ (· + ·) (congrArg₂ (· + ·) (h 0) (h 1)) (h 2)) (h 3)) (h 4)) (h 5)

/-- Sixteen tiles make the row product over 2048 groups. -/
theorem sum16_apply (f : Fin 16 → FVec Ideal (Sh 48 n) .f32) (i : (Sh 48 n).Idx) (a : Nat → EReal) (v : Nat → BitVec 8) (m : Nat → BitVec 16) (s : Nat → EReal)
    (h : ∀ k : Fin 16, (f k i : EReal) = ∑ g ∈ Finset.range 128, term a v m s (k.val * 128 + g)) : (sum16 f i : EReal) = rowSum a v m s 2048 := by
  have e := rowSum_tile a v m s
  have e0 : ∑ g ∈ Finset.range 128, term a v m s (0 * 128 + g) = rowSum a v m s (128 * 1) := by
    rw [← e 0]; simp [rowSum]
  have A : ∀ (k : Fin 16) (x y : EReal), x = rowSum a v m s (128 * k.val) → y = f k i → x + y = rowSum a v m s (128 * (k.val + 1)) := by
    intro k x y hx hy; rw [hx, hy, h k]; exact e k.val
  exact A 15 _ _ (A 14 _ _ (A 13 _ _ (A 12 _ _ (A 11 _ _ (A 10 _ _ (A 9 _ _ (A 8 _ _ (A 7 _ _ (A 6 _ _ (A 5 _ _ (A 4 _ _ (A 3 _ _ (A 2 _ _ (A 1 _ _
    ((h 0).trans e0) rfl) rfl) rfl) rfl) rfl) rfl) rfl) rfl) rfl) rfl) rfl) rfl) rfl) rfl) rfl

end Cert.Sparse

end
-- ==== Proof.Wo.lean ====
/- What the kernel leaves in its output, element by element: the residual plus the sparse row product of the 2:4 format. -/
module

public import proofs.«01_k».proof.Proof.Gen.KWoIdeal.Value
public import proofs.«01_k».proof.Proof.Tiles
public import Idealize.ShloMosaic.Lib.Pipeline.ReadBack
public import Idealize.ShloMosaic.Lib.Claim

@[expose] public section

set_option maxRecDepth 16384

noncomputable section

namespace Cert.Wo

open Cert.KWoIdeal Cert.KWoIdeal.Gen Cert.Sparse Idealize.ShloMosaic Idealize.ShloMosaic.TcCoe Idealize.SL.Sem

/-- The shape facts of a tile of 512 output columns. -/
theorem ev512 : Ev 512 where
  tr := by decide
  w8 := by decide
  w16 := by decide
  e1 := by decide
  e2 := by decide
  e3 := by decide
  io := by decide
  b8 := by decide
  s0 := by decide
  s1 := by decide
  s2 := by decide
  s3 := by decide
  bc := by decide
  idc := by decide
  id4 := by decide
  id32 := by decide
  c32 := by decide
  c128 := by decide

/-- The body's result from its six activation tiles and its blocks. -/
def body (A : Fin 6 → FVec Ideal S48x512 .bf16) (x : Vec Ideal S48x512 .bf16) (V : Vec Ideal S512x768 .i8) (M : Vec Ideal S192x512 .i16)
    (S : Vec Ideal S24x512 .f32) : FVec Ideal S48x512 .f32 :=
  addf (extf .f32 (shapeCast S48x512 x shapeCasts_S48x512_S48x512) bitsLt_bf16_f32)
    (sum6 fun k => loadTile ev512 (A k) V (shapeCast S32x512 (loadMeta M k.val (by revert k; decide)) shapeCasts_S32x512_S32x512) S k.val (by revert k; decide) (by revert k; decide))

variable (m : (ℓ : Loc nD τ sig) → Buf (Elt Ideal) ℓ)

/-- The activations of a block, in the kernel's format. -/
def acts (a : Vec Ideal S48x3072 .f32) : FVec Ideal S48x3072 .bf16 := truncf .bf16 a bitsLt_bf16_f32

set_option maxHeartbeats 4000000 in
/-- At the first point: the activation tiles are those just put in decode order. -/
theorem out_A (c : Dev nD) (t : Fin cfg0.N) (h0 : t.val % 6 = 0) :
    (outsAt0 m c t.val t.isLt).1 = body (tile6 (acts (iblk m c 0 t))) (iblk m c 1 t) (iblk m c 2 t) (iblk m c 3 t) (iblk m c 4 t) := by
  rw [outsAt0_A m c t h0]
  frame_open
  simp (disch := decide) only [↓ View.readCov_skip, ↓ View.readCov_cons_toLoadRect, ↓ View.readCov_fill]
  frame_out
  rfl

set_option maxHeartbeats 4000000 in
/-- At a later point: the activation tiles are those of the carried scratch. -/
theorem out_B (c : Dev nD) (t : Fin cfg0.N) (h0 : ¬t.val % 6 = 0) (X : Vec Ideal S48x3072 .bf16)
    (hX : (outsAt0 m c (t.val - 1) (Nat.lt_of_le_of_lt (Nat.sub_le _ _) t.isLt)).2 = X) :
    (outsAt0 m c t.val t.isLt).1 = body (fun k => View.ld (Val := Elt Ideal) (e' := .bf16) X (Rect.unit (s := S48x3072) ![0, 512 * k.val] ![48, 512] (by revert k; decide)))
      (iblk m c 1 t) (iblk m c 2 t) (iblk m c 3 t) (iblk m c 4 t) := by
  rw [outsAt0_B m c t h0, hX]
  frame_out
  simp only [read_unread_whole]
  rfl

/-- What the first point leaves in the scratch: the six tiles side by side. -/
theorem scratch_A (c : Dev nD) (t : Fin cfg0.N) (h0 : t.val % 6 = 0) (r : Fin 48) (C : Fin 3072) :
    ((outsAt0 m c t.val t.isLt).2 (ix2 r C) : EReal) = at2 (0 : EReal) (acts (iblk m c 0 t)) r.val (srcCol C.val) := by
  rw [outsAt0_A m c t h0]
  frame_open
  frame_out
  exact canon6 (acts (iblk m c 0 t)) _ _ _ _ _ _ r C

/-- Where each window's block of a point lies. -/
theorem idx : ∀ t : Fin cfg0.N, win0_0.index t = ![0, 0] ∧ win0_1.index t = ![0, t.val] ∧ win0_2.index t = ![t.val, 0] ∧ win0_3.index t = ![0, t.val]
    ∧ win0_4.index t = ![0, t.val] :=
  (by decide +kernel : ∀ t : Fin grid0.N, _)

/-- Column `k` of block `t` is a column of the array. -/
theorem col_lt (t : Fin cfg0.N) (k : Fin 512) : 512 * t.val + k.val < 3072 := by
  have := k.isLt; have : t.val < 6 := t.isLt; omega

/-- The activation block is the whole argument. -/
theorem b0 (c : Dev nD) (t : Fin cfg0.N) : iblk m c 0 t = m ((c : Thread nD τ).loc main_arg0) := by
  funext y
  blk_ext [iblk, V, idx t]

/-- The residual block. -/
theorem b1 (c : Dev nD) (t : Fin cfg0.N) (r : Fin 48) (k : Fin 512) :
    iblk m c 1 t (ix2 r k) = m ((c : Thread nD τ).loc main_arg1) (ix3 r 0 (⟨512 * t.val + k.val, col_lt t k⟩ : Fin 3072)) := by
  blk_simp [iblk, idx t]
  entry_read
  pointwise
  blk_ext [idx t]

/-- The code block: a band of rows. -/
theorem b2 (c : Dev nD) (t : Fin cfg0.N) (k : Fin 512) (r : Fin 768) :
    iblk m c 2 t (ix2 k r) = m ((c : Thread nD τ).loc main_arg2) (ix2 (⟨512 * t.val + k.val, col_lt t k⟩ : Fin 3072) r) := by
  blk_ext [iblk, V, idx t]

/-- The metadata block: a band of columns of the transposed argument. -/
theorem b3 (c : Dev nD) (t : Fin cfg0.N) (r : Fin 192) (k : Fin 512) :
    iblk m c 3 t (ix2 r k) = m ((c : Thread nD τ).loc main_arg3) (ix2 (⟨512 * t.val + k.val, col_lt t k⟩ : Fin 3072) r) := by
  blk_simp [iblk, idx t]
  entry_read
  pointwise
  blk_ext [idx t]

/-- The scale block: a band of columns of the transposed argument. -/
theorem b4 (c : Dev nD) (t : Fin cfg0.N) (r : Fin 24) (k : Fin 512) :
    iblk m c 4 t (ix2 r k) = m ((c : Thread nD τ).loc main_arg4) (ix2 (⟨512 * t.val + k.val, col_lt t k⟩ : Fin 3072) r) := by
  blk_simp [iblk, idx t]
  entry_read
  pointwise
  blk_ext [idx t]

/-- The activations of row `r`, column by column. -/
def arow (c : Dev nD) (r : Fin 48) : Nat → EReal := at2 (0 : EReal) (acts (m ((c : Thread nD τ).loc main_arg0))) r.val

/-- The code bytes of output column `C`. -/
def vrow (c : Dev nD) (C : Fin 3072) : Nat → BitVec 8 := at2 (α := BitVec 8) (a := 3072) (b := 768) 0 (m ((c : Thread nD τ).loc main_arg2)) C.val

/-- The metadata words of output column `C`. -/
def mrow (c : Dev nD) (C : Fin 3072) : Nat → BitVec 16 := at2 (α := BitVec 16) (a := 3072) (b := 192) 0 (m ((c : Thread nD τ).loc main_arg3)) C.val

/-- The scales of output column `C`. -/
def srow (c : Dev nD) (C : Fin 3072) : Nat → EReal := at2 (α := EReal) (a := 3072) (b := 24) 0 (m ((c : Thread nD τ).loc main_arg4)) C.val

/-- The residual at a place. -/
def resid (c : Dev nD) (r : Fin 48) (C : Fin 3072) : EReal := m ((c : Thread nD τ).loc main_arg1) (ix3 r 0 C)

/-- Every later point finds the scratch as the first point left it. -/
theorem scratch (c : Dev nD) (n : Nat) : ∀ (hn : n < cfg0.N) (r : Fin 48) (C : Fin 3072),
    ((outsAt0 m c n hn).2 (ix2 r C) : EReal) = arow m c r (srcCol C.val) := by
  induction n with
  | zero => intro hn r C; rw [scratch_A m c ⟨0, hn⟩ rfl r C, b0]; rfl
  | succ n ih =>
    intro hn r C
    have hN : n + 1 < 6 := hn
    rw [← ih (by omega) r C]
    have := outsAt0_B m c ⟨n + 1, hn⟩ (by show ¬(n + 1) % 6 = 0; omega)
    rw [show outsAt0 m c (n + 1) hn = _ from this]
    rfl

set_option maxHeartbeats 1000000 in
/-- A point's body at one place: the residual plus the row product. -/
theorem body_apply (c : Dev nD) (t : Fin cfg0.N) (A : Fin 6 → FVec Ideal S48x512 .bf16) (r : Fin 48) (q : Fin 512)
    (hA : ∀ (k : Fin 6) (o : Fin 512), (A k (ix2 r o) : EReal) = arow m c r (k.val * 512 + 4 * (o.val % 128) + o.val / 128))
    (hv : ∀ G, G < 768 → nibOf (mrow m c ⟨_, col_lt t q⟩ (G / 4)) G % 4 < nibOf (mrow m c ⟨_, col_lt t q⟩ (G / 4)) G / 4) :
    (body A (iblk m c 1 t) (iblk m c 2 t) (iblk m c 3 t) (iblk m c 4 t) (ix2 r q) : EReal)
      = resid m c r ⟨512 * t.val + q.val, col_lt t q⟩
        + rowSum (arow m c r) (vrow m c ⟨_, col_lt t q⟩) (mrow m c ⟨_, col_lt t q⟩) (srow m c ⟨_, col_lt t q⟩) 768 := by
  have X : shapeCast S48x512 (iblk m c 1 t : FVec Ideal S48x512 .bf16) shapeCasts_S48x512_S48x512 (ix2 r q) = iblk m c 1 t (ix2 r q) :=
    shapeCast_apply (iblk m c 1 t : FVec Ideal S48x512 .bf16) shapeCasts_S48x512_S48x512 (ix2 r q) (ix2 r q) rfl
  refine congrArg₂ (· + ·) (X.trans (b1 m c t r q)) (sum6_apply _ _ _ _ _ _ fun k => ?_)
  exact loadTile_apply ev512 (A k) (iblk m c 2 t) _ (iblk m c 4 t) k.val _ _ r q _ _ _ _ (hA k)
    (fun G => (b2 m c t q G).trans (at2_eq (0 : BitVec 8) _ _ _))
    (fun p => (shapeCast_apply _ _ (ix2 p q) (ix2 p q) rfl).trans
      (loadMeta_apply _ k.val _ q _ (fun p => (b3 m c t p q).trans (at2_eq (0 : BitVec 16) _ _ _)) p))
    (fun b => (b4 m c t b q).trans (at2_eq (0 : EReal) _ _ _)) hv

/-- What a point leaves in its output block. -/
theorem out_apply (c : Dev nD) (t : Fin cfg0.N) (r : Fin 48) (q : Fin 512)
    (hv : ∀ G, G < 768 → nibOf (mrow m c ⟨_, col_lt t q⟩ (G / 4)) G % 4 < nibOf (mrow m c ⟨_, col_lt t q⟩ (G / 4)) G / 4) :
    ((outsAt0 m c t.val t.isLt).1 (ix2 r q) : EReal)
      = resid m c r ⟨512 * t.val + q.val, col_lt t q⟩
        + rowSum (arow m c r) (vrow m c ⟨_, col_lt t q⟩) (mrow m c ⟨_, col_lt t q⟩) (srow m c ⟨_, col_lt t q⟩) 768 := by
  by_cases h0 : t.val % 6 = 0
  · rw [out_A m c t h0, b0]
    exact body_apply m c t (tile6 (acts (m ((c : Thread nD τ).loc main_arg0)))) r q (fun k o => tile6_apply _ k r o) hv
  · have hX := scratch m c (t.val - 1) (Nat.lt_of_le_of_lt (Nat.sub_le _ _) t.isLt) r
    rw [out_B m c t h0 _ rfl]
    refine body_apply m c t _ r q (fun k o => ?_) hv
    have e := ld_ix2 (Val := Elt Ideal) (e := .bf16) (outsAt0 m c (t.val - 1) (Nat.lt_of_le_of_lt (Nat.sub_le _ _) t.isLt)).2 0 (512 * k.val) (by revert k; decide) r o
    refine e.trans ?_
    simp only [Nat.zero_add]
    refine (hX ⟨512 * k.val + o.val, by have := k.isLt; have := o.isLt; omega⟩).trans ?_
    have := o.isLt
    unfold srcCol
    congr 1
    show (512 * k.val + o.val) / 512 * 512 + 4 * ((512 * k.val + o.val) % 512 % 128) + (512 * k.val + o.val) % 512 / 128 = _
    omega

/-- The kernel's whole result, element by element. -/
theorem G5_apply (c : Dev nD) (r : Fin 48) (C : Fin 3072) (hv : ∀ G, G < 768 → nibOf (mrow m c C (G / 4)) G % 4 < nibOf (mrow m c C (G / 4)) G / 4) :
    (Cert.KWoIdeal.Value.G5 m c (ix2 r C) : EReal)
      = resid m c r C + rowSum (arow m c r) (vrow m c C) (mrow m c C) (srow m c C) 768 := by
  have hp : Cert.KWoIdeal.Value.pt5Of (ix2 r C) = C.val / 512 := by
    show 6 * (r.val / 48 - 0) + 1 * (C.val / 512 - 0) = C.val / 512
    have := r.isLt
    omega
  have hl : C.val / 512 < cfg0.N := by show C.val / 512 < 6; have := C.isLt; omega
  have hC : (⟨512 * (C.val / 512) + C.val % 512, by have := C.isLt; omega⟩ : Fin 3072) = C := Fin.ext (Nat.div_add_mod _ _)
  have o := out_apply m c ⟨C.val / 512, hl⟩ r ⟨C.val % 512, Nat.mod_lt _ (by decide)⟩ (by simpa only [hC] using hv)
  simp only [hC] at o
  rw [← o]
  unfold Cert.KWoIdeal.Value.G5
  rw [dif_pos (by rw [hp]; exact hl), ← Cert.KWoIdeal.Value.outsAt0_sweep m c _ (by rw [hp]; exact hl)]
  have e : ∀ (n : Nat) (h : n < cfg0.N) (n' : Nat) (h' : n' < cfg0.N), n = n' → outsAt0 m c n h = outsAt0 m c n' h' := by
    intro n h n' h' e; subst e; rfl
  rw [e _ _ _ hl hp]
  have l : Cert.KWoIdeal.Value.loc5Of (ix2 r C) = ix2 r ⟨C.val % 512, Nat.mod_lt _ (by decide)⟩ := by
    funext d
    match d with
    | ⟨0, _⟩ => exact Fin.ext (Nat.mod_eq_of_lt r.isLt)
    | ⟨1, _⟩ => rfl
  exact congrArg (outsAt0 m c (C.val / 512) hl).1 l

end Cert.Wo

end
-- ==== Proof.RefSparse.lean ====
/- The reference's sparse product, element by element: four dense products, one per place of a group, add up to the row product over all groups. -/
module

public import proofs.«01_k».proof.Proof.Order
public import Idealize.ShloMosaic.Lib.Routing.Words
public import Idealize.ShloMosaic.Lib.StackMember
public import Idealize.ShloMosaic.Lib.WordArith

@[expose] public section

set_option maxRecDepth 16384

noncomputable section

namespace Cert.Sparse

open Idealize.ShloMosaic

/-- The shape of a scalar. -/
abbrev Sc : Shape := ⟨0, ![]⟩

/-- The shape of a vector. -/
abbrev Ve (a : Nat) : Shape := ⟨1, ![a]⟩

/-- The shape of a box. -/
abbrev Bx (a b c : Nat) : Shape := ⟨3, ![a, b, c]⟩

/-- The shape facts of a reference with `N` output columns, `G` groups, `P` metadata words and `B` scale blocks a column, `K` activations a row. -/
structure REv (N G P B K : Nat) : Prop where
  w8 : 8 < 32
  w16 : 16 < 32
  fb : FTy.bits .bf16 < FTy.bits .f32
  sm : Sc.BroadcastsInDim (Sh N G) (![] : Fin 0 → Fin (Sh N G).rank)
  sv : Sc.BroadcastsInDim (Ve G) (![] : Fin 0 → Fin (Ve G).rank)
  mb : (Sh N P).BroadcastsInDim (Bx N P 4) (![0, 1] : Fin 2 → Fin (Bx N P 4).rank)
  mc : (Bx N P 4).ShapeCasts (Sh N G)
  gb : (Ve G).BroadcastsInDim (Sh 1 G) (![1] : Fin 1 → Fin (Sh 1 G).rank)
  nb : (Sh 1 G).BroadcastsInDim (Sh N G) (![0, 1] : Fin 2 → Fin (Sh N G).rank)
  bb : (Sh N B).BroadcastsInDim (Bx N B 32) (![0, 1] : Fin 2 → Fin (Bx N B 32).rank)
  bc : (Bx N B 32).ShapeCasts (Sh N G)
  s0 : (Sh 48 K).SlicesBy (![0, 0] : Fin 2 → Nat) ![1, 4] (Sh 48 G)
  s1 : (Sh 48 K).SlicesBy (![0, 1] : Fin 2 → Nat) ![1, 4] (Sh 48 G)
  s2 : (Sh 48 K).SlicesBy (![0, 2] : Fin 2 → Nat) ![1, 4] (Sh 48 G)
  s3 : (Sh 48 K).SlicesBy (![0, 3] : Fin 2 → Nat) ![1, 4] (Sh 48 G)
  dd : DotDims.WF (Sh 48 G) (Sh N G) (Sh 48 N) [1] [1] [0] [0] [] []

variable {N G P B K : Nat}

/-- The product's axes: both operands' second axes are contracted. -/
def refDims (E : REv N G P B K) : DotDims (Sh 48 G) (Sh N G) (Sh 48 N) where
  lhsContracting := [1]
  rhsContracting := [1]
  lhsNonContracting := [0]
  rhsNonContracting := [0]
  lhsBatch := []
  rhsBatch := []
  wf := E.dd

/-- A constant word everywhere. -/
def splat (E : REv N G P B K) (v : BitVec 32) : IVec (Sh N G) 32 := broadcastInDim (Sh N G) ![] E.sm (constantI Sc 32 v)

/-- The divisor four, guarded against zero as the remainder's definition has it. -/
def four : IVec Sc 32 := select (cmpi .eq (id (constantI Sc 32 4#32)) (constantI Sc 32 0#32)) (constantI Sc 32 1#32) (id (constantI Sc 32 4#32))

/-- The groups' numbers' remainders by four. -/
def rems (E : REv N G P B K) : IVec (Ve G) 32 := Host.remsi (iotaInDim (Ve G) 32 0) (broadcastInDim (Ve G) ![] E.sv four)

/-- Each group's shift into its metadata word. -/
def shifts (E : REv N G P B K) : IVec (Ve G) 32 :=
  muli (broadcastInDim (Ve G) ![] E.sv (constantI Sc 32 4#32))
    (select (andi (cmpi .ne (cmpi .slt (rems E) (broadcastInDim (Ve G) ![] E.sv (constantI Sc 32 0#32)))
        (broadcastInDim (Ve G) ![] E.sv (cmpi .slt four (constantI Sc 32 0#32))))
      (cmpi .ne (rems E) (broadcastInDim (Ve G) ![] E.sv (constantI Sc 32 0#32))))
      (addi (rems E) (broadcastInDim (Ve G) ![] E.sv four)) (rems E))

/-- Each group's metadata word. -/
def groupWords (E : REv N G P B K) (M : IVec (Sh N P) 16) : IVec (Sh N G) 32 :=
  shapeCast (Sh N G) (broadcastInDim (Bx N P 4) ![0, 1] E.mb (extui 32 M E.w16)) E.mc

/-- Each group's shift, in every row. -/
def groupShifts (E : REv N G P B K) : IVec (Sh N G) 32 := broadcastInDim (Sh N G) ![0, 1] E.nb (broadcastInDim (Sh 1 G) ![1] E.gb (shifts E))

/-- Each group's metadata nibble. -/
def nibs (E : REv N G P B K) (M : IVec (Sh N P) 16) : IVec (Sh N G) 32 :=
  andi (Host.shrsi (groupWords E M) (groupShifts E)) (splat E 15#32)

/-- The four-bit words of a field, sign extended. -/
def signed (E : REv N G P B K) (f : IVec (Sh N G) 32) : IVec (Sh N G) 32 := select (cmpi .sge f (splat E 8#32)) (subi f (splat E 16#32)) f

/-- Each group's low code. -/
def lows (E : REv N G P B K) (V : IVec (Sh N G) 8) : FVec Ideal (Sh N G) .bf16 := sitofp .bf16 (signed E (andi (extui 32 V E.w8) (splat E 15#32)))

/-- Each group's high code. -/
def highs (E : REv N G P B K) (V : IVec (Sh N G) 8) : FVec Ideal (Sh N G) .bf16 := sitofp .bf16 (signed E (Host.shrsi (extui 32 V E.w8) (splat E 4#32)))

/-- Each group's scale. -/
def blockScales (E : REv N G P B K) (S : FVec Ideal (Sh N B) .f32) : FVec Ideal (Sh N G) .bf16 :=
  truncf .bf16 (shapeCast (Sh N G) (broadcastInDim (Bx N B 32) ![0, 1] E.bb S) E.bc) E.fb

/-- The weights of place `w` of every group. -/
def placed (E : REv N G P B K) (V : IVec (Sh N G) 8) (M : IVec (Sh N P) 16) (S : FVec Ideal (Sh N B) .f32) (w : BitVec 32) : FVec Ideal (Sh N G) .bf16 :=
  mulf (select (cmpi .eq (andi (nibs E M) (splat E 3#32)) (splat E w)) (lows E V)
    (select (cmpi .eq (Host.shrsi (nibs E M) (splat E 2#32)) (splat E w)) (highs E V) (broadcastInDim (Sh N G) ![] E.sm (constant Sc .bf16 0x0000#16))))
    (blockScales E S)

/-- The reference's product: one dense product per place of a group. -/
def refDot (E : REv N G P B K) (A : FVec Ideal (Sh 48 K) .bf16) (V : IVec (Sh N G) 8) (M : IVec (Sh N P) 16) (S : FVec Ideal (Sh N B) .f32) : FVec Ideal (Sh 48 N) .f32 :=
  addf (addf (addf
    (Host.dotGeneral (refDims E) none (Host.slice (Sh 48 G) ![0, 0] ![1, 4] A E.s0) (placed E V M S 0#32))
    (Host.dotGeneral (refDims E) none (Host.slice (Sh 48 G) ![0, 1] ![1, 4] A E.s1) (placed E V M S 1#32)))
    (Host.dotGeneral (refDims E) none (Host.slice (Sh 48 G) ![0, 2] ![1, 4] A E.s2) (placed E V M S 2#32)))
    (Host.dotGeneral (refDims E) none (Host.slice (Sh 48 G) ![0, 3] ![1, 4] A E.s3) (placed E V M S 3#32))

/-- A constant word, read at an index. -/
theorem splat_apply (E : REv N G P B K) (v : BitVec 32) (i) : splat E v i = v := rfl

/-- The guarded divisor is four. -/
theorem four_apply (i) : four i = 4#32 := rfl

/-- A group's number's remainder by four. -/
theorem rems_apply (E : REv N G P B K) (hG : G < 2 ^ 31) (g : Fin G) : rems E (ix1 g) = BitVec.ofNat 32 (g.val % 4) := by
  show IntOp.remsi .host (BitVec.ofNat 32 g.val) (BitVec.ofNat 32 4) = _
  exact Routing.remsi_word .host (by have := g.isLt; omega) (by decide) (by decide)

/-- A group's shift is four times its number's remainder by four. -/
theorem shifts_apply (E : REv N G P B K) (hG : G < 2 ^ 31) (g : Fin G) : shifts E (ix1 g) = BitVec.ofNat 32 (4 * (g.val % 4)) := by
  have h : ∀ k : Fin 4, ∀ x : BitVec 32, x = BitVec.ofNat 32 k.val →
      4#32 * (Scalar.select (IntOp.andi (IntOp.cmpi .ne (IntOp.cmpi .slt x 0#32) (IntOp.cmpi .slt 4#32 0#32)) (IntOp.cmpi .ne x 0#32)) (x + 4#32) x)
        = BitVec.ofNat 32 (4 * k.val) := by
    intro k x hx; subst hx; revert k; decide
  exact h ⟨g.val % 4, Nat.mod_lt _ (by decide)⟩ (rems E (ix1 g)) (rems_apply E hG g)

/-- A nibble of a widened metadata word. -/
theorem nib_word (x : BitVec 16) (k : Nat) (hk : k < 4) :
    IntOp.andi (IntOp.shrsi .host (x.setWidth 32) (BitVec.ofNat 32 (4 * k))) 15#32 = BitVec.ofNat 32 (x.toNat / 2 ^ (4 * k) % 16) := by
  have h1 : (BitVec.ofNat 32 (4 * k)).toNat = 4 * k := by simp; omega
  unfold IntOp.shrsi
  rw [if_pos (by rw [h1]; omega), BitVec.sshiftRight', h1]
  have hm : (x.setWidth 32).msb = false := by
    rw [BitVec.msb_eq_decide]; simp; omega
  rw [BitVec.sshiftRight_eq_of_msb_false hm]
  apply BitVec.eq_of_toNat_eq
  have hx := x.isLt
  show ((x.setWidth 32 >>> (4 * k)) &&& 15#32).toNat = _
  rw [BitVec.toNat_and, BitVec.toNat_ushiftRight, BitVec.toNat_setWidth, Nat.mod_eq_of_lt (by omega), Nat.shiftRight_eq_div_pow,
    show (15#32).toNat = 2 ^ 4 - 1 from rfl, Nat.and_two_pow_sub_one_eq_mod, BitVec.toNat_ofNat]
  omega

/-- A group's metadata word is the one four groups share. -/
theorem groupWords_apply (E : REv N G P B K) (hP : G = 4 * P) (M : IVec (Sh N P) 16) (n : Fin N) (g : Fin G) :
    groupWords E M (ix2 n g) = (M (ix2 n (⟨g.val / 4, by have := g.isLt; omega⟩ : Fin P))).setWidth 32 := by
  unfold groupWords
  rw [shapeCast_apply _ _ (ix2 n g) (ix3 n (⟨g.val / 4, by have := g.isLt; omega⟩ : Fin P) (⟨g.val % 4, Nat.mod_lt _ (by decide)⟩ : Fin 4)) (by
    rw [Shape.rowMajor_val_two, Shape.rowMajor_val_three]
    show (n.val * P + g.val / 4) * 4 + g.val % 4 = n.val * G + g.val
    have e : n.val * G = n.val * P * 4 := by subst hP; rw [Nat.mul_assoc, Nat.mul_comm P 4]
    rw [e, Nat.add_mul]; omega)]
  rw [broadcastInDim_apply _ _ _ _ (ix2 n (⟨g.val / 4, by have := g.isLt; omega⟩ : Fin P)) (by
    intro a
    match a with
    | ⟨0, _⟩ =>
      show n.val = if N = 1 then 0 else n.val
      split <;> [(have := n.isLt; omega); rfl]
    | ⟨1, _⟩ =>
      show g.val / 4 = if P = 1 then 0 else g.val / 4
      split <;> [(have := g.isLt; omega); rfl])]
  rfl

/-- A group's shift in any row. -/
theorem groupShifts_apply (E : REv N G P B K) (hG : G < 2 ^ 31) (n : Fin N) (g : Fin G) :
    groupShifts E (ix2 n g) = BitVec.ofNat 32 (4 * (g.val % 4)) := by
  unfold groupShifts
  rw [broadcastInDim_apply _ _ _ _ (ix2 (0 : Fin 1) g) (by
    intro a
    match a with
    | ⟨0, _⟩ => rfl
    | ⟨1, _⟩ =>
      show g.val = if G = 1 then 0 else g.val
      split <;> [(have := g.isLt; omega); rfl])]
  rw [broadcastInDim_apply _ _ _ _ (ix1 g) (by
    intro a
    match a with
    | ⟨0, _⟩ =>
      show g.val = if G = 1 then 0 else g.val
      split <;> [(have := g.isLt; omega); rfl])]
  exact shifts_apply E hG g

/-- A group's metadata nibble. -/
theorem nibs_apply (E : REv N G P B K) (hP : G = 4 * P) (hG : G < 2 ^ 31) (M : IVec (Sh N P) 16) (n : Fin N) (g : Fin G) :
    nibs E M (ix2 n g) = BitVec.ofNat 32 (nibOf (M (ix2 n (⟨g.val / 4, by have := g.isLt; omega⟩ : Fin P))) g.val) := by
  have e : nibs E M (ix2 n g) = IntOp.andi (IntOp.shrsi .host (groupWords E M (ix2 n g)) (groupShifts E (ix2 n g))) 15#32 := rfl
  rw [e, groupWords_apply E hP, groupShifts_apply E hG, nib_word _ _ (Nat.mod_lt _ (by decide)), nibOf]

/-- The low code of a byte, sign extended. -/
theorem low_word (v : BitVec 8) :
    (Scalar.select (IntOp.cmpi .sge (IntOp.andi (v.setWidth 32) 15#32) 8#32) (IntOp.andi (v.setWidth 32) 15#32 - 16#32) (IntOp.andi (v.setWidth 32) 15#32)).toInt
      = int4 (v.toNat % 16) := by
  revert v; decide +kernel

/-- The high code of a byte, sign extended. -/
theorem high_word (v : BitVec 8) :
    (Scalar.select (IntOp.cmpi .sge (IntOp.shrsi .host (v.setWidth 32) 4#32) 8#32) (IntOp.shrsi .host (v.setWidth 32) 4#32 - 16#32) (IntOp.shrsi .host (v.setWidth 32) 4#32)).toInt
      = int4 (v.toNat / 16) := by
  revert v; decide +kernel

/-- A group's low code. -/
theorem lows_apply (E : REv N G P B K) (V : IVec (Sh N G) 8) (i) : (lows E V i : EReal) = ((int4 ((V i).toNat % 16) : ℝ) : EReal) := by
  rw [← low_word (V i)]
  rfl

/-- A group's high code. -/
theorem highs_apply (E : REv N G P B K) (V : IVec (Sh N G) 8) (i) : (highs E V i : EReal) = ((int4 ((V i).toNat / 16) : ℝ) : EReal) := by
  rw [← high_word (V i)]
  rfl

/-- A group's scale is the one its block of 32 groups shares. -/
theorem blockScales_apply (E : REv N G P B K) (hB : G = 32 * B) (S : FVec Ideal (Sh N B) .f32) (n : Fin N) (g : Fin G) :
    (blockScales E S (ix2 n g) : EReal) = S (ix2 n (⟨g.val / 32, by have := g.isLt; omega⟩ : Fin B)) := by
  show (shapeCast (Sh N G) (broadcastInDim (Bx N B 32) ![0, 1] E.bb S) E.bc (ix2 n g) : EReal) = _
  rw [shapeCast_apply _ _ (ix2 n g) (ix3 n (⟨g.val / 32, by have := g.isLt; omega⟩ : Fin B) (⟨g.val % 32, Nat.mod_lt _ (by decide)⟩ : Fin 32)) (by
    rw [Shape.rowMajor_val_two, Shape.rowMajor_val_three]
    show (n.val * B + g.val / 32) * 32 + g.val % 32 = n.val * G + g.val
    have e : n.val * G = n.val * B * 32 := by subst hB; rw [Nat.mul_assoc, Nat.mul_comm B 32]
    rw [e, Nat.add_mul]; omega)]
  rw [broadcastInDim_apply _ _ _ _ (ix2 n (⟨g.val / 32, by have := g.isLt; omega⟩ : Fin B)) (by
    intro a
    match a with
    | ⟨0, _⟩ =>
      show n.val = if N = 1 then 0 else n.val
      split <;> [(have := n.isLt; omega); rfl]
    | ⟨1, _⟩ =>
      show g.val / 32 = if B = 1 then 0 else g.val / 32
      split <;> [(have := g.isLt; omega); rfl])]

/-- The choice between the two codes of a group, by the two fields of its nibble. -/
theorem pick_word (nib : Nat) (h : nib < 16) (j : Fin 4) (lo hi z : EReal) :
    Scalar.select (IntOp.cmpi .eq (IntOp.andi (BitVec.ofNat 32 nib) 3#32) (BitVec.ofNat 32 j.val)) lo
      (Scalar.select (IntOp.cmpi .eq (IntOp.shrsi .host (BitVec.ofNat 32 nib) 2#32) (BitVec.ofNat 32 j.val)) hi z)
      = if nib % 4 = j.val then lo else if nib / 4 = j.val then hi else z := by
  have key : ∀ (nib : Fin 16) (j : Fin 4), (IntOp.cmpi .eq (IntOp.andi (BitVec.ofNat 32 nib.val) 3#32) (BitVec.ofNat 32 j.val) = 1 ↔ nib.val % 4 = j.val)
      ∧ (IntOp.cmpi .eq (IntOp.shrsi .host (BitVec.ofNat 32 nib.val) 2#32) (BitVec.ofNat 32 j.val) = 1 ↔ nib.val / 4 = j.val) := by decide
  obtain ⟨h1, h2⟩ := key ⟨nib, h⟩ j
  unfold Scalar.select
  simp only [h1, h2]

/-- The weight at place `j` of a group. -/
theorem placed_apply (E : REv N G P B K) (hP : G = 4 * P) (hB : G = 32 * B) (hG : G < 2 ^ 31) (V : IVec (Sh N G) 8) (M : IVec (Sh N P) 16) (S : FVec Ideal (Sh N B) .f32)
    (j : Fin 4) (n : Fin N) (g : Fin G) :
    (placed E V M S (BitVec.ofNat 32 j.val) (ix2 n g) : EReal)
      = ((slotInt j (V (ix2 n g)) (nibOf (M (ix2 n (⟨g.val / 4, by have := g.isLt; omega⟩ : Fin P))) g.val) : ℝ) : EReal)
        * S (ix2 n (⟨g.val / 32, by have := g.isLt; omega⟩ : Fin B)) := by
  have e : (placed E V M S (BitVec.ofNat 32 j.val) (ix2 n g) : EReal)
      = Scalar.select (IntOp.cmpi .eq (IntOp.andi (nibs E M (ix2 n g)) 3#32) (BitVec.ofNat 32 j.val)) (lows E V (ix2 n g) : EReal)
        (Scalar.select (IntOp.cmpi .eq (IntOp.shrsi .host (nibs E M (ix2 n g)) 2#32) (BitVec.ofNat 32 j.val)) (highs E V (ix2 n g) : EReal)
          (Ideal.ofBits .bf16 0x0000#16)) * (blockScales E S (ix2 n g) : EReal) := rfl
  rw [e, nibs_apply E hP hG, pick_word _ (nibOf_lt _ _), lows_apply, highs_apply, blockScales_apply E hB, Ideal.ofBits_zero .bf16]
  unfold slotInt
  congr 1
  split
  · rfl
  · split
    · rfl
    · simp

/-- A dense product over the groups, at one place. -/
theorem dot_apply (E : REv N G P B K) (L : FVec Ideal (Sh 48 G) .bf16) (R : FVec Ideal (Sh N G) .bf16) (a : Fin 48) (b : Fin N) :
    (Host.dotGeneral (refDims E) none L R (ix2 a b) : EReal) = ∑ c : Fin G, (L (ix2 a c) : EReal) * R (ix2 b c) := by
  show FloatOps.dotGeneral _ none _ L R (ix2 a b) = _
  rw [Ideal.dotGeneral_apply, ← Equiv.sum_comp (ValueIdx.contrEquiv1 (refDims E) G rfl rfl).symm]
  refine Finset.sum_congr rfl fun c _ => ?_
  have c2 := ValueIdx.contrEquiv1_symm_val (refDims E) G rfl rfl c
  have l2 : (refDims E).lhsIdx (ix2 a b) ((ValueIdx.contrEquiv1 _ G rfl rfl).symm c) = ix2 a c := by
    funext ax; apply Fin.ext
    match ax with
    | ⟨0, _⟩ => simp [DotDims.lhsIdx, refDims]; rfl
    | ⟨1, _⟩ => simp [DotDims.lhsIdx, refDims]; exact c2
  have r2 : (refDims E).rhsIdx (ix2 a b) ((ValueIdx.contrEquiv1 _ G rfl rfl).symm c) = ix2 b c := by
    funext ax; apply Fin.ext
    match ax with
    | ⟨0, _⟩ => simp [DotDims.rhsIdx, refDims]; rfl
    | ⟨1, _⟩ => simp [DotDims.rhsIdx, refDims]; exact c2
  rw [l2, r2]

/-- Every fourth activation from place `j` on. -/
theorem every4 (A : FVec Ideal (Sh 48 K) .bf16) (hK : K = 4 * G) (j : Fin 4) (h : (Sh 48 K).SlicesBy (![0, j.val] : Fin 2 → Nat) ![1, 4] (Sh 48 G)) (r : Fin 48) (g : Fin G) :
    (Host.slice (Sh 48 G) ![0, j.val] ![1, 4] A h (ix2 r g) : EReal) = at2 (0 : EReal) A r.val (4 * g.val + j.val) := by
  have hb : 4 * g.val + j.val < K := by have := g.isLt; have := j.isLt; omega
  refine Eq.trans (b := A (ix2 r ⟨4 * g.val + j.val, hb⟩)) ?_ (at2_eq (0 : EReal) A r ⟨4 * g.val + j.val, hb⟩)
  unfold Host.slice
  congr 1
  funext d
  match d with
  | ⟨0, _⟩ => exact Fin.ext (by show 0 + 1 * r.val = r.val; omega)
  | ⟨1, _⟩ => exact Fin.ext (by show j.val + 4 * g.val = 4 * g.val + j.val; omega)

/-- The reference's product at one place is the row product over all groups. -/
theorem refDot_apply (E : REv N G P B K) (hP : G = 4 * P) (hB : G = 32 * B) (hG : G < 2 ^ 31) (hK : K = 4 * G) (A : FVec Ideal (Sh 48 K) .bf16) (V : IVec (Sh N G) 8)
    (M : IVec (Sh N P) 16) (S : FVec Ideal (Sh N B) .f32) (r : Fin 48) (n : Fin N) :
    (refDot E A V M S (ix2 r n) : EReal)
      = rowSum (at2 (0 : EReal) A r.val) (at2 (0 : BitVec 8) V n.val) (at2 (0 : BitVec 16) M n.val) (at2 (α := EReal) (0 : EReal) S n.val) G := by
  have T : ∀ (j : Fin 4) (h : (Sh 48 K).SlicesBy (![0, j.val] : Fin 2 → Nat) ![1, 4] (Sh 48 G)),
      (Host.dotGeneral (refDims E) none (Host.slice (Sh 48 G) ![0, j.val] ![1, 4] A h) (placed E V M S (BitVec.ofNat 32 j.val)) (ix2 r n) : EReal)
        = ∑ g : Fin G, at2 (0 : EReal) A r.val (4 * g.val + j.val) * (((slotInt j (at2 (0 : BitVec 8) V n.val g.val)
            (nibOf (at2 (0 : BitVec 16) M n.val (g.val / 4)) g.val) : ℝ) : EReal) * at2 (α := EReal) (0 : EReal) S n.val (g.val / 32)) := by
    intro j h
    rw [dot_apply]
    refine Finset.sum_congr rfl fun g _ => ?_
    have gl := g.isLt
    rw [every4 A hK, placed_apply E hP hB hG, at2_eq (0 : BitVec 8) V, at2_eq (0 : BitVec 16) M, ← at2_eq (α := EReal) (0 : EReal) S n (⟨g.val / 32, by omega⟩ : Fin B)]
  have e : (refDot E A V M S (ix2 r n) : EReal) = _ := congrArg₂ (· + ·) (congrArg₂ (· + ·) (congrArg₂ (· + ·) (T 0 E.s0) (T 1 E.s1)) (T 2 E.s2)) (T 3 E.s3)
  rw [e]
  unfold rowSum term
  rw [← Fin.sum_univ_eq_sum_range (fun G => ∑ j : Fin 4, at2 (0 : EReal) A r.val (4 * G + j.val) * (((slotInt j (at2 (0 : BitVec 8) V n.val G)
            (nibOf (at2 (0 : BitVec 16) M n.val (G / 4)) G) : ℝ) : EReal) * at2 (α := EReal) (0 : EReal) S n.val (G / 32))) G]
  rw [← Finset.sum_add_distrib, ← Finset.sum_add_distrib, ← Finset.sum_add_distrib]
  refine Finset.sum_congr rfl fun g _ => ?_
  rw [Fin.sum_univ_four]

end Cert.Sparse

end
-- ==== Proof.Ordered.lean ====
/- The precondition read back: a true answer says that every metadata nibble's first field is below its second. -/
module

public import proofs.«01_k».proof.Proof.Order
public import Idealize.ShloMosaic.Lib.ReduceAll
public import Idealize.ShloMosaic.Lib.StableHlo.Predicate

@[expose] public section

set_option maxRecDepth 16384

noncomputable section

namespace Cert.Sparse

open Idealize.ShloMosaic

variable {N P : Nat}

/-- The two-bit field at bit `s` of every metadata word. -/
def field (w : 16 < 32) (b : (⟨0, ![]⟩ : Shape).BroadcastsInDim (Sh N P) (![] : Fin 0 → Fin (Sh N P).rank)) (M : IVec (Sh N P) 16) (s : BitVec 32) : IVec (Sh N P) 32 :=
  andi (Host.shrsi (extui 32 M w) (broadcastInDim (Sh N P) ![] b (constantI ⟨0, ![]⟩ 32 s))) (broadcastInDim (Sh N P) ![] b (constantI ⟨0, ![]⟩ 32 3#32))

/-- Whether all four nibbles of a word are ordered. -/
def orderedWords (w : 16 < 32) (b : (⟨0, ![]⟩ : Shape).BroadcastsInDim (Sh N P) (![] : Fin 0 → Fin (Sh N P).rank)) (M : IVec (Sh N P) 16) : IVec (Sh N P) 1 :=
  andi (andi (andi (cmpi .slt (field w b M 0#32) (field w b M 2#32)) (cmpi .slt (field w b M 4#32) (field w b M 6#32)))
    (cmpi .slt (field w b M 8#32) (field w b M 10#32))) (cmpi .slt (field w b M 12#32) (field w b M 14#32))

/-- Whether all nibbles are ordered. -/
def orderedAll (w : 16 < 32) (b : (⟨0, ![]⟩ : Shape).BroadcastsInDim (Sh N P) (![] : Fin 0 → Fin (Sh N P).rank)) (h : (Sh N P).ReducesTo [0, 1] ⟨0, ![]⟩)
    (hu : 0 < (⟨0, ![]⟩ : Shape).numel) (M : IVec (Sh N P) 16) : IVec ⟨0, ![]⟩ 1 :=
  Host.reduce IntOp.andi (orderedWords w b M) (constantI ⟨0, ![]⟩ 1 1#1) h hu

/-- A two-bit field of a widened word. -/
theorem field_word (x : BitVec 16) (k : Nat) (hk : k < 32) :
    IntOp.andi (IntOp.shrsi .host (x.setWidth 32) (BitVec.ofNat 32 k)) 3#32 = BitVec.ofNat 32 (x.toNat / 2 ^ k % 4) := by
  have h1 : (BitVec.ofNat 32 k).toNat = k := by simp; omega
  unfold IntOp.shrsi
  rw [if_pos (by rw [h1]; omega), BitVec.sshiftRight', h1]
  have hm : (x.setWidth 32).msb = false := by
    rw [BitVec.msb_eq_decide]; simp; omega
  rw [BitVec.sshiftRight_eq_of_msb_false hm]
  apply BitVec.eq_of_toNat_eq
  have hx := x.isLt
  show ((x.setWidth 32 >>> k) &&& 3#32).toNat = _
  rw [BitVec.toNat_and, BitVec.toNat_ushiftRight, BitVec.toNat_setWidth, Nat.mod_eq_of_lt (by omega), Nat.shiftRight_eq_div_pow,
    show (3#32).toNat = 2 ^ 2 - 1 from rfl, Nat.and_two_pow_sub_one_eq_mod, BitVec.toNat_ofNat]
  omega

/-- A true comparison of the two fields of nibble `k` says that the nibble is ordered. -/
theorem ordered_word (x : BitVec 16) (k : Nat) (hk : k < 4)
    (h : IntOp.cmpi .slt (IntOp.andi (IntOp.shrsi .host (x.setWidth 32) (BitVec.ofNat 32 (4 * k))) 3#32)
      (IntOp.andi (IntOp.shrsi .host (x.setWidth 32) (BitVec.ofNat 32 (4 * k + 2))) 3#32) = 1#1) (G : Nat) (hG : G % 4 = k) :
    nibOf x G % 4 < nibOf x G / 4 := by
  rw [field_word x _ (by omega), field_word x _ (by omega)] at h
  have h2 := (StableHlo.Predicate.slt_iff_toNat (by simp; omega) (by simp; omega)).1 h
  simp only [BitVec.toNat_ofNat] at h2
  have q : ∀ y : Nat, y % 4 % 2 ^ 32 = y % 4 := fun y => Nat.mod_eq_of_lt (by omega)
  rw [q, q, Nat.pow_add, ← Nat.div_div_eq_div_mul] at h2
  unfold nibOf
  rw [hG]
  have : (2 : Nat) ^ 2 = 4 := rfl
  omega

/-- Where the predicate is true, every nibble of every row is ordered. -/
theorem ordered_of_all (w : 16 < 32) (b) (h : (Sh N P).ReducesTo [0, 1] ⟨0, ![]⟩) (hu) (M : IVec (Sh N P) 16)
    (e : orderedAll w b h hu M = fun _ => 1#1) (n : Fin N) (G : Nat) (hG : G < 4 * P) :
    nibOf (at2 (0 : BitVec 16) M n.val (G / 4)) G % 4 < nibOf (at2 (0 : BitVec 16) M n.val (G / 4)) G / 4 := by
  haveI : Subsingleton (Shape.Idx ⟨0, ![]⟩) := ⟨fun a b => funext fun d => d.elim0⟩
  have hb : G / 4 < P := by omega
  have a := Host.reduce_andi_all (orderedWords w b M) _ h hu (fun d => d.elim0) (congrFun e _) (ix2 n ⟨G / 4, hb⟩)
  have split : ∀ p q : BitVec 1, IntOp.andi p q = 1#1 → p = 1#1 ∧ q = 1#1 := by decide
  obtain ⟨a012, a3⟩ := split _ _ a
  obtain ⟨a01, a2⟩ := split _ _ a012
  obtain ⟨a0, a1⟩ := split _ _ a01
  rw [← at2_eq (0 : BitVec 16) M n ⟨G / 4, hb⟩]
  rcases (by omega : G % 4 = 0 ∨ G % 4 = 1 ∨ G % 4 = 2 ∨ G % 4 = 3) with r | r | r | r
  · exact ordered_word _ 0 (by decide) a0 G r
  · exact ordered_word _ 1 (by decide) a1 G r
  · exact ordered_word _ 2 (by decide) a2 G r
  · exact ordered_word _ 3 (by decide) a3 G r

end Cert.Sparse

end
-- ==== Proof.WoTie.lean ====
/- The output projection: the kernel's result and the reference's are the same array. -/
module

public import proofs.«01_k».proof.Defs
public import proofs.«01_k».proof.Proof.Wo
public import proofs.«01_k».proof.Proof.RefSparse
public import proofs.«01_k».proof.Proof.Ordered
public import proofs.«01_k».proof.Proof.Gen.RWoIdeal.Run

@[expose] public section

set_option maxRecDepth 16384

noncomputable section

namespace Cert.Wo

open Cert.Sparse Idealize.ShloMosaic Idealize.ShloMosaic.TcCoe Idealize.SL.Sem

/-- The shape facts of the reference. -/
theorem rev : REv 3072 768 192 24 3072 where
  w8 := by decide
  w16 := by decide
  fb := by decide
  sm := by decide
  sv := by decide
  mb := by decide
  mc := by decide
  gb := by decide
  nb := by decide
  bb := by decide
  bc := by decide
  s0 := by decide
  s1 := by decide
  s2 := by decide
  s3 := by decide
  dd := by decide

/-- The shape facts of the precondition. -/
theorem preFacts : Cert.Pre_wo_meta_ordered.Facts where
  natLt_16_32 := by decide
  bcast_S_S3072x192 := by decide
  reducesTo_S3072x192_S_d0_1 := by decide
  h_S_ := by decide

/-- The reference's result as residual plus product. -/
def refTerm (a : FVec Ideal (Sh 48 3072) .f32) (x : FVec Ideal (Bx 48 1 3072) .bf16) (V : IVec (Sh 3072 768) 8) (M : IVec (Sh 3072 192) 16)
    (S : FVec Ideal (Sh 3072 24) .f32) (h : (Bx 48 1 3072).ShapeCasts (Sh 48 3072)) : FVec Ideal (Sh 48 3072) .f32 :=
  addf (shapeCast (Sh 48 3072) (extf .f32 x rev.fb) h) (refDot rev (truncf .bf16 a rev.fb) V M S)

variable (m' : (ℓ : Loc Cert.RWoIdeal.nD Cert.RWoIdeal.τ Cert.RWoIdeal.sig) → Buf (Elt Ideal) ℓ)

set_option maxHeartbeats 4000000 in
/-- The reference's run ends at that term. -/
theorem ref_eq (c : Dev Cert.RWoIdeal.nD) (h) : Cert.RWoIdeal.Value.res_main_v78 (F := Ideal) m' c
    = refTerm (m' ((c.tc : Thread Cert.RWoIdeal.nD Cert.RWoIdeal.τ).loc Cert.RWoIdeal.main_arg0)) (m' ((c.tc : Thread Cert.RWoIdeal.nD Cert.RWoIdeal.τ).loc Cert.RWoIdeal.main_arg1))
      (m' ((c.tc : Thread Cert.RWoIdeal.nD Cert.RWoIdeal.τ).loc Cert.RWoIdeal.main_arg2)) (m' ((c.tc : Thread Cert.RWoIdeal.nD Cert.RWoIdeal.τ).loc Cert.RWoIdeal.main_arg3))
      (m' ((c.tc : Thread Cert.RWoIdeal.nD Cert.RWoIdeal.τ).loc Cert.RWoIdeal.main_arg4)) h := by
  unfold Cert.RWoIdeal.Value.res_main_v78
  rfl

/-- The reference's result, element by element. -/
theorem refTerm_apply (a : FVec Ideal (Sh 48 3072) .f32) (x : FVec Ideal (Bx 48 1 3072) .bf16) (V : IVec (Sh 3072 768) 8) (M : IVec (Sh 3072 192) 16)
    (S : FVec Ideal (Sh 3072 24) .f32) (h) (r : Fin 48) (C : Fin 3072) :
    (refTerm a x V M S h (ix2 r C) : EReal) = (x (ix3 r 0 C) : EReal)
      + rowSum (at2 (0 : EReal) (truncf .bf16 a rev.fb) r.val) (at2 (0 : BitVec 8) V C.val) (at2 (0 : BitVec 16) M C.val) (at2 (α := EReal) (0 : EReal) S C.val) 768 := by
  rw [← refDot_apply rev (by decide) (by decide) (by decide) (by decide) (truncf .bf16 a rev.fb) V M S r C]
  have e : (shapeCast (Sh 48 3072) (extf .f32 x rev.fb) h (ix2 r C) : EReal) = x (ix3 r 0 C) := shapeCast_apply _ _ _ _ (by
    rw [Shape.rowMajor_val_two, Shape.rowMajor_val_three]
    show (r.val * 1 + 0) * 3072 + C.val = r.val * 3072 + C.val
    omega)
  rw [← e]
  rfl

variable (m : (ℓ : Loc Cert.KWoIdeal.nD Cert.KWoIdeal.τ Cert.KWoIdeal.sig) → Buf (Elt Ideal) ℓ)

/-- The precondition is the predicate on the metadata alone. -/
theorem pre_eq [hP : Cert.Pre_wo_meta_ordered.Facts] (a : FVec Ideal (Sh 48 3072) .f32) (x : FVec Ideal (Bx 48 1 3072) .bf16) (V : IVec (Sh 3072 768) 8) (M : IVec (Sh 3072 192) 16)
    (S : FVec Ideal (Sh 3072 24) .f32) : Cert.Pre_wo_meta_ordered.fn (F := Ideal) a x V M S
      = orderedAll (N := 3072) (P := 192) hP.natLt_16_32 hP.bcast_S_S3072x192 hP.reducesTo_S3072x192_S_d0_1 hP.h_S_ M := by
  unfold Cert.Pre_wo_meta_ordered.fn Cert.Pre_wo_meta_ordered.fn_part1 Cert.Pre_wo_meta_ordered.fn_part2 orderedAll orderedWords field
  rfl

/-- The precondition orders every nibble the kernel reads. -/
theorem ordered [hP : Cert.Pre_wo_meta_ordered.Facts] (h : Cert.Pre_KWoIdeal_wo_meta_ordered m) (c : Dev Cert.KWoIdeal.nD) (C : Fin 3072) (G : Nat) (hG : G < 768) :
    nibOf (mrow m c C (G / 4)) G % 4 < nibOf (mrow m c C (G / 4)) G / 4 := by
  have e := h c
  rw [pre_eq] at e
  exact ordered_of_all _ _ _ _ _ e C G hG

/-- On memories that agree on the arguments the two results are the same array. -/
theorem tie [Cert.Pre_wo_meta_ordered.Facts] (h : Cert.Pre_KWoIdeal_wo_meta_ordered m) (c : Dev Cert.KWoIdeal.nD) :
    Cert.KWoIdeal.Value.G5 m c
      = refTerm (m ((c.tc : Thread Cert.KWoIdeal.nD Cert.KWoIdeal.τ).loc Cert.KWoIdeal.main_arg0)) (m ((c.tc : Thread Cert.KWoIdeal.nD Cert.KWoIdeal.τ).loc Cert.KWoIdeal.main_arg1))
      (m ((c.tc : Thread Cert.KWoIdeal.nD Cert.KWoIdeal.τ).loc Cert.KWoIdeal.main_arg2)) (m ((c.tc : Thread Cert.KWoIdeal.nD Cert.KWoIdeal.τ).loc Cert.KWoIdeal.main_arg3))
      (m ((c.tc : Thread Cert.KWoIdeal.nD Cert.KWoIdeal.τ).loc Cert.KWoIdeal.main_arg4)) (by decide) := by
  funext i
  rw [show i = ix2 (i 0) (i 1) from eq_ix2 i]
  refine (G5_apply m c (i 0) (i 1) (fun G hG => ordered m h c _ G hG)).trans ?_
  exact (refTerm_apply _ _ _ _ _ _ (i 0) (i 1)).symm

end Cert.Wo

end
-- ==== Proof.Norm.lean ====
/- The root-mean-square normalisation and the gated unit, as the kernel writes them and as the reference does: the same functions. -/
module

public import proofs.«01_k».proof.Proof.RefSparse
public import Idealize.ShloMosaic.Lib.IdealHost

@[expose] public section

set_option maxRecDepth 16384

noncomputable section

namespace Cert.Sparse

open Idealize.ShloMosaic

/-- The shape facts of the kernel's normalisation. -/
structure NEv : Prop where
  r1 : (Sh 48 3072).Reduces [1] (Ve 48)
  rc : (Ve 48).ShapeCasts (Sh 48 1)
  bc : (Sh 48 1).Broadcasts (Sh 48 3072)
  bw : (Sh 1 3072).Broadcasts (Sh 48 3072)
  iw : (Sh 1 3072).ShapeCasts (Sh 1 3072)
  fb : FTy.bits .bf16 < FTy.bits .f32

/-- The shape facts of the reference's normalisation. -/
structure NRev : Prop where
  r1 : (Sh 48 3072).ReducesTo [1] (Ve 48)
  hu : 0 < Sc.numel
  rc : (Ve 48).BroadcastsInDim (Sh 48 1) (![0] : Fin 1 → Fin (Sh 48 1).rank)
  sc : Sc.BroadcastsInDim (Sh 48 1) (![] : Fin 0 → Fin (Sh 48 1).rank)
  bc : (Sh 48 1).BroadcastsInDim (Sh 48 3072) (![0, 1] : Fin 2 → Fin (Sh 48 3072).rank)
  rw1 : (Ve 3072).BroadcastsInDim (Sh 1 3072) (![1] : Fin 1 → Fin (Sh 1 3072).rank)
  bw : (Sh 1 3072).BroadcastsInDim (Sh 48 3072) (![0, 1] : Fin 2 → Fin (Sh 48 3072).rank)
  fb : FTy.bits .bf16 < FTy.bits .f32

/-- The kernel's normalised activations. -/
def kNorm (E : NEv) (h : FVec Ideal (Sh 48 3072) .f32) (w : FVec Ideal (Sh 1 3072) .f32) : FVec Ideal (Sh 48 3072) .bf16 :=
  truncf .bf16 (mulf (divf h (broadcastTo (Sh 48 3072) (sqrt (addf (divf (shapeCast (Sh 48 1)
      (multiReduction .add [1] (Ve 48) (mulf h h) 0x00000000#32 E.r1 (.inl rfl) rfl) E.rc) (broadcast (Sh 48 1) (Scalar.ofBits .f32 0x45400000#32)))
      (broadcast (Sh 48 1) (Scalar.ofBits .f32 0x3727C5AC#32)))) E.bc))
    (broadcastTo (Sh 48 3072) (shapeCast (Sh 1 3072) w E.iw) E.bw)) E.fb

/-- The reference's normalised activations. -/
def rNorm (E : NRev) (h : FVec Ideal (Sh 48 3072) .f32) (w : FVec Ideal (Ve 3072) .f32) : FVec Ideal (Sh 48 3072) .bf16 :=
  truncf .bf16 (mulf (Host.divf h (broadcastInDim (Sh 48 3072) ![0, 1] E.bc (Host.sqrt (addf (Host.divf (broadcastInDim (Sh 48 1) ![0] E.rc
      (Host.reduceAdd (mulf h h) (constant Sc .f32 0x00000000#32) E.r1 E.hu)) (broadcastInDim (Sh 48 1) ![] E.sc (constant Sc .f32 0x45400000#32)))
      (broadcastInDim (Sh 48 1) ![] E.sc (constant Sc .f32 0x3727C5AC#32))))))
    (broadcastInDim (Sh 48 3072) ![0, 1] E.bw (broadcastInDim (Sh 1 3072) ![1] E.rw1 w))) E.fb

/-- Both normalise alike, the kernel taking the weights as a row. -/
theorem kNorm_eq (E : NEv) (R : NRev) (h : FVec Ideal (Sh 48 3072) .f32) (w : FVec Ideal (Sh 1 3072) .f32) (w1 : FVec Ideal (Ve 3072) .f32)
    (hw : ∀ C : Fin 3072, w (ix2 0 C) = w1 (ix1 C)) : kNorm E h w = rNorm R h w1 := by
  funext i
  rw [show i = ix2 (i 0) (i 1) from eq_ix2 i]
  generalize i 0 = r
  generalize i 1 = C
  unfold kNorm rNorm
  pointwise
  rw [show w (ix2 0 C) = w1 (ix1 C) from hw C]

/-- The gated unit: the kernel's logistic is the reference's quotient. -/
theorem gate_eq {s : Shape} (g : FVec Ideal s .f32) (h : Sc.BroadcastsInDim s (![] : Fin 0 → Fin s.rank)) :
    logistic g = Host.divf (broadcastInDim s ![] h (constant Sc .f32 0x3F800000#32))
      (addf (broadcastInDim s ![] h (constant Sc .f32 0x3F800000#32)) (Host.exp (Host.negf g))) := by
  funext i
  have e : Ideal.ofBits .f32 0x3F800000#32 = 1 := Ideal.ofBits_one_f32
  show Ideal.logistic (g i) = Ideal.div (Ideal.ofBits .f32 0x3F800000#32) (Ideal.ofBits .f32 0x3F800000#32 + Ideal.exp (-(g i : EReal)))
  rw [e]
  rfl

end Cert.Sparse

end
-- ==== Proof.Gu.lean ====
/- What the gate-and-up projection leaves in its output, element by element: the gate's row product through the gated unit, times the up row product. -/
module

public import proofs.«01_k».proof.Proof.Gen.KGuIdeal.Value
public import proofs.«01_k».proof.Proof.Tiles
public import proofs.«01_k».proof.Proof.Norm
public import Idealize.ShloMosaic.Lib.Pipeline.ReadBack
public import Idealize.ShloMosaic.Lib.Claim

@[expose] public section

set_option maxRecDepth 16384

noncomputable section

namespace Cert.Gu

open Cert.KGuIdeal Cert.KGuIdeal.Gen Cert.Sparse Idealize.ShloMosaic Idealize.ShloMosaic.TcCoe Idealize.SL.Sem

/-- The shape facts of a tile of 512 output columns. -/
theorem ev512 : Ev 512 where
  tr := by decide
  w8 := by decide
  w16 := by decide
  e1 := by decide
  e2 := by decide
  e3 := by decide
  io := by decide
  b8 := by decide
  s0 := by decide
  s1 := by decide
  s2 := by decide
  s3 := by decide
  bc := by decide
  idc := by decide
  id4 := by decide
  id32 := by decide
  c32 := by decide
  c128 := by decide

/-- The shape facts of the normalisation. -/
theorem nev : NEv where
  r1 := by decide
  rc := by decide
  bc := by decide
  bw := by decide
  iw := by decide
  fb := by decide

/-- The row product a point makes of its activation tiles and one half's blocks. -/
def prod (A : Fin 6 → FVec Ideal S48x512 .bf16) (V : Vec Ideal S512x768 .i8) (M : Vec Ideal S192x512 .i16) (S : Vec Ideal S24x512 .f32) : FVec Ideal S48x512 .f32 :=
  sum6 fun k => loadTile ev512 (A k) V (shapeCast S32x512 (loadMeta M k.val (by revert k; decide)) shapeCasts_S32x512_S32x512) S k.val (by revert k; decide) (by revert k; decide)

/-- The gate's product through the gated unit, times the up product. -/
def gated (g u : FVec Ideal S48x512 .f32) : FVec Ideal S48x512 .bf16 := truncf .bf16 (mulf (mulf g (logistic g)) u) bitsLt_bf16_f32

/-- The body's result from its six activation tiles and its blocks. -/
def body (A : Fin 6 → FVec Ideal S48x512 .bf16) (Vg : Vec Ideal S512x768 .i8) (Mg : Vec Ideal S192x512 .i16) (Sg : Vec Ideal S24x512 .f32)
    (Vu : Vec Ideal S512x768 .i8) (Mu : Vec Ideal S192x512 .i16) (Su : Vec Ideal S24x512 .f32) : FVec Ideal S48x512 .bf16 :=
  gated (prod A Vg Mg Sg) (prod A Vu Mu Su)

variable (m : (ℓ : Loc nD τ sig) → Buf (Elt Ideal) ℓ)

set_option maxHeartbeats 4000000 in
/-- At the first point: the activation tiles are those just put in decode order. -/
theorem out_A (c : Dev nD) (t : Fin cfg0.N) (h0 : t.val % 16 = 0) :
    (outsAt0 m c t.val t.isLt).1 = body (tile6 (kNorm nev (iblk m c 0 t) (iblk m c 1 t))) (iblk m c 2 t) (iblk m c 3 t) (iblk m c 4 t)
      (iblk m c 5 t) (iblk m c 6 t) (iblk m c 7 t) := by
  rw [outsAt0_A m c t h0]
  frame_open
  simp (disch := decide) only [↓ View.readCov_skip, ↓ View.readCov_cons_toLoadRect, ↓ View.readCov_fill]
  frame_out
  rfl

set_option maxHeartbeats 4000000 in
/-- At a later point: the activation tiles are those of the carried scratch. -/
theorem out_B (c : Dev nD) (t : Fin cfg0.N) (h0 : ¬t.val % 16 = 0) (X : Vec Ideal S48x3072 .bf16)
    (hX : (outsAt0 m c (t.val - 1) (Nat.lt_of_le_of_lt (Nat.sub_le _ _) t.isLt)).2 = X) :
    (outsAt0 m c t.val t.isLt).1 = body (fun k => View.ld (Val := Elt Ideal) (e' := .bf16) X (Rect.unit (s := S48x3072) ![0, 512 * k.val] ![48, 512] (by revert k; decide)))
      (iblk m c 2 t) (iblk m c 3 t) (iblk m c 4 t)
      (iblk m c 5 t) (iblk m c 6 t) (iblk m c 7 t) := by
  rw [outsAt0_B m c t h0, hX]
  frame_out
  simp only [read_unread_whole]
  rfl

/-- What the first point leaves in the scratch: the six tiles side by side. -/
theorem scratch_A (c : Dev nD) (t : Fin cfg0.N) (h0 : t.val % 16 = 0) (r : Fin 48) (C : Fin 3072) :
    ((outsAt0 m c t.val t.isLt).2 (ix2 r C) : EReal) = at2 (0 : EReal) (kNorm nev (iblk m c 0 t) (iblk m c 1 t)) r.val (srcCol C.val) := by
  rw [outsAt0_A m c t h0]
  frame_open
  frame_out
  exact canon6 (kNorm nev (iblk m c 0 t) (iblk m c 1 t)) _ _ _ _ _ _ r C

/-- Where each window's block of a point lies. -/
theorem idx : ∀ t : Fin cfg0.N, win0_0.index t = ![0, 0] ∧ win0_1.index t = ![0, 0] ∧ win0_2.index t = ![t.val, 0] ∧ win0_3.index t = ![0, t.val]
    ∧ win0_4.index t = ![0, t.val] ∧ win0_5.index t = ![t.val + 16, 0] ∧ win0_6.index t = ![0, t.val + 16] ∧ win0_7.index t = ![0, t.val + 16] :=
  (by decide +kernel : ∀ t : Fin grid0.N, _)

/-- Column `k` of block `t` is a column of the result. -/
theorem col_lt (t : Fin cfg0.N) (k : Fin 512) : 512 * t.val + k.val < 8192 := by
  have := k.isLt; have : t.val < 16 := t.isLt; omega

/-- The weight row of the gate at column `C` of the result. -/
def gateRow (C : Fin 8192) : Fin 16384 := ⟨C.val, by have := C.isLt; omega⟩

/-- The weight row of the up half at column `C` of the result. -/
def upRow (C : Fin 8192) : Fin 16384 := ⟨8192 + C.val, by have := C.isLt; omega⟩

/-- The activation block is the whole argument. -/
theorem b0 (c : Dev nD) (t : Fin cfg0.N) : iblk m c 0 t = m ((c : Thread nD τ).loc main_arg0) := by
  funext y
  blk_ext [iblk, V, idx t]

/-- The normalisation's weights, as a row. -/
theorem b1 (c : Dev nD) (t : Fin cfg0.N) (C : Fin 3072) : iblk m c 1 t (ix2 0 C) = m ((c : Thread nD τ).loc main_arg1) (ix1 C) := by
  blk_simp [iblk, idx t]
  entry_read
  pointwise
  blk_ext [idx t]

/-- The gate code block: a band of rows. -/
theorem b2 (c : Dev nD) (t : Fin cfg0.N) (k : Fin 512) (r : Fin 768) :
    iblk m c 2 t (ix2 k r) = m ((c : Thread nD τ).loc main_arg2) (ix2 (gateRow ⟨512 * t.val + k.val, col_lt t k⟩) r) := by
  blk_ext [iblk, V, idx t]
  show t.val * 512 + k.val = 512 * t.val + k.val
  omega

/-- The gate metadata block: a band of columns of the transposed argument. -/
theorem b3 (c : Dev nD) (t : Fin cfg0.N) (r : Fin 192) (k : Fin 512) :
    iblk m c 3 t (ix2 r k) = m ((c : Thread nD τ).loc main_arg3) (ix2 (gateRow ⟨512 * t.val + k.val, col_lt t k⟩) r) := by
  blk_simp [iblk, idx t]
  entry_read
  pointwise
  blk_ext [idx t]
  show t.val * 512 + k.val = 512 * t.val + k.val
  omega

/-- The gate scale block: a band of columns of the transposed argument. -/
theorem b4 (c : Dev nD) (t : Fin cfg0.N) (r : Fin 24) (k : Fin 512) :
    iblk m c 4 t (ix2 r k) = m ((c : Thread nD τ).loc main_arg4) (ix2 (gateRow ⟨512 * t.val + k.val, col_lt t k⟩) r) := by
  blk_simp [iblk, idx t]
  entry_read
  pointwise
  blk_ext [idx t]
  show t.val * 512 + k.val = 512 * t.val + k.val
  omega

/-- The up code block: a band of rows. -/
theorem b5 (c : Dev nD) (t : Fin cfg0.N) (k : Fin 512) (r : Fin 768) :
    iblk m c 5 t (ix2 k r) = m ((c : Thread nD τ).loc main_arg2) (ix2 (upRow ⟨512 * t.val + k.val, col_lt t k⟩) r) := by
  blk_ext [iblk, V, idx t]
  show (t.val + 16) * 512 + k.val = 8192 + (512 * t.val + k.val)
  omega

/-- The up metadata block: a band of columns of the transposed argument. -/
theorem b6 (c : Dev nD) (t : Fin cfg0.N) (r : Fin 192) (k : Fin 512) :
    iblk m c 6 t (ix2 r k) = m ((c : Thread nD τ).loc main_arg3) (ix2 (upRow ⟨512 * t.val + k.val, col_lt t k⟩) r) := by
  blk_simp [iblk, idx t]
  entry_read
  pointwise
  blk_ext [idx t]
  show (t.val + 16) * 512 + k.val = 8192 + (512 * t.val + k.val)
  omega

/-- The up scale block: a band of columns of the transposed argument. -/
theorem b7 (c : Dev nD) (t : Fin cfg0.N) (r : Fin 24) (k : Fin 512) :
    iblk m c 7 t (ix2 r k) = m ((c : Thread nD τ).loc main_arg4) (ix2 (upRow ⟨512 * t.val + k.val, col_lt t k⟩) r) := by
  blk_simp [iblk, idx t]
  entry_read
  pointwise
  blk_ext [idx t]
  show (t.val + 16) * 512 + k.val = 8192 + (512 * t.val + k.val)
  omega

/-- The normalised activations. -/
def normed (c : Dev nD) : FVec Ideal S48x3072 .bf16 := kNorm nev (m ((c : Thread nD τ).loc main_arg0)) (fun i => m ((c : Thread nD τ).loc main_arg1) (ix1 (i 1)))

/-- What a point normalises is what the arguments normalise to. -/
theorem normed_eq (c : Dev nD) (t : Fin cfg0.N) : kNorm nev (iblk m c 0 t) (iblk m c 1 t) = normed m c := by
  rw [b0]
  unfold normed
  congr 1
  funext i
  rw [show i = ix2 (i 0) (i 1) from eq_ix2 i, show i 0 = (0 : Fin 1) from Subsingleton.elim (α := Fin 1) _ _]
  exact b1 m c t (i 1)

/-- The normalised activations of row `r`, column by column. -/
def arow (c : Dev nD) (r : Fin 48) : Nat → EReal := at2 (0 : EReal) (normed m c) r.val

/-- The code bytes of weight row `R`. -/
def vrow (c : Dev nD) (R : Fin 16384) : Nat → BitVec 8 := at2 (α := BitVec 8) (a := 16384) (b := 768) 0 (m ((c : Thread nD τ).loc main_arg2)) R.val

/-- The metadata words of weight row `R`. -/
def mrow (c : Dev nD) (R : Fin 16384) : Nat → BitVec 16 := at2 (α := BitVec 16) (a := 16384) (b := 192) 0 (m ((c : Thread nD τ).loc main_arg3)) R.val

/-- The scales of weight row `R`. -/
def srow (c : Dev nD) (R : Fin 16384) : Nat → EReal := at2 (α := EReal) (a := 16384) (b := 24) 0 (m ((c : Thread nD τ).loc main_arg4)) R.val

/-- The product of row `r` with weight row `R`. -/
def dotAt (c : Dev nD) (r : Fin 48) (R : Fin 16384) : EReal := rowSum (arow m c r) (vrow m c R) (mrow m c R) (srow m c R) 768

/-- The gated unit on numbers. -/
def gate (g u : EReal) : EReal := g * Ideal.logistic g * u

/-- Every later point finds the scratch as the first point left it. -/
theorem scratch (c : Dev nD) (n : Nat) : ∀ (hn : n < cfg0.N) (r : Fin 48) (C : Fin 3072),
    ((outsAt0 m c n hn).2 (ix2 r C) : EReal) = arow m c r (srcCol C.val) := by
  induction n with
  | zero => intro hn r C; rw [scratch_A m c ⟨0, hn⟩ rfl r C, normed_eq]; rfl
  | succ n ih =>
    intro hn r C
    have hN : n + 1 < 16 := hn
    rw [← ih (by omega) r C]
    have := outsAt0_B m c ⟨n + 1, hn⟩ (by show ¬(n + 1) % 16 = 0; omega)
    rw [show outsAt0 m c (n + 1) hn = _ from this]
    rfl

/-- Whether the metadata of weight row `R` are ordered. -/
def Ordered (c : Dev nD) (R : Fin 16384) : Prop := ∀ G, G < 768 → nibOf (mrow m c R (G / 4)) G % 4 < nibOf (mrow m c R (G / 4)) G / 4

set_option maxHeartbeats 1000000 in
/-- A product of a point's body at one place, whose blocks are those of one weight row. -/
theorem prod_apply (c : Dev nD) (A : Fin 6 → FVec Ideal S48x512 .bf16) (V : Vec Ideal S512x768 .i8) (M : Vec Ideal S192x512 .i16) (S : Vec Ideal S24x512 .f32)
    (R : Fin 16384) (r : Fin 48) (q : Fin 512)
    (hA : ∀ (k : Fin 6) (o : Fin 512), (A k (ix2 r o) : EReal) = arow m c r (k.val * 512 + 4 * (o.val % 128) + o.val / 128))
    (hV : ∀ G : Fin 768, V (ix2 q G) = m ((c : Thread nD τ).loc main_arg2) (ix2 R G)) (hM : ∀ p : Fin 192, M (ix2 p q) = m ((c : Thread nD τ).loc main_arg3) (ix2 R p))
    (hS : ∀ b : Fin 24, S (ix2 b q) = m ((c : Thread nD τ).loc main_arg4) (ix2 R b)) (hv : Ordered m c R) :
    (prod A V M S (ix2 r q) : EReal) = dotAt m c r R := by
  refine sum6_apply _ _ _ _ _ _ fun k => ?_
  exact loadTile_apply ev512 (A k) V _ S k.val _ _ r q _ _ _ _ (hA k)
    (fun G => (hV G).trans (at2_eq (0 : BitVec 8) _ _ _))
    (fun p => (shapeCast_apply _ _ (ix2 p q) (ix2 p q) rfl).trans
      (loadMeta_apply _ k.val _ q _ (fun p => (hM p).trans (at2_eq (0 : BitVec 16) _ _ _)) p))
    (fun b => (hS b).trans (at2_eq (0 : EReal) _ _ _)) hv

/-- A point's body at one place: the two products through the gated unit. -/
theorem body_apply (c : Dev nD) (t : Fin cfg0.N) (A : Fin 6 → FVec Ideal S48x512 .bf16) (r : Fin 48) (q : Fin 512)
    (hA : ∀ (k : Fin 6) (o : Fin 512), (A k (ix2 r o) : EReal) = arow m c r (k.val * 512 + 4 * (o.val % 128) + o.val / 128))
    (hv : ∀ R, Ordered m c R) :
    (body A (iblk m c 2 t) (iblk m c 3 t) (iblk m c 4 t) (iblk m c 5 t) (iblk m c 6 t) (iblk m c 7 t) (ix2 r q) : EReal)
      = gate (dotAt m c r (gateRow ⟨512 * t.val + q.val, col_lt t q⟩)) (dotAt m c r (upRow ⟨512 * t.val + q.val, col_lt t q⟩)) :=
  congrArg₂ gate
    (prod_apply m c A (iblk m c 2 t) (iblk m c 3 t) (iblk m c 4 t) _ r q hA (fun G => b2 m c t q G) (fun p => b3 m c t p q) (fun b => b4 m c t b q) (hv _))
    (prod_apply m c A (iblk m c 5 t) (iblk m c 6 t) (iblk m c 7 t) _ r q hA (fun G => b5 m c t q G) (fun p => b6 m c t p q) (fun b => b7 m c t b q) (hv _))

/-- What a point leaves in its output block. -/
theorem out_apply (c : Dev nD) (t : Fin cfg0.N) (r : Fin 48) (q : Fin 512) (hv : ∀ R, Ordered m c R) :
    ((outsAt0 m c t.val t.isLt).1 (ix2 r q) : EReal)
      = gate (dotAt m c r (gateRow ⟨512 * t.val + q.val, col_lt t q⟩)) (dotAt m c r (upRow ⟨512 * t.val + q.val, col_lt t q⟩)) := by
  by_cases h0 : t.val % 16 = 0
  · rw [out_A m c t h0, normed_eq]
    exact body_apply m c t (tile6 (normed m c)) r q (fun k o => tile6_apply _ k r o) hv
  · have hX := scratch m c (t.val - 1) (Nat.lt_of_le_of_lt (Nat.sub_le _ _) t.isLt) r
    rw [out_B m c t h0 _ rfl]
    refine body_apply m c t _ r q (fun k o => ?_) hv
    have e := ld_ix2 (Val := Elt Ideal) (e := .bf16) (outsAt0 m c (t.val - 1) (Nat.lt_of_le_of_lt (Nat.sub_le _ _) t.isLt)).2 0 (512 * k.val) (by revert k; decide) r o
    refine e.trans ?_
    simp only [Nat.zero_add]
    refine (hX ⟨512 * k.val + o.val, by have := k.isLt; have := o.isLt; omega⟩).trans ?_
    have := o.isLt
    unfold srcCol
    congr 1
    show (512 * k.val + o.val) / 512 * 512 + 4 * ((512 * k.val + o.val) % 512 % 128) + (512 * k.val + o.val) % 512 / 128 = _
    omega

/-- The kernel's whole result, element by element. -/
theorem G8_apply (c : Dev nD) (r : Fin 48) (C : Fin 8192) (hv : ∀ R, Ordered m c R) :
    (Cert.KGuIdeal.Value.G8 m c (ix2 r C) : EReal) = gate (dotAt m c r (gateRow C)) (dotAt m c r (upRow C)) := by
  have hp : Cert.KGuIdeal.Value.pt8Of (ix2 r C) = C.val / 512 := by
    show 16 * (r.val / 48 - 0) + 1 * (C.val / 512 - 0) = C.val / 512
    have := r.isLt
    omega
  have hl : C.val / 512 < cfg0.N := by show C.val / 512 < 16; have := C.isLt; omega
  have hC : (⟨512 * (C.val / 512) + C.val % 512, by have := C.isLt; omega⟩ : Fin 8192) = C := Fin.ext (Nat.div_add_mod _ _)
  have o := out_apply m c ⟨C.val / 512, hl⟩ r ⟨C.val % 512, Nat.mod_lt _ (by decide)⟩ hv
  simp only [hC] at o
  rw [← o]
  unfold Cert.KGuIdeal.Value.G8
  rw [dif_pos (by rw [hp]; exact hl), ← Cert.KGuIdeal.Value.outsAt0_sweep m c _ (by rw [hp]; exact hl)]
  have e : ∀ (n : Nat) (h : n < cfg0.N) (n' : Nat) (h' : n' < cfg0.N), n = n' → outsAt0 m c n h = outsAt0 m c n' h' := by
    intro n h n' h' e; subst e; rfl
  rw [e _ _ _ hl hp]
  have l : Cert.KGuIdeal.Value.loc8Of (ix2 r C) = ix2 r ⟨C.val % 512, Nat.mod_lt _ (by decide)⟩ := by
    funext d
    match d with
    | ⟨0, _⟩ => exact Fin.ext (Nat.mod_eq_of_lt r.isLt)
    | ⟨1, _⟩ => rfl
  exact congrArg (outsAt0 m c (C.val / 512) hl).1 l

end Cert.Gu

end
-- ==== Proof.GuTie.lean ====
/- The gate-and-up projection: the kernel's result and the reference's are the same array. -/
module

public import proofs.«01_k».proof.Defs
public import proofs.«01_k».proof.Proof.Gu
public import proofs.«01_k».proof.Proof.RefSparse
public import proofs.«01_k».proof.Proof.Ordered
public import proofs.«01_k».proof.Proof.Gen.RGuIdeal.Run

@[expose] public section

set_option maxRecDepth 16384

noncomputable section

namespace Cert.Gu

open Cert.Sparse Idealize.ShloMosaic Idealize.ShloMosaic.TcCoe Idealize.SL.Sem

/-- The shape facts of the reference. -/
theorem rev : REv 16384 768 192 24 3072 where
  w8 := by decide
  w16 := by decide
  fb := by decide
  sm := by decide
  sv := by decide
  mb := by decide
  mc := by decide
  gb := by decide
  nb := by decide
  bb := by decide
  bc := by decide
  s0 := by decide
  s1 := by decide
  s2 := by decide
  s3 := by decide
  dd := by decide

/-- The shape facts of the precondition. -/
theorem preFacts : Cert.Pre_gu_meta_ordered.Facts where
  natLt_16_32 := by decide
  bcast_S_S16384x192 := by decide
  reducesTo_S16384x192_S_d0_1 := by decide
  h_S_ := by decide

/-- The shape facts of the reference's normalisation. -/
theorem nrev : NRev where
  r1 := by decide
  hu := by decide
  rc := by decide
  sc := by decide
  bc := by decide
  rw1 := by decide
  bw := by decide
  fb := by decide

/-- The gate half's columns of the product. -/
theorem sg : (Sh 48 16384).Slices ![0, 0] (Sh 48 8192) := by decide

/-- The up half's columns of the product. -/
theorem su : (Sh 48 16384).Slices ![0, 8192] (Sh 48 8192) := by decide

/-- A scalar spread over the result. -/
theorem ob : Sc.BroadcastsInDim (Sh 48 8192) (![] : Fin 0 → Fin (Sh 48 8192).rank) := by decide

/-- The two halves of a product through the gated unit, as the reference writes it. -/
def refGate (p : FVec Ideal (Sh 48 16384) .f32) : FVec Ideal (Sh 48 8192) .bf16 :=
  truncf .bf16 (mulf (mulf (extractStridedSlice (Sh 48 8192) ![0, 0] p sg)
    (Host.divf (broadcastInDim (Sh 48 8192) ![] ob (constant Sc .f32 0x3F800000#32))
      (addf (broadcastInDim (Sh 48 8192) ![] ob (constant Sc .f32 0x3F800000#32)) (Host.exp (Host.negf (extractStridedSlice (Sh 48 8192) ![0, 0] p sg))))))
    (extractStridedSlice (Sh 48 8192) ![0, 8192] p su)) rev.fb

/-- The reference's result: normalise, multiply, gate. -/
def refTerm (a : FVec Ideal (Sh 48 3072) .f32) (x : FVec Ideal (Ve 3072) .f32) (V : IVec (Sh 16384 768) 8) (M : IVec (Sh 16384 192) 16)
    (S : FVec Ideal (Sh 16384 24) .f32) : FVec Ideal (Sh 48 8192) .bf16 := refGate (refDot rev (rNorm nrev a x) V M S)

variable (m' : (ℓ : Loc Cert.RGuIdeal.nD Cert.RGuIdeal.τ Cert.RGuIdeal.sig) → Buf (Elt Ideal) ℓ)

set_option maxHeartbeats 4000000 in
/-- The reference's run ends at that term. -/
theorem ref_eq (c : Dev Cert.RGuIdeal.nD) : Cert.RGuIdeal.Value.res_main_v93 (F := Ideal) m' c
    = refTerm (m' ((c.tc : Thread Cert.RGuIdeal.nD Cert.RGuIdeal.τ).loc Cert.RGuIdeal.main_arg0)) (m' ((c.tc : Thread Cert.RGuIdeal.nD Cert.RGuIdeal.τ).loc Cert.RGuIdeal.main_arg1))
      (m' ((c.tc : Thread Cert.RGuIdeal.nD Cert.RGuIdeal.τ).loc Cert.RGuIdeal.main_arg2)) (m' ((c.tc : Thread Cert.RGuIdeal.nD Cert.RGuIdeal.τ).loc Cert.RGuIdeal.main_arg3))
      (m' ((c.tc : Thread Cert.RGuIdeal.nD Cert.RGuIdeal.τ).loc Cert.RGuIdeal.main_arg4)) := by
  unfold Cert.RGuIdeal.Value.res_main_v93
  rfl

/-- The reference's gated unit, element by element. -/
theorem refGate_apply (p : FVec Ideal (Sh 48 16384) .f32) (r : Fin 48) (C : Fin 8192) :
    (refGate p (ix2 r C) : EReal) = gate (p (ix2 r (gateRow C))) (p (ix2 r (upRow C))) := by
  unfold refGate
  rw [← gate_eq]
  have g : extractStridedSlice (Sh 48 8192) ![0, 0] p sg (ix2 r C) = p (ix2 r (gateRow C)) :=
    extractStridedSlice_apply _ _ sg _ _ (by
      intro d
      match d with
      | ⟨0, _⟩ => exact (Nat.zero_add _).symm
      | ⟨1, _⟩ => exact (Nat.zero_add _).symm)
  have u : extractStridedSlice (Sh 48 8192) ![0, 8192] p su (ix2 r C) = p (ix2 r (upRow C)) :=
    extractStridedSlice_apply _ _ su _ _ (by
      intro d
      match d with
      | ⟨0, _⟩ => exact (Nat.zero_add _).symm
      | ⟨1, _⟩ => rfl)
  rw [← g, ← u]
  rfl

/-- The reference's result, element by element. -/
theorem refTerm_apply (a : FVec Ideal (Sh 48 3072) .f32) (x : FVec Ideal (Ve 3072) .f32) (V : IVec (Sh 16384 768) 8) (M : IVec (Sh 16384 192) 16)
    (S : FVec Ideal (Sh 16384 24) .f32) (r : Fin 48) (C : Fin 8192) :
    (refTerm a x V M S (ix2 r C) : EReal)
      = gate (rowSum (at2 (0 : EReal) (rNorm nrev a x) r.val) (at2 (0 : BitVec 8) V (gateRow C).val) (at2 (0 : BitVec 16) M (gateRow C).val) (at2 (α := EReal) (0 : EReal) S (gateRow C).val) 768)
        (rowSum (at2 (0 : EReal) (rNorm nrev a x) r.val) (at2 (0 : BitVec 8) V (upRow C).val) (at2 (0 : BitVec 16) M (upRow C).val) (at2 (α := EReal) (0 : EReal) S (upRow C).val) 768) := by
  unfold refTerm
  rw [refGate_apply, refDot_apply rev (by decide) (by decide) (by decide) (by decide), refDot_apply rev (by decide) (by decide) (by decide) (by decide)]

variable (m : (ℓ : Loc Cert.KGuIdeal.nD Cert.KGuIdeal.τ Cert.KGuIdeal.sig) → Buf (Elt Ideal) ℓ)

/-- The precondition is the predicate on the metadata alone. -/
theorem pre_eq [hP : Cert.Pre_gu_meta_ordered.Facts] (a : FVec Ideal (Sh 48 3072) .f32) (x : FVec Ideal (Ve 3072) .f32) (V : IVec (Sh 16384 768) 8) (M : IVec (Sh 16384 192) 16)
    (S : FVec Ideal (Sh 16384 24) .f32) : Cert.Pre_gu_meta_ordered.fn (F := Ideal) a x V M S
      = orderedAll (N := 16384) (P := 192) hP.natLt_16_32 hP.bcast_S_S16384x192 hP.reducesTo_S16384x192_S_d0_1 hP.h_S_ M := by
  unfold Cert.Pre_gu_meta_ordered.fn Cert.Pre_gu_meta_ordered.fn_part1 Cert.Pre_gu_meta_ordered.fn_part2 orderedAll orderedWords field
  rfl

/-- The precondition orders every nibble the kernel reads. -/
theorem ordered [hP : Cert.Pre_gu_meta_ordered.Facts] (h : Cert.Pre_KGuIdeal_gu_meta_ordered m) (c : Dev Cert.KGuIdeal.nD) (R : Fin 16384) : Ordered m c R := by
  intro G hG
  have e := h c
  rw [pre_eq] at e
  exact ordered_of_all _ _ _ _ _ e R G hG

/-- The kernel's normalised activations are the reference's. -/
theorem normed_ref (c : Dev Cert.KGuIdeal.nD) : normed m c = rNorm nrev (m ((c.tc : Thread Cert.KGuIdeal.nD Cert.KGuIdeal.τ).loc Cert.KGuIdeal.main_arg0))
    (m ((c.tc : Thread Cert.KGuIdeal.nD Cert.KGuIdeal.τ).loc Cert.KGuIdeal.main_arg1)) :=
  kNorm_eq nev nrev _ _ _ fun _ => rfl

/-- On memories that agree on the arguments the two results are the same array. -/
theorem tie [Cert.Pre_gu_meta_ordered.Facts] (h : Cert.Pre_KGuIdeal_gu_meta_ordered m) (c : Dev Cert.KGuIdeal.nD) :
    Cert.KGuIdeal.Value.G8 m c
      = refTerm (m ((c.tc : Thread Cert.KGuIdeal.nD Cert.KGuIdeal.τ).loc Cert.KGuIdeal.main_arg0)) (m ((c.tc : Thread Cert.KGuIdeal.nD Cert.KGuIdeal.τ).loc Cert.KGuIdeal.main_arg1))
      (m ((c.tc : Thread Cert.KGuIdeal.nD Cert.KGuIdeal.τ).loc Cert.KGuIdeal.main_arg2)) (m ((c.tc : Thread Cert.KGuIdeal.nD Cert.KGuIdeal.τ).loc Cert.KGuIdeal.main_arg3))
      (m ((c.tc : Thread Cert.KGuIdeal.nD Cert.KGuIdeal.τ).loc Cert.KGuIdeal.main_arg4)) := by
  funext i
  rw [show i = ix2 (i 0) (i 1) from eq_ix2 i]
  refine (G8_apply m c (i 0) (i 1) (fun R => ordered m h c R)).trans ?_
  refine Eq.trans ?_ (refTerm_apply _ _ _ _ _ (i 0) (i 1)).symm
  rw [← normed_ref]
  rfl

end Cert.Gu

end
-- ==== Proof.Wd.lean ====
/- What the down projection leaves in its output, element by element: the residual plus the sparse row product of the 2:4 format. -/
module

public import proofs.«01_k».proof.Proof.Gen.KWdIdeal.Value
public import proofs.«01_k».proof.Proof.Tiles
public import Idealize.ShloMosaic.Lib.Pipeline.ReadBack
public import Idealize.ShloMosaic.Lib.Claim

@[expose] public section

set_option maxRecDepth 16384

noncomputable section

namespace Cert.Wd

open Cert.KWdIdeal Cert.KWdIdeal.Gen Cert.Sparse Idealize.ShloMosaic Idealize.ShloMosaic.TcCoe Idealize.SL.Sem

/-- The shape facts of a tile of 256 output columns. -/
theorem ev256 : Ev 256 where
  tr := by decide
  w8 := by decide
  w16 := by decide
  e1 := by decide
  e2 := by decide
  e3 := by decide
  io := by decide
  b8 := by decide
  s0 := by decide
  s1 := by decide
  s2 := by decide
  s3 := by decide
  bc := by decide
  idc := by decide
  id4 := by decide
  id32 := by decide
  c32 := by decide
  c128 := by decide

/-- The sixteen activation tiles one under another. -/
theorem cat16 : Shape.Concatenates [Sh 48 512, Sh 48 512, Sh 48 512, Sh 48 512, Sh 48 512, Sh 48 512, Sh 48 512, Sh 48 512, Sh 48 512, Sh 48 512, Sh 48 512,
    Sh 48 512, Sh 48 512, Sh 48 512, Sh 48 512, Sh 48 512] (Sh 768 512) 0 := by decide

/-- The shape facts of the sixteen activation tiles. -/
theorem tev16 : TEv 16 8192 768 where
  sl := by decide
  cat := fun _ => cat16
  rs := by decide
  hK := rfl
  hR := rfl
  h0 := by decide
  h1 := by decide
  id := by decide

/-- The metadata block transposed, as the body stores it. -/
def metaT (M : Vec Ideal S256x512 .i16) : IVec S512x256 16 :=
  shapeCast S512x256 (transpose S512x256 [1, 0] (M : IVec S256x512 16) transposes_S256x512_p1_0_S512x256) shapeCasts_S512x256_S512x256

/-- The body's result from its sixteen activation tiles and its blocks. -/
def body (A : Fin 16 → FVec Ideal S48x512 .bf16) (x : Vec Ideal S48x256 .f32) (V : Vec Ideal S256x2048 .i8) (M : Vec Ideal S256x512 .i16)
    (S : Vec Ideal S64x256 .f32) : FVec Ideal S48x256 .bf16 :=
  truncf .bf16 (addf (x : FVec Ideal S48x256 .f32)
    (sum16 fun k => loadTile ev256 (A k) V (loadMeta (metaT M) k.val (by revert k; decide)) S k.val (by revert k; decide) (by revert k; decide))) bitsLt_bf16_f32

variable (m : (ℓ : Loc nD τ sig) → Buf (Elt Ideal) ℓ)

set_option maxHeartbeats 4000000 in
/-- At the first point: the activation tiles are those just put in decode order. -/
theorem out_A (c : Dev nD) (t : Fin cfg0.N) (h0 : t.val % 12 = 0) :
    (outsAt0 m c t.val t.isLt).1 = body (tileT tev16 (iblk m c 0 t)) (iblk m c 1 t) (iblk m c 2 t) (iblk m c 3 t) (iblk m c 4 t) := by
  rw [outsAt0_A m c t h0]
  frame_open
  simp (disch := decide) only [↓ View.readCov_skip, ↓ View.readCov_cons_toLoadRect, ↓ View.readCov_fill]
  frame_out
  rfl

set_option maxHeartbeats 4000000 in
/-- At a later point: the activation tiles are those of the carried scratch. -/
theorem out_B (c : Dev nD) (t : Fin cfg0.N) (h0 : ¬t.val % 12 = 0) (X : Vec Ideal S48x8192 .bf16)
    (hX : (outsAt0 m c (t.val - 1) (Nat.lt_of_le_of_lt (Nat.sub_le _ _) t.isLt)).2 = X) :
    (outsAt0 m c t.val t.isLt).1 = body (fun k => View.ld (Val := Elt Ideal) (e' := .bf16) X (Rect.unit (s := S48x8192) ![0, 512 * k.val] ![48, 512] (by revert k; decide)))
      (iblk m c 1 t) (iblk m c 2 t) (iblk m c 3 t) (iblk m c 4 t) := by
  rw [outsAt0_B m c t h0, hX]
  frame_out
  simp only [read_unread_whole, readCov_filled]
  rfl

/-- What the first point leaves in the scratch: the sixteen tiles side by side. -/
theorem scratch_A (c : Dev nD) (t : Fin cfg0.N) (h0 : t.val % 12 = 0) (r : Fin 48) (C : Fin 8192) :
    ((outsAt0 m c t.val t.isLt).2 (ix2 r C) : EReal) = at2 (α := EReal) (0 : EReal) (iblk m c 0 t) r.val (srcCol C.val) := by
  rw [outsAt0_A m c t h0]
  frame_open
  frame_out
  exact canonT tev16 (iblk m c 0 t) (by decide) r C

/-- Where each window's block of a point lies. -/
theorem idx : ∀ t : Fin cfg0.N, win0_0.index t = ![0, 0] ∧ win0_1.index t = ![0, t.val] ∧ win0_2.index t = ![t.val, 0] ∧ win0_3.index t = ![t.val, 0]
    ∧ win0_4.index t = ![0, t.val] :=
  (by decide +kernel : ∀ t : Fin grid0.N, _)

/-- Column `k` of block `t` is a column of the array. -/
theorem col_lt (t : Fin cfg0.N) (k : Fin 256) : 256 * t.val + k.val < 3072 := by
  have := k.isLt; have : t.val < 12 := t.isLt; omega

/-- The activation block is the whole argument. -/
theorem b0 (c : Dev nD) (t : Fin cfg0.N) : iblk m c 0 t = m ((c : Thread nD τ).loc main_arg0) := by
  funext y
  blk_ext [iblk, V, idx t]

/-- The residual block: a band of columns. -/
theorem b1 (c : Dev nD) (t : Fin cfg0.N) (r : Fin 48) (k : Fin 256) :
    iblk m c 1 t (ix2 r k) = m ((c : Thread nD τ).loc main_arg1) (ix2 r (⟨256 * t.val + k.val, col_lt t k⟩ : Fin 3072)) := by
  blk_ext [iblk, V, idx t]

/-- The code block: a band of rows. -/
theorem b2 (c : Dev nD) (t : Fin cfg0.N) (k : Fin 256) (r : Fin 2048) :
    iblk m c 2 t (ix2 k r) = m ((c : Thread nD τ).loc main_arg2) (ix2 (⟨256 * t.val + k.val, col_lt t k⟩ : Fin 3072) r) := by
  blk_ext [iblk, V, idx t]

/-- The metadata block: a band of rows. -/
theorem b3 (c : Dev nD) (t : Fin cfg0.N) (k : Fin 256) (r : Fin 512) :
    iblk m c 3 t (ix2 k r) = m ((c : Thread nD τ).loc main_arg3) (ix2 (⟨256 * t.val + k.val, col_lt t k⟩ : Fin 3072) r) := by
  blk_ext [iblk, V, idx t]

/-- The scale block: a band of columns of the transposed argument. -/
theorem b4 (c : Dev nD) (t : Fin cfg0.N) (r : Fin 64) (k : Fin 256) :
    iblk m c 4 t (ix2 r k) = m ((c : Thread nD τ).loc main_arg4) (ix2 (⟨256 * t.val + k.val, col_lt t k⟩ : Fin 3072) r) := by
  blk_simp [iblk, idx t]
  entry_read
  pointwise
  blk_ext [idx t]

/-- The activations of row `r`, column by column. -/
def arow (c : Dev nD) (r : Fin 48) : Nat → EReal := at2 (α := EReal) (a := 48) (b := 8192) 0 (m ((c : Thread nD τ).loc main_arg0)) r.val

/-- The code bytes of output column `C`. -/
def vrow (c : Dev nD) (C : Fin 3072) : Nat → BitVec 8 := at2 (α := BitVec 8) (a := 3072) (b := 2048) 0 (m ((c : Thread nD τ).loc main_arg2)) C.val

/-- The metadata words of output column `C`. -/
def mrow (c : Dev nD) (C : Fin 3072) : Nat → BitVec 16 := at2 (α := BitVec 16) (a := 3072) (b := 512) 0 (m ((c : Thread nD τ).loc main_arg3)) C.val

/-- The scales of output column `C`. -/
def srow (c : Dev nD) (C : Fin 3072) : Nat → EReal := at2 (α := EReal) (a := 3072) (b := 64) 0 (m ((c : Thread nD τ).loc main_arg4)) C.val

/-- The residual at a place. -/
def resid (c : Dev nD) (r : Fin 48) (C : Fin 3072) : EReal := m ((c : Thread nD τ).loc main_arg1) (ix2 r C)

/-- Every later point finds the scratch as the first point left it. -/
theorem scratch (c : Dev nD) (n : Nat) : ∀ (hn : n < cfg0.N) (r : Fin 48) (C : Fin 8192),
    ((outsAt0 m c n hn).2 (ix2 r C) : EReal) = arow m c r (srcCol C.val) := by
  induction n with
  | zero => intro hn r C; rw [scratch_A m c ⟨0, hn⟩ rfl r C, b0]; rfl
  | succ n ih =>
    intro hn r C
    have hN : n + 1 < 12 := hn
    rw [← ih (by omega) r C]
    have := outsAt0_B m c ⟨n + 1, hn⟩ (by show ¬(n + 1) % 12 = 0; omega)
    rw [show outsAt0 m c (n + 1) hn = _ from this]
    rfl

/-- The transposed metadata block, read at a place. -/
theorem metaT_apply (c : Dev nD) (t : Fin cfg0.N) (p : Fin 512) (q : Fin 256) :
    metaT (iblk m c 3 t) (ix2 p q) = mrow m c ⟨256 * t.val + q.val, col_lt t q⟩ p.val := by
  refine Eq.trans (b := (iblk m c 3 t : IVec S256x512 16) (ix2 q p)) ?_ ((b3 m c t q p).trans (at2_eq (0 : BitVec 16) _ _ _))
  unfold metaT
  rw [shapeCast_apply _ _ (ix2 p q) (ix2 p q) rfl]
  unfold transpose
  congr 1
  funext d
  match d with
  | ⟨0, _⟩ => rfl
  | ⟨1, _⟩ => rfl

set_option maxHeartbeats 1000000 in
/-- A point's body at one place: the residual plus the row product. -/
theorem body_apply (c : Dev nD) (t : Fin cfg0.N) (A : Fin 16 → FVec Ideal S48x512 .bf16) (r : Fin 48) (q : Fin 256)
    (hA : ∀ (k : Fin 16) (o : Fin 512), (A k (ix2 r o) : EReal) = arow m c r (k.val * 512 + 4 * (o.val % 128) + o.val / 128))
    (hv : ∀ G, G < 2048 → nibOf (mrow m c ⟨_, col_lt t q⟩ (G / 4)) G % 4 < nibOf (mrow m c ⟨_, col_lt t q⟩ (G / 4)) G / 4) :
    (body A (iblk m c 1 t) (iblk m c 2 t) (iblk m c 3 t) (iblk m c 4 t) (ix2 r q) : EReal)
      = resid m c r ⟨256 * t.val + q.val, col_lt t q⟩
        + rowSum (arow m c r) (vrow m c ⟨_, col_lt t q⟩) (mrow m c ⟨_, col_lt t q⟩) (srow m c ⟨_, col_lt t q⟩) 2048 := by
  refine congrArg₂ (fun a b : EReal => a + b) (b1 m c t r q) (sum16_apply _ _ _ _ _ _ fun k => ?_)
  exact loadTile_apply ev256 (A k) (iblk m c 2 t) _ (iblk m c 4 t) k.val _ _ r q _ _ _ _ (hA k)
    (fun G => (b2 m c t q G).trans (at2_eq (0 : BitVec 8) _ _ _))
    (fun p => loadMeta_apply _ k.val _ q _ (fun p => metaT_apply m c t p q) p)
    (fun b => (b4 m c t b q).trans (at2_eq (0 : EReal) _ _ _)) hv

/-- What a point leaves in its output block. -/
theorem out_apply (c : Dev nD) (t : Fin cfg0.N) (r : Fin 48) (q : Fin 256)
    (hv : ∀ G, G < 2048 → nibOf (mrow m c ⟨_, col_lt t q⟩ (G / 4)) G % 4 < nibOf (mrow m c ⟨_, col_lt t q⟩ (G / 4)) G / 4) :
    ((outsAt0 m c t.val t.isLt).1 (ix2 r q) : EReal)
      = resid m c r ⟨256 * t.val + q.val, col_lt t q⟩
        + rowSum (arow m c r) (vrow m c ⟨_, col_lt t q⟩) (mrow m c ⟨_, col_lt t q⟩) (srow m c ⟨_, col_lt t q⟩) 2048 := by
  by_cases h0 : t.val % 12 = 0
  · rw [out_A m c t h0, b0]
    exact body_apply m c t (tileT tev16 (m ((c : Thread nD τ).loc main_arg0))) r q (fun k o => tileT_apply tev16 _ k r o) hv
  · have hX := scratch m c (t.val - 1) (Nat.lt_of_le_of_lt (Nat.sub_le _ _) t.isLt) r
    rw [out_B m c t h0 _ rfl]
    refine body_apply m c t _ r q (fun k o => ?_) hv
    have e := ld_ix2 (Val := Elt Ideal) (e := .bf16) (outsAt0 m c (t.val - 1) (Nat.lt_of_le_of_lt (Nat.sub_le _ _) t.isLt)).2 0 (512 * k.val) (by revert k; decide) r o
    refine e.trans ?_
    simp only [Nat.zero_add]
    refine (hX ⟨512 * k.val + o.val, by have := k.isLt; have := o.isLt; omega⟩).trans ?_
    have := o.isLt
    unfold srcCol
    congr 1
    show (512 * k.val + o.val) / 512 * 512 + 4 * ((512 * k.val + o.val) % 512 % 128) + (512 * k.val + o.val) % 512 / 128 = _
    omega

/-- The kernel's whole result, element by element. -/
theorem G5_apply (c : Dev nD) (r : Fin 48) (C : Fin 3072) (hv : ∀ G, G < 2048 → nibOf (mrow m c C (G / 4)) G % 4 < nibOf (mrow m c C (G / 4)) G / 4) :
    (Cert.KWdIdeal.Value.G5 m c (ix2 r C) : EReal)
      = resid m c r C + rowSum (arow m c r) (vrow m c C) (mrow m c C) (srow m c C) 2048 := by
  have hp : Cert.KWdIdeal.Value.pt5Of (ix2 r C) = C.val / 256 := by
    show 12 * (r.val / 48 - 0) + 1 * (C.val / 256 - 0) = C.val / 256
    have := r.isLt
    omega
  have hl : C.val / 256 < cfg0.N := by show C.val / 256 < 12; have := C.isLt; omega
  have hC : (⟨256 * (C.val / 256) + C.val % 256, by have := C.isLt; omega⟩ : Fin 3072) = C := Fin.ext (Nat.div_add_mod _ _)
  have o := out_apply m c ⟨C.val / 256, hl⟩ r ⟨C.val % 256, Nat.mod_lt _ (by decide)⟩ (by simpa only [hC] using hv)
  simp only [hC] at o
  rw [← o]
  unfold Cert.KWdIdeal.Value.G5
  rw [dif_pos (by rw [hp]; exact hl), ← Cert.KWdIdeal.Value.outsAt0_sweep m c _ (by rw [hp]; exact hl)]
  have e : ∀ (n : Nat) (h : n < cfg0.N) (n' : Nat) (h' : n' < cfg0.N), n = n' → outsAt0 m c n h = outsAt0 m c n' h' := by
    intro n h n' h' e; subst e; rfl
  rw [e _ _ _ hl hp]
  have l : Cert.KWdIdeal.Value.loc5Of (ix2 r C) = ix2 r ⟨C.val % 256, Nat.mod_lt _ (by decide)⟩ := by
    funext d
    match d with
    | ⟨0, _⟩ => exact Fin.ext (Nat.mod_eq_of_lt r.isLt)
    | ⟨1, _⟩ => rfl
  exact congrArg (outsAt0 m c (C.val / 256) hl).1 l

end Cert.Wd

end
-- ==== Proof.WdTie.lean ====
/- The down projection: the kernel's result and the reference's are the same array. -/
module

public import proofs.«01_k».proof.Defs
public import proofs.«01_k».proof.Proof.Wd
public import proofs.«01_k».proof.Proof.RefSparse
public import proofs.«01_k».proof.Proof.Ordered
public import proofs.«01_k».proof.Proof.Gen.RWdIdeal.Run

@[expose] public section

set_option maxRecDepth 16384

noncomputable section

namespace Cert.Wd

open Cert.Sparse Idealize.ShloMosaic Idealize.ShloMosaic.TcCoe Idealize.SL.Sem

/-- The shape facts of the reference. -/
theorem rev : REv 3072 2048 512 64 8192 where
  w8 := by decide
  w16 := by decide
  fb := by decide
  sm := by decide
  sv := by decide
  mb := by decide
  mc := by decide
  gb := by decide
  nb := by decide
  bb := by decide
  bc := by decide
  s0 := by decide
  s1 := by decide
  s2 := by decide
  s3 := by decide
  dd := by decide

/-- The shape facts of the precondition. -/
theorem preFacts : Cert.Pre_wd_meta_ordered.Facts where
  natLt_16_32 := by decide
  bcast_S_S3072x512 := by decide
  reducesTo_S3072x512_S_d0_1 := by decide
  h_S_ := by decide

/-- The reference's result as residual plus product. -/
def refTerm (a : FVec Ideal (Sh 48 8192) .bf16) (x : FVec Ideal (Sh 48 3072) .f32) (V : IVec (Sh 3072 2048) 8) (M : IVec (Sh 3072 512) 16)
    (S : FVec Ideal (Sh 3072 64) .f32) : FVec Ideal (Sh 48 3072) .bf16 :=
  truncf .bf16 (addf x (refDot rev a V M S)) rev.fb

variable (m' : (ℓ : Loc Cert.RWdIdeal.nD Cert.RWdIdeal.τ Cert.RWdIdeal.sig) → Buf (Elt Ideal) ℓ)

set_option maxHeartbeats 4000000 in
/-- The reference's run ends at that term. -/
theorem ref_eq (c : Dev Cert.RWdIdeal.nD) : Cert.RWdIdeal.Value.res_main_v76 (F := Ideal) m' c
    = refTerm (m' ((c.tc : Thread Cert.RWdIdeal.nD Cert.RWdIdeal.τ).loc Cert.RWdIdeal.main_arg0)) (m' ((c.tc : Thread Cert.RWdIdeal.nD Cert.RWdIdeal.τ).loc Cert.RWdIdeal.main_arg1))
      (m' ((c.tc : Thread Cert.RWdIdeal.nD Cert.RWdIdeal.τ).loc Cert.RWdIdeal.main_arg2)) (m' ((c.tc : Thread Cert.RWdIdeal.nD Cert.RWdIdeal.τ).loc Cert.RWdIdeal.main_arg3))
      (m' ((c.tc : Thread Cert.RWdIdeal.nD Cert.RWdIdeal.τ).loc Cert.RWdIdeal.main_arg4)) := by
  unfold Cert.RWdIdeal.Value.res_main_v76
  rfl

/-- The reference's result, element by element. -/
theorem refTerm_apply (a : FVec Ideal (Sh 48 8192) .bf16) (x : FVec Ideal (Sh 48 3072) .f32) (V : IVec (Sh 3072 2048) 8) (M : IVec (Sh 3072 512) 16)
    (S : FVec Ideal (Sh 3072 64) .f32) (r : Fin 48) (C : Fin 3072) :
    (refTerm a x V M S (ix2 r C) : EReal) = (x (ix2 r C) : EReal)
      + rowSum (at2 (α := EReal) (0 : EReal) a r.val) (at2 (0 : BitVec 8) V C.val) (at2 (0 : BitVec 16) M C.val) (at2 (α := EReal) (0 : EReal) S C.val) 2048 := by
  rw [← refDot_apply rev (by decide) (by decide) (by decide) (by decide) a V M S r C]
  rfl

variable (m : (ℓ : Loc Cert.KWdIdeal.nD Cert.KWdIdeal.τ Cert.KWdIdeal.sig) → Buf (Elt Ideal) ℓ)

/-- The precondition is the predicate on the metadata alone. -/
theorem pre_eq [hP : Cert.Pre_wd_meta_ordered.Facts] (a : FVec Ideal (Sh 48 8192) .bf16) (x : FVec Ideal (Sh 48 3072) .f32) (V : IVec (Sh 3072 2048) 8) (M : IVec (Sh 3072 512) 16)
    (S : FVec Ideal (Sh 3072 64) .f32) : Cert.Pre_wd_meta_ordered.fn (F := Ideal) a x V M S
      = orderedAll (N := 3072) (P := 512) hP.natLt_16_32 hP.bcast_S_S3072x512 hP.reducesTo_S3072x512_S_d0_1 hP.h_S_ M := by
  unfold Cert.Pre_wd_meta_ordered.fn Cert.Pre_wd_meta_ordered.fn_part1 Cert.Pre_wd_meta_ordered.fn_part2 orderedAll orderedWords field
  rfl

/-- The precondition orders every nibble the kernel reads. -/
theorem ordered [hP : Cert.Pre_wd_meta_ordered.Facts] (h : Cert.Pre_KWdIdeal_wd_meta_ordered m) (c : Dev Cert.KWdIdeal.nD) (C : Fin 3072) (G : Nat) (hG : G < 2048) :
    nibOf (mrow m c C (G / 4)) G % 4 < nibOf (mrow m c C (G / 4)) G / 4 := by
  have e := h c
  rw [pre_eq] at e
  exact ordered_of_all _ _ _ _ _ e C G hG

/-- On memories that agree on the arguments the two results are the same array. -/
theorem tie [Cert.Pre_wd_meta_ordered.Facts] (h : Cert.Pre_KWdIdeal_wd_meta_ordered m) (c : Dev Cert.KWdIdeal.nD) :
    Cert.KWdIdeal.Value.G5 m c
      = refTerm (m ((c.tc : Thread Cert.KWdIdeal.nD Cert.KWdIdeal.τ).loc Cert.KWdIdeal.main_arg0)) (m ((c.tc : Thread Cert.KWdIdeal.nD Cert.KWdIdeal.τ).loc Cert.KWdIdeal.main_arg1))
      (m ((c.tc : Thread Cert.KWdIdeal.nD Cert.KWdIdeal.τ).loc Cert.KWdIdeal.main_arg2)) (m ((c.tc : Thread Cert.KWdIdeal.nD Cert.KWdIdeal.τ).loc Cert.KWdIdeal.main_arg3))
      (m ((c.tc : Thread Cert.KWdIdeal.nD Cert.KWdIdeal.τ).loc Cert.KWdIdeal.main_arg4)) := by
  funext i
  rw [show i = ix2 (i 0) (i 1) from eq_ix2 i]
  refine (G5_apply m c (i 0) (i 1) (fun G hG => ordered m h c _ G hG)).trans ?_
  exact (refTerm_apply _ _ _ _ _ (i 0) (i 1)).symm

end Cert.Wd

end
-- ==== Proof.Qkv.lean ====
/- What the qkv projection leaves in its code array, element by element: a key element is the rotary combination of two row products, a value
   element a row product; each over its head's scale, clipped to the code range. -/
module

public import proofs.«01_k».proof.Proof.KQkvIdeal.Value
public import proofs.«01_k».proof.Proof.Gu

@[expose] public section

set_option maxRecDepth 16384

noncomputable section

namespace Cert.Qkv

open Cert.KQkvIdeal Cert.KQkvIdeal.Gen Cert.Sparse Idealize.ShloMosaic Idealize.ShloMosaic.TcCoe Idealize.SL.Sem
open Cert.Gu (ev512 nev)

/-- The activations a point normalises, widened. -/
def act (x : Vec Ideal S48x3072 .bf16) : FVec Ideal S48x3072 .f32 := extf .f32 (shapeCast S48x3072 x shapeCasts_S48x3072_S48x3072) bitsLt_bf16_f32

/-- The row product a point makes of its activation tiles and its blocks. -/
def prod (A : Fin 6 → FVec Ideal S48x512 .bf16) (V : Vec Ideal S512x768 .i8) (M : Vec Ideal S192x512 .i16) (S : Vec Ideal S24x512 .f32) : FVec Ideal S48x512 .f32 :=
  sum6 fun k => loadTile ev512 (A k) V (shapeCast S32x512 (loadMeta M k.val (by revert k; decide)) shapeCasts_S32x512_S32x512) S k.val (by revert k; decide) (by revert k; decide)

/-- One head's columns of a point's product. -/
def headOf (p : FVec Ideal S48x512 .f32) (h : Fin 4) : FVec Ideal S48x128 .f32 := extractStridedSlice S48x128 ![0, 128 * h.val] p (by revert h; decide)

/-- The rotary combination of one head's columns. -/
def roped (v : FVec Ideal S48x128 .f32) (cs sn : Vec Ideal S48x128 .f32) : FVec Ideal S48x128 .f32 :=
  addf (mulf v (shapeCast S48x128 cs shapeCasts_S48x128_S48x128)) (mulf (dynamicRotate 1 64#32 none v rotates_S48x128_d1) (shapeCast S48x128 sn shapeCasts_S48x128_S48x128))

/-- The codes of one head's columns over a scale: clipped, then cast. -/
def codes (v : FVec Ideal S48x128 .f32) (s : Ideal .f32) : FVec Ideal S48x128 .fp8e4m3 :=
  truncf .fp8e4m3 (minimumf (broadcast S48x128 (Scalar.ofBits .f32 0x43E00000#32)) (maximumf (broadcast S48x128 (Scalar.ofBits .f32 0xC3E00000#32))
    (divf v (broadcast S48x128 s)))) bitsLt_fp8e4m3_f32

/-- A block in which four heads' columns are stored side by side, read back. -/
theorem canon4 (f : Fin 4 → FVec Ideal (Sh 48 128) .fp8e4m3) (h3 : ∀ d, (![0, 384] : Fin 2 → Nat) d + (![48, 128] : Fin 2 → Nat) d ≤ (Sh 48 512).size d)
    (h2 : ∀ d, (![0, 256] : Fin 2 → Nat) d + (![48, 128] : Fin 2 → Nat) d ≤ (Sh 48 512).size d)
    (h1 : ∀ d, (![0, 128] : Fin 2 → Nat) d + (![48, 128] : Fin 2 → Nat) d ≤ (Sh 48 512).size d)
    (h0 : ∀ d, (![0, 0] : Fin 2 → Nat) d + (![48, 128] : Fin 2 → Nat) d ≤ (Sh 48 512).size d) (r : Fin 48) (h : Fin 4) (d : Fin 128) (q : Fin 512)
    (hq : q.val = 128 * h.val + d.val) :
    (View.canon (Val := Elt Ideal) (e := .fp8e4m3)
      [⟨Rect.unit ![0, 384] ![48, 128] h3, f 3⟩, ⟨Rect.unit ![0, 256] ![48, 128] h2, f 2⟩,
       ⟨Rect.unit ![0, 128] ![48, 128] h1, f 1⟩, ⟨Rect.unit ![0, 0] ![48, 128] h0, f 0⟩] (ix2 r q) : EReal)
      = f h (ix2 r d) := by
  have hd := d.isLt; have hh := h.isLt; have hr := r.isLt
  have key : ∀ k : Fin 4, View.TileAt (Val := Elt Ideal) (e := .fp8e4m3) (S := Sh 48 512) (ix2 r q) ![0, 128 * k.val] ![48, 128] (f k) (f h (ix2 r d)) := by
    intro k z hz
    have z0 : r.val = 0 + (z 0).val := hz 0
    have z1 : q.val = 128 * k.val + (z 1).val := hz 1
    have b1 : (z 1).val < 128 := (z 1).isLt
    have e : k = h := Fin.ext (by omega)
    subst e
    congr 1
    funext a
    match a with
    | ⟨0, _⟩ => exact Fin.ext (by show (z 0).val = r.val; omega)
    | ⟨1, _⟩ => exact Fin.ext (by show (z 1).val = d.val; omega)
  refine View.canon_eq_of_allAt _ _ _ ?_ ?_
  · have mem : ∀ (o : Nat) (h : ∀ d, (![0, o] : Fin 2 → Nat) d + (![48, 128] : Fin 2 → Nat) d ≤ (Sh 48 512).size d),
        o ≤ q.val → q.val < o + 128 → ix2 r q ∈ (Rect.unit (s := Sh 48 512) ![0, o] ![48, 128] h).set := fun o h a b =>
      Rect.mem_set_unit.2 fun d => match d with
        | 0 => ⟨Nat.zero_le _, by show r.val < 0 + 48; omega⟩
        | 1 => ⟨a, b⟩
    rcases (by omega : q.val < 128 ∨ (128 ≤ q.val ∧ q.val < 256) ∨ (256 ≤ q.val ∧ q.val < 384) ∨ (384 ≤ q.val ∧ q.val < 512)) with g | g | g | g
    · exact ⟨⟨Rect.unit ![0, 0] ![48, 128] h0, f 0⟩, by simp only [List.mem_cons, true_or, or_true], mem 0 h0 (by omega) (by omega)⟩
    · exact ⟨⟨Rect.unit ![0, 128] ![48, 128] h1, f 1⟩, by simp only [List.mem_cons, true_or, or_true], mem 128 h1 (by omega) (by omega)⟩
    · exact ⟨⟨Rect.unit ![0, 256] ![48, 128] h2, f 2⟩, by simp only [List.mem_cons, true_or, or_true], mem 256 h2 (by omega) (by omega)⟩
    · exact ⟨⟨Rect.unit ![0, 384] ![48, 128] h3, f 3⟩, by simp only [List.mem_cons, true_or, or_true], mem 384 h3 (by omega) (by omega)⟩
  · exact View.allAt_cons_unit _ _ _ _ _ (key 3) (View.allAt_cons_unit _ _ _ _ _ (key 2) (View.allAt_cons_unit _ _ _ _ _ (key 1)
      (View.allAt_cons_unit _ _ _ _ _ (key 0) (View.allAt_nil _ _))))

variable (m : (ℓ : Loc nD τ sig) → Buf (Elt Ideal) ℓ)

/-- The word of a table of eight at an offset. -/
def word (s : Vec Ideal S8 .f32) (o : Fin 1 → Nat) (h : ∀ a, o a + S1.size a ≤ S8.size a) : Ideal .f32 :=
  View.ld (Val := Elt Ideal) (e' := .f32) s (Rect.unit (s := S8) o S1.size h) (Shape.Idx.first (show 0 < S1.numel by decide))

/-- The activation tiles a later point reads from the carried scratch. -/
def tiles (X : Vec Ideal S48x3072 .bf16) (k : Fin 6) : FVec Ideal S48x512 .bf16 :=
  View.ld (Val := Elt Ideal) (e' := .bf16) X (Rect.unit (s := S48x3072) ![0, 512 * k.val] ![48, 512] (by revert k; decide))

set_option maxHeartbeats 4000000 in
/-- At a key point: each head's columns, rotated, over the head's key scale. -/
theorem out_C (c : Dev nD) (t : Fin cfg0.N) (h0 : ¬t.val % 10 = 0) (h1 : ¬t.val < 6) (h2 : (6 ≤ t.val % 10 ∧ t.val % 10 ≤ 7)) (h3 : ¬8 ≤ t.val) (X : Vec Ideal S48x3072 .bf16)
    (hX : (outsAt0 m c (t.val - 1) (Nat.lt_of_le_of_lt (Nat.sub_le _ _) t.isLt)).2 = X)
    (hb : ∀ (h : Fin 4) (a), k0_off1 (grid0.coords t) (BitVec.ofNat 32 h.val) a + S1.size a ≤ S8.size a)
    (r : Fin 48) (h : Fin 4) (d : Fin 128) (q : Fin 512) (hq : q.val = 128 * h.val + d.val) :
    ((outsAt0 m c t.val t.isLt).1 (ix2 r q) : EReal)
      = codes (roped (headOf (prod (tiles X) (iblk m c 2 t) (iblk m c 3 t) (iblk m c 4 t)) h) (iblk m c 5 t) (iblk m c 6 t))
          (word (iblk m c 7 t) (k0_off1 (grid0.coords t) (BitVec.ofNat 32 h.val)) (hb h)) (ix2 r d) := by
  rw [outsAt0_C m c t h0 h1 h2 h3, hX]
  frame_out
  simp only [read_unread_whole]
  exact canon4 (fun h => codes (roped (headOf (prod (tiles X) (iblk m c 2 t) (iblk m c 3 t) (iblk m c 4 t)) h) (iblk m c 5 t) (iblk m c 6 t))
    (word (iblk m c 7 t) (k0_off1 (grid0.coords t) (BitVec.ofNat 32 h.val)) (hb h))) _ _ _ _ r h d q hq

set_option maxHeartbeats 4000000 in
/-- At a value point: each head's columns over the head's value scale. -/
theorem out_D (c : Dev nD) (t : Fin cfg0.N) (h0 : ¬t.val % 10 = 0) (h1 : ¬t.val < 6) (h2 : ¬(6 ≤ t.val % 10 ∧ t.val % 10 ≤ 7)) (h3 : 8 ≤ t.val) (X : Vec Ideal S48x3072 .bf16)
    (hX : (outsAt0 m c (t.val - 1) (Nat.lt_of_le_of_lt (Nat.sub_le _ _) t.isLt)).2 = X)
    (hb : ∀ (h : Fin 4) (a), k0_off2 (grid0.coords t) (BitVec.ofNat 32 h.val) a + S1.size a ≤ S8.size a)
    (r : Fin 48) (h : Fin 4) (d : Fin 128) (q : Fin 512) (hq : q.val = 128 * h.val + d.val) :
    ((outsAt0 m c t.val t.isLt).1 (ix2 r q) : EReal)
      = codes (headOf (prod (tiles X) (iblk m c 2 t) (iblk m c 3 t) (iblk m c 4 t)) h)
          (word (iblk m c 8 t) (k0_off2 (grid0.coords t) (BitVec.ofNat 32 h.val)) (hb h)) (ix2 r d) := by
  rw [outsAt0_D m c t h0 h1 h2 h3, hX]
  frame_out
  simp only [read_unread_whole]
  exact canon4 (fun h => codes (headOf (prod (tiles X) (iblk m c 2 t) (iblk m c 3 t) (iblk m c 4 t)) h)
    (word (iblk m c 8 t) (k0_off2 (grid0.coords t) (BitVec.ofNat 32 h.val)) (hb h))) _ _ _ _ r h d q hq

set_option maxHeartbeats 4000000 in
/-- What the first point leaves in the scratch: the six tiles side by side. -/
theorem scratch_A (c : Dev nD) (t : Fin cfg0.N) (h0 : t.val % 10 = 0) (h1 : t.val < 6) (h2 : ¬(6 ≤ t.val % 10 ∧ t.val % 10 ≤ 7)) (h3 : ¬8 ≤ t.val) (r : Fin 48) (C : Fin 3072) :
    ((outsAt0 m c t.val t.isLt).2 (ix2 r C) : EReal) = at2 (0 : EReal) (kNorm nev (act (iblk m c 0 t)) (iblk m c 1 t)) r.val (srcCol C.val) := by
  rw [outsAt0_A m c t h0 h1 h2 h3]
  frame_open
  frame_out
  exact canon6 (kNorm nev (act (iblk m c 0 t)) (iblk m c 1 t)) _ _ _ _ _ _ r C

end Cert.Qkv

end
-- ==== Proof.QkvRef.lean ====
/- The reference of the qkv projection: what its host operations leave before the cast to codes, element by element. -/
module

public import proofs.«01_k».proof.Proof.RefSparse
public import proofs.«01_k».proof.Proof.Norm
public import proofs.«01_k».proof.Proof.Gen.RQkvIdeal.Value
public import Idealize.ShloMosaic.Lib.Claim

@[expose] public section

set_option maxRecDepth 16384

noncomputable section

namespace Cert.Qkv

open Cert.RQkvIdeal Cert.RQkvIdeal.Gen Cert.Sparse Idealize.ShloMosaic Idealize.ShloMosaic.TcCoe Idealize.SL.Sem

/-- The shape facts of the reference's product. -/
theorem rev : REv 5120 768 192 24 3072 where
  w8 := by decide
  w16 := by decide
  fb := by decide
  sm := by decide
  sv := by decide
  mb := by decide
  mc := by decide
  gb := by decide
  nb := by decide
  bb := by decide
  bc := by decide
  s0 := by decide
  s1 := by decide
  s2 := by decide
  s3 := by decide
  dd := by decide

/-- The shape facts of the reference's normalisation. -/
theorem nrev : NRev where
  r1 := by decide
  hu := by decide
  rc := by decide
  sc := by decide
  bc := by decide
  rw1 := by decide
  bw := by decide
  fb := by decide

/-- A number over a scale, clipped to the code range. -/
def code (x s : EReal) : EReal := min (Ideal.ofBits .f32 0x43E00000#32) (max (Ideal.ofBits .f32 0xC3E00000#32) (Ideal.div x s))

/-- The reference's clipped quotient of eight heads by their scales, laid out as columns. -/
def scaled (x : FVec Ideal S48x1x8x128 .f32) (s : FVec Ideal S8 .f32) : FVec Ideal S48x1024 .f32 :=
  shapeCast S48x1024 (minimumf (broadcastInDim S48x1x8x128 ![] bcast_S_S48x1x8x128 (constant S_ .f32 0x43E00000#32))
    (maximumf (broadcastInDim S48x1x8x128 ![] bcast_S_S48x1x8x128 (constant S_ .f32 0xC3E00000#32))
      (Host.divf x (broadcastInDim S48x1x8x128 ![0, 1, 2, 3] bcast_S1x1x8x1_S48x1x8x128_0_1_2_3
        (broadcastInDim S1x1x8x1 ![2, 3] bcast_S8x1_S1x1x8x1_2_3 (broadcastInDim S8x1 ![0] bcast_S8_S8x1_0 s)))))) shapeCasts_S48x1x8x128_S48x1024

/-- The key columns of a product, by head. -/
def keys (p : FVec Ideal S48x5120 .f32) : FVec Ideal S48x1x8x128 .f32 :=
  shapeCast S48x1x8x128 (extractStridedSlice S48x1024 ![0, 3072] p slices_S48x5120_S48x1024_0_3072) shapeCasts_S48x1024_S48x1x8x128

/-- The value columns of a product, by head. -/
def vals (p : FVec Ideal S48x5120 .f32) : FVec Ideal S48x1x8x128 .f32 :=
  shapeCast S48x1x8x128 (extractStridedSlice S48x1024 ![0, 4096] p slices_S48x5120_S48x1024_0_4096) shapeCasts_S48x1024_S48x1x8x128

/-- A head's first half. -/
def lo (x : FVec Ideal S48x1x8x128 .f32) : FVec Ideal S48x1x8x64 .f32 := extractStridedSlice S48x1x8x64 ![0, 0, 0, 0] x slices_S48x1x8x128_S48x1x8x64_0_0_0_0

/-- A head's second half. -/
def hi (x : FVec Ideal S48x1x8x128 .f32) : FVec Ideal S48x1x8x64 .f32 := extractStridedSlice S48x1x8x64 ![0, 0, 0, 64] x slices_S48x1x8x128_S48x1x8x64_0_0_0_64

/-- A row's angles, the same for every head. -/
def ang (a : FVec Ideal S48x1x64 .f32) : FVec Ideal S48x1x8x64 .f32 :=
  broadcastInDim S48x1x8x64 ![0, 1, 2, 3] bcast_S48x1x1x64_S48x1x8x64_0_1_2_3 (broadcastInDim S48x1x1x64 ![0, 1, 3] bcast_S48x1x64_S48x1x1x64_0_1_3 a)

/-- The reference's rotary embedding. -/
def rotary (x : FVec Ideal S48x1x8x128 .f32) (cs sn : FVec Ideal S48x1x64 .f32) : FVec Ideal S48x1x8x128 .f32 :=
  concatenate S48x1x8x128 3 [⟨S48x1x8x64, subf (mulf (lo x) (ang cs)) (mulf (hi x) (ang sn))⟩, ⟨S48x1x8x64, addf (mulf (hi x) (ang cs)) (mulf (lo x) (ang sn))⟩]
    concatenates_S48x1x8x64_S48x1x8x64_S48x1x8x128_d3

/-- Keys and values of a product, clipped, side by side. -/
def refCodes (p : FVec Ideal S48x5120 .f32) (cs sn : FVec Ideal S48x1x64 .f32) (ks vs : FVec Ideal S8 .f32) : FVec Ideal S48x2048 .f32 :=
  concatenate S48x2048 1 [⟨S48x1024, scaled (rotary (keys p) cs sn) ks⟩, ⟨S48x1024, scaled (vals p) vs⟩] concatenates_S48x1024_S48x1024_S48x2048_d1

/-- The reference's activations, widened, as rows. -/
def refAct (x : FVec Ideal S48x1x3072 .bf16) : FVec Ideal (Sh 48 3072) .f32 := shapeCast S48x3072 (extf .f32 x bitsLt_bf16_f32) shapeCasts_S48x1x3072_S48x3072

/-- What the reference casts to codes. -/
def refTerm (x : FVec Ideal S48x1x3072 .bf16) (w : FVec Ideal (Ve 3072) .f32) (V : IVec (Sh 5120 768) 8) (M : IVec (Sh 5120 192) 16)
    (S : FVec Ideal (Sh 5120 24) .f32) (cs sn : FVec Ideal S48x1x64 .f32) (ks vs : FVec Ideal S8 .f32) : FVec Ideal S48x2048 .f32 :=
  refCodes (refDot rev (rNorm nrev (refAct x) w) V M S) cs sn ks vs

/-- The rotary embedding of a head's first half. -/
theorem rotary_lo (x : FVec Ideal S48x1x8x128 .f32) (cs sn : FVec Ideal S48x1x64 .f32) (r : Fin 48) (h : Fin 8) (d : Fin 64) (e f : Fin 128)
    (he : e.val = d.val) (hf : f.val = 64 + d.val) :
    (rotary x cs sn (ix4 r 0 h e) : EReal) = (x (ix4 r 0 h e) : EReal) * (cs (ix3 r 0 d) : EReal) - (x (ix4 r 0 h f) : EReal) * (sn (ix3 r 0 d) : EReal) := by
  have a : ∀ y : FVec Ideal S48x1x64 .f32, ang y (ix4 r 0 h d) = y (ix3 r 0 d) := fun y =>
    (broadcastInDim_apply _ _ _ (ix4 r 0 h d) (ix4 r 0 0 d) (fun b => match b with | ⟨0, _⟩ => rfl | ⟨1, _⟩ => rfl | ⟨2, _⟩ => rfl | ⟨3, _⟩ => rfl)).trans
      (broadcastInDim_apply _ _ _ (ix4 r 0 0 d) (ix3 r 0 d) (fun b => match b with | ⟨0, _⟩ => rfl | ⟨1, _⟩ => rfl | ⟨2, _⟩ => rfl))
  have l : lo x (ix4 r 0 h d) = x (ix4 r 0 h e) := extractStridedSlice_apply _ _ _ _ _ (fun b => match b with
    | ⟨0, _⟩ => (Nat.zero_add _).symm | ⟨1, _⟩ => (Nat.zero_add _).symm | ⟨2, _⟩ => (Nat.zero_add _).symm | ⟨3, _⟩ => he.trans (Nat.zero_add _).symm)
  have g : hi x (ix4 r 0 h d) = x (ix4 r 0 h f) := extractStridedSlice_apply _ _ _ _ _ (fun b => match b with
    | ⟨0, _⟩ => (Nat.zero_add _).symm | ⟨1, _⟩ => (Nat.zero_add _).symm | ⟨2, _⟩ => (Nat.zero_add _).symm | ⟨3, _⟩ => hf)
  refine (concatenate_pair_apply_left (s₁ := S48x1x8x64) (s₂ := S48x1x8x64) 3 _ _ _ (ix4 r 0 h e) rfl (ix4 r 0 h d)
    (fun b => match b with | ⟨0, _⟩ => rfl | ⟨1, _⟩ => rfl | ⟨2, _⟩ => rfl | ⟨3, _⟩ => he.symm)).trans ?_
  rw [← l, ← g, ← a cs, ← a sn]
  rfl

/-- The rotary embedding of a head's second half. -/
theorem rotary_hi (x : FVec Ideal S48x1x8x128 .f32) (cs sn : FVec Ideal S48x1x64 .f32) (r : Fin 48) (h : Fin 8) (d : Fin 64) (e f : Fin 128)
    (he : e.val = d.val) (hf : f.val = 64 + d.val) :
    (rotary x cs sn (ix4 r 0 h f) : EReal) = (x (ix4 r 0 h f) : EReal) * (cs (ix3 r 0 d) : EReal) + (x (ix4 r 0 h e) : EReal) * (sn (ix3 r 0 d) : EReal) := by
  have a : ∀ y : FVec Ideal S48x1x64 .f32, ang y (ix4 r 0 h d) = y (ix3 r 0 d) := fun y =>
    (broadcastInDim_apply _ _ _ (ix4 r 0 h d) (ix4 r 0 0 d) (fun b => match b with | ⟨0, _⟩ => rfl | ⟨1, _⟩ => rfl | ⟨2, _⟩ => rfl | ⟨3, _⟩ => rfl)).trans
      (broadcastInDim_apply _ _ _ (ix4 r 0 0 d) (ix3 r 0 d) (fun b => match b with | ⟨0, _⟩ => rfl | ⟨1, _⟩ => rfl | ⟨2, _⟩ => rfl))
  have l : lo x (ix4 r 0 h d) = x (ix4 r 0 h e) := extractStridedSlice_apply _ _ _ _ _ (fun b => match b with
    | ⟨0, _⟩ => (Nat.zero_add _).symm | ⟨1, _⟩ => (Nat.zero_add _).symm | ⟨2, _⟩ => (Nat.zero_add _).symm | ⟨3, _⟩ => he.trans (Nat.zero_add _).symm)
  have g : hi x (ix4 r 0 h d) = x (ix4 r 0 h f) := extractStridedSlice_apply _ _ _ _ _ (fun b => match b with
    | ⟨0, _⟩ => (Nat.zero_add _).symm | ⟨1, _⟩ => (Nat.zero_add _).symm | ⟨2, _⟩ => (Nat.zero_add _).symm | ⟨3, _⟩ => hf)
  refine (concatenate_pair_apply_right (s₁ := S48x1x8x64) (s₂ := S48x1x8x64) 3 _ _ _ (ix4 r 0 h f) rfl rfl (ix4 r 0 h d)
    (fun b hb => match b, hb with | ⟨0, _⟩, _ => rfl | ⟨1, _⟩, _ => rfl | ⟨2, _⟩, _ => rfl | ⟨3, _⟩, hb => absurd rfl hb) ?_).trans ?_
  · show d.val + 64 = f.val
    omega
  rw [← l, ← g, ← a cs, ← a sn]
  rfl

/-- The clipped quotient, element by element. -/
theorem scaled_apply (x : FVec Ideal S48x1x8x128 .f32) (s : FVec Ideal S8 .f32) (r : Fin 48) (h : Fin 8) (e : Fin 128) (C : Fin 1024)
    (hC : C.val = 128 * h.val + e.val) : (scaled x s (ix2 r C) : EReal) = code (x (ix4 r 0 h e)) (s (ix1 h)) := by
  refine (shapeCast_apply _ _ (ix2 r C) (ix4 r 0 h e) ?_).trans ?_
  · rw [Shape.rowMajor_val_two, Shape.rowMajor_val_four]
    show ((r.val * 1 + 0) * 8 + h.val) * 128 + e.val = r.val * 1024 + C.val
    omega
  have b : broadcastInDim S48x1x8x128 ![0, 1, 2, 3] bcast_S1x1x8x1_S48x1x8x128_0_1_2_3
        (broadcastInDim S1x1x8x1 ![2, 3] bcast_S8x1_S1x1x8x1_2_3 (broadcastInDim S8x1 ![0] bcast_S8_S8x1_0 s)) (ix4 r 0 h e) = s (ix1 h) :=
    ((broadcastInDim_apply _ _ _ (ix4 r 0 h e) (ix4 0 0 h 0) (fun b => match b with | ⟨0, _⟩ => rfl | ⟨1, _⟩ => rfl | ⟨2, _⟩ => rfl | ⟨3, _⟩ => rfl)).trans
      (broadcastInDim_apply _ _ _ (ix4 0 0 h 0) (ix2 h 0) (fun b => match b with | ⟨0, _⟩ => rfl | ⟨1, _⟩ => rfl))).trans
      (broadcastInDim_apply _ _ _ (ix2 h 0) (ix1 h) (fun b => match b with | ⟨0, _⟩ => rfl))
  rw [← b]
  rfl

/-- A key column of a product. -/
theorem keys_apply (p : FVec Ideal S48x5120 .f32) (r : Fin 48) (h : Fin 8) (e : Fin 128) (R : Fin 5120) (hR : R.val = 3072 + (128 * h.val + e.val)) :
    keys p (ix4 r 0 h e) = p (ix2 r R) := by
  have hh := h.isLt; have he := e.isLt
  refine (shapeCast_apply _ _ (ix4 r 0 h e) (ix2 r (⟨128 * h.val + e.val, by omega⟩ : Fin 1024)) ?_).trans
    (extractStridedSlice_apply _ _ _ _ _ (fun b => match b with | ⟨0, _⟩ => (Nat.zero_add _).symm | ⟨1, _⟩ => hR))
  rw [Shape.rowMajor_val_two, Shape.rowMajor_val_four]
  show r.val * 1024 + (128 * h.val + e.val) = ((r.val * 1 + 0) * 8 + h.val) * 128 + e.val
  omega

/-- A value column of a product. -/
theorem vals_apply (p : FVec Ideal S48x5120 .f32) (r : Fin 48) (h : Fin 8) (e : Fin 128) (R : Fin 5120) (hR : R.val = 4096 + (128 * h.val + e.val)) :
    vals p (ix4 r 0 h e) = p (ix2 r R) := by
  have hh := h.isLt; have he := e.isLt
  refine (shapeCast_apply _ _ (ix4 r 0 h e) (ix2 r (⟨128 * h.val + e.val, by omega⟩ : Fin 1024)) ?_).trans
    (extractStridedSlice_apply _ _ _ _ _ (fun b => match b with | ⟨0, _⟩ => (Nat.zero_add _).symm | ⟨1, _⟩ => hR))
  rw [Shape.rowMajor_val_two, Shape.rowMajor_val_four]
  show r.val * 1024 + (128 * h.val + e.val) = ((r.val * 1 + 0) * 8 + h.val) * 128 + e.val
  omega

/-- A column of the key half. -/
theorem refCodes_key (p : FVec Ideal S48x5120 .f32) (cs sn : FVec Ideal S48x1x64 .f32) (ks vs : FVec Ideal S8 .f32) (r : Fin 48) (h : Fin 8) (e : Fin 128)
    (C : Fin 2048) (hC : C.val = 128 * h.val + e.val) :
    (refCodes p cs sn ks vs (ix2 r C) : EReal) = code (rotary (keys p) cs sn (ix4 r 0 h e)) (ks (ix1 h)) := by
  have hh := h.isLt; have he := e.isLt
  exact (concatenate_pair_apply_left (s₁ := S48x1024) (s₂ := S48x1024) 1 _ _ _ (ix2 r C) rfl (ix2 r (⟨128 * h.val + e.val, by omega⟩ : Fin 1024))
    (fun b => match b with | ⟨0, _⟩ => rfl | ⟨1, _⟩ => hC.symm)).trans (scaled_apply _ _ r h e _ rfl)

/-- A column of the value half. -/
theorem refCodes_val (p : FVec Ideal S48x5120 .f32) (cs sn : FVec Ideal S48x1x64 .f32) (ks vs : FVec Ideal S8 .f32) (r : Fin 48) (h : Fin 8) (e : Fin 128)
    (C : Fin 2048) (hC : C.val = 1024 + (128 * h.val + e.val)) :
    (refCodes p cs sn ks vs (ix2 r C) : EReal) = code (vals p (ix4 r 0 h e)) (vs (ix1 h)) := by
  have hh := h.isLt; have he := e.isLt
  refine (concatenate_pair_apply_right (s₁ := S48x1024) (s₂ := S48x1024) 1 _ _ _ (ix2 r C) rfl rfl (ix2 r (⟨128 * h.val + e.val, by omega⟩ : Fin 1024))
    (fun b hb => match b, hb with | ⟨0, _⟩, _ => rfl | ⟨1, _⟩, hb => absurd rfl hb) ?_).trans (scaled_apply _ _ r h e _ rfl)
  show 128 * h.val + e.val + 1024 = C.val
  omega

end Cert.Qkv

end
-- ==== Proof.QkvKernel.lean ====
/- The qkv projection's code array, element by element: the blocks a point reads, the row products, and the heads' codes. -/
module

public import proofs.«01_k».proof.Proof.Qkv
public import proofs.«01_k».proof.Proof.QkvRef

@[expose] public section

set_option maxRecDepth 16384

noncomputable section

namespace Cert.Qkv

open Cert.KQkvIdeal Cert.KQkvIdeal.Gen Cert.Sparse Idealize.ShloMosaic Idealize.ShloMosaic.TcCoe Idealize.SL.Sem
open Cert.Gu (ev512 nev)

variable (m : (ℓ : Loc nD τ sig) → Buf (Elt Ideal) ℓ)

/-- Where each window's block of a point lies. -/
theorem idx : ∀ t : Fin cfg0.N, win0_0.index t = ![0, 0] ∧ win0_1.index t = ![0, 0] ∧ win0_2.index t = ![t.val, 0] ∧ win0_3.index t = ![0, t.val]
    ∧ win0_4.index t = ![0, t.val] ∧ win0_5.index t = ![0, 0] ∧ win0_6.index t = ![0, 0] ∧ win0_7.index t = ![0] ∧ win0_8.index t = ![0]
    ∧ win0_10.index t = ![0, t.val - 6] :=
  (by decide +kernel : ∀ t : Fin grid0.N, _)

/-- Row `k` of block `t` is a weight row. -/
theorem row_lt (t : Fin cfg0.N) (k : Fin 512) : 512 * t.val + k.val < 5120 := by
  have := k.isLt; have : t.val < 10 := t.isLt; omega

/-- The weight row of column `k` of block `t`. -/
def wrow (t : Fin cfg0.N) (k : Fin 512) : Fin 5120 := ⟨512 * t.val + k.val, row_lt t k⟩

/-- The activation block is the whole argument, as rows. -/
theorem b0 (c : Dev nD) (t : Fin cfg0.N) (r : Fin 48) (C : Fin 3072) : iblk m c 0 t (ix2 r C) = m ((c : Thread nD τ).loc main_arg0) (ix3 r 0 C) := by
  blk_simp [iblk, idx t]
  entry_read
  pointwise
  blk_ext [idx t]

/-- The normalisation's weights, as a row. -/
theorem b1 (c : Dev nD) (t : Fin cfg0.N) (C : Fin 3072) : iblk m c 1 t (ix2 0 C) = m ((c : Thread nD τ).loc main_arg1) (ix1 C) := by
  blk_simp [iblk, idx t]
  entry_read
  pointwise
  blk_ext [idx t]

/-- The code block: a band of rows. -/
theorem b2 (c : Dev nD) (t : Fin cfg0.N) (k : Fin 512) (r : Fin 768) :
    iblk m c 2 t (ix2 k r) = m ((c : Thread nD τ).loc main_arg2) (ix2 (wrow t k) r) := by
  blk_ext [iblk, V, idx t]
  show t.val * 512 + k.val = 512 * t.val + k.val
  omega

/-- The metadata block: a band of columns of the transposed argument. -/
theorem b3 (c : Dev nD) (t : Fin cfg0.N) (r : Fin 192) (k : Fin 512) :
    iblk m c 3 t (ix2 r k) = m ((c : Thread nD τ).loc main_arg3) (ix2 (wrow t k) r) := by
  blk_simp [iblk, idx t]
  entry_read
  pointwise
  blk_ext [idx t]
  show t.val * 512 + k.val = 512 * t.val + k.val
  omega

/-- The scale block: a band of columns of the transposed argument. -/
theorem b4 (c : Dev nD) (t : Fin cfg0.N) (r : Fin 24) (k : Fin 512) :
    iblk m c 4 t (ix2 r k) = m ((c : Thread nD τ).loc main_arg4) (ix2 (wrow t k) r) := by
  blk_simp [iblk, idx t]
  entry_read
  pointwise
  blk_ext [idx t]
  show t.val * 512 + k.val = 512 * t.val + k.val
  omega

/-- The key scales. -/
theorem b7 (c : Dev nD) (t : Fin cfg0.N) (h : Fin 8) : iblk m c 7 t (ix1 h) = m ((c : Thread nD τ).loc main_arg7) (ix1 h) := by
  blk_ext [iblk, V, idx t]

/-- The value scales. -/
theorem b8 (c : Dev nD) (t : Fin cfg0.N) (h : Fin 8) : iblk m c 8 t (ix1 h) = m ((c : Thread nD τ).loc main_arg8) (ix1 h) := by
  blk_ext [iblk, V, idx t]

/-- Two halves joined and laid out as rows. -/
def joined (a b : FVec Ideal S48x1x64 .f32) : FVec Ideal S48x128 .f32 :=
  shapeCast S48x128 (concatenate S48x1x128 2 [⟨S48x1x64, a⟩, ⟨S48x1x64, b⟩] concatenates_S48x1x64_S48x1x64_S48x1x128_d2) shapeCasts_S48x1x128_S48x128

/-- The cosine block: the cosines twice. -/
theorem b5 (c : Dev nD) (t : Fin cfg0.N) (i : S48x128.Idx) :
    iblk m c 5 t i = joined (m ((c : Thread nD τ).loc main_arg5)) (m ((c : Thread nD τ).loc main_arg5)) i := by
  blk_simp [iblk, idx t]
  entry_read
  unfold joined
  blk_ext [idx t]

/-- The sine block: the sines negated, then the sines. -/
theorem b6 (c : Dev nD) (t : Fin cfg0.N) (i : S48x128.Idx) :
    iblk m c 6 t i = joined (Host.negf (m ((c : Thread nD τ).loc main_arg6))) (m ((c : Thread nD τ).loc main_arg6)) i := by
  blk_simp [iblk, idx t]
  entry_read
  unfold joined
  blk_ext [idx t]

/-- The first half of a joined row. -/
theorem joined_lo (a b : FVec Ideal S48x1x64 .f32) (r : Fin 48) (d : Fin 64) (e : Fin 128) (he : e.val = d.val) : joined a b (ix2 r e) = a (ix3 r 0 d) := by
  refine (shapeCast_apply _ _ (ix2 r e) (ix3 r 0 e) ?_).trans ?_
  · rw [Shape.rowMajor_val_two, Shape.rowMajor_val_three]
    show (r.val * 1 + 0) * 128 + e.val = r.val * 128 + e.val
    omega
  · exact concatenate_pair_apply_left (s₁ := S48x1x64) (s₂ := S48x1x64) 2 _ _ _ (ix3 r 0 e) rfl (ix3 r 0 d)
      (fun b => match b with | ⟨0, _⟩ => rfl | ⟨1, _⟩ => rfl | ⟨2, _⟩ => he.symm)

/-- The second half of a joined row. -/
theorem joined_hi (a b : FVec Ideal S48x1x64 .f32) (r : Fin 48) (d : Fin 64) (e : Fin 128) (he : e.val = 64 + d.val) : joined a b (ix2 r e) = b (ix3 r 0 d) := by
  refine (shapeCast_apply _ _ (ix2 r e) (ix3 r 0 e) ?_).trans ?_
  · rw [Shape.rowMajor_val_two, Shape.rowMajor_val_three]
    show (r.val * 1 + 0) * 128 + e.val = r.val * 128 + e.val
    omega
  · refine concatenate_pair_apply_right (s₁ := S48x1x64) (s₂ := S48x1x64) 2 _ _ _ (ix3 r 0 e) rfl rfl (ix3 r 0 d)
      (fun b hb => match b, hb with | ⟨0, _⟩, _ => rfl | ⟨1, _⟩, _ => rfl | ⟨2, _⟩, hb => absurd rfl hb) ?_
    show d.val + 64 = e.val
    omega

/-- The normalised activations. -/
def normed (c : Dev nD) : FVec Ideal S48x3072 .bf16 :=
  kNorm nev (refAct (m ((c : Thread nD τ).loc main_arg0))) (fun i => m ((c : Thread nD τ).loc main_arg1) (ix1 (i 1)))

/-- The widened activation block is the reference's widened argument. -/
theorem act_eq (c : Dev nD) (t : Fin cfg0.N) : act (iblk m c 0 t) = refAct (m ((c : Thread nD τ).loc main_arg0)) := by
  funext i
  rw [show i = ix2 (i 0) (i 1) from eq_ix2 i]
  generalize i 0 = r
  generalize i 1 = C
  refine ((shapeCast_apply _ _ (ix2 r C) (ix2 r C) rfl).trans (b0 m c t r C)).trans (Eq.symm (shapeCast_apply _ _ (ix2 r C) (ix3 r 0 C) ?_))
  rw [Shape.rowMajor_val_two, Shape.rowMajor_val_three]
  show (r.val * 1 + 0) * 3072 + C.val = r.val * 3072 + C.val
  omega

/-- What a point normalises is what the arguments normalise to. -/
theorem normed_eq (c : Dev nD) (t : Fin cfg0.N) : kNorm nev (act (iblk m c 0 t)) (iblk m c 1 t) = normed m c := by
  rw [act_eq]
  unfold normed
  congr 1
  funext i
  rw [show i = ix2 (i 0) (i 1) from eq_ix2 i, show i 0 = (0 : Fin 1) from Subsingleton.elim (α := Fin 1) _ _]
  exact b1 m c t (i 1)

/-- The normalised activations of row `r`, column by column. -/
def arow (c : Dev nD) (r : Fin 48) : Nat → EReal := at2 (0 : EReal) (normed m c) r.val

/-- The code bytes of weight row `R`. -/
def vrow (c : Dev nD) (R : Fin 5120) : Nat → BitVec 8 := at2 (α := BitVec 8) (a := 5120) (b := 768) 0 (m ((c : Thread nD τ).loc main_arg2)) R.val

/-- The metadata words of weight row `R`. -/
def mrow (c : Dev nD) (R : Fin 5120) : Nat → BitVec 16 := at2 (α := BitVec 16) (a := 5120) (b := 192) 0 (m ((c : Thread nD τ).loc main_arg3)) R.val

/-- The scales of weight row `R`. -/
def srow (c : Dev nD) (R : Fin 5120) : Nat → EReal := at2 (α := EReal) (a := 5120) (b := 24) 0 (m ((c : Thread nD τ).loc main_arg4)) R.val

/-- The product of row `r` with weight row `R`. -/
def dotAt (c : Dev nD) (r : Fin 48) (R : Fin 5120) : EReal := rowSum (arow m c r) (vrow m c R) (mrow m c R) (srow m c R) 768

/-- Every later point finds the scratch as the first point left it. -/
theorem scratch (c : Dev nD) (n : Nat) : ∀ (hn : n < cfg0.N) (r : Fin 48) (C : Fin 3072),
    ((outsAt0 m c n hn).2 (ix2 r C) : EReal) = arow m c r (srcCol C.val) := by
  induction n with
  | zero => intro hn r C; rw [scratch_A m c ⟨0, hn⟩ rfl (by show 0 < 6; decide) (by show ¬(6 ≤ 0 % 10 ∧ 0 % 10 ≤ 7); decide) (by show ¬8 ≤ 0; decide) r C, normed_eq]; rfl
  | succ n ih =>
    intro hn r C
    have hN : n + 1 < 10 := hn
    rw [← ih (by omega) r C]
    have z : ¬(n + 1) % 10 = 0 := by omega
    by_cases h1 : n + 1 < 6
    · have := outsAt0_B m c ⟨n + 1, hn⟩ z h1 (by show ¬(6 ≤ (n + 1) % 10 ∧ (n + 1) % 10 ≤ 7); omega) (by show ¬8 ≤ n + 1; omega)
      rw [show outsAt0 m c (n + 1) hn = _ from this]
      rfl
    · by_cases h3 : 8 ≤ n + 1
      · have := outsAt0_D m c ⟨n + 1, hn⟩ z h1 (by show ¬(6 ≤ (n + 1) % 10 ∧ (n + 1) % 10 ≤ 7); omega) h3
        rw [show outsAt0 m c (n + 1) hn = _ from this]
        rfl
      · have := outsAt0_C m c ⟨n + 1, hn⟩ z h1 (by show (6 ≤ (n + 1) % 10 ∧ (n + 1) % 10 ≤ 7); omega) h3
        rw [show outsAt0 m c (n + 1) hn = _ from this]
        rfl

/-- Whether the metadata of weight row `R` are ordered. -/
def Ordered (c : Dev nD) (R : Fin 5120) : Prop := ∀ G, G < 768 → nibOf (mrow m c R (G / 4)) G % 4 < nibOf (mrow m c R (G / 4)) G / 4

set_option maxHeartbeats 1000000 in
/-- A later point's product at one place. -/
theorem prod_apply (c : Dev nD) (t : Fin cfg0.N) (r : Fin 48) (q : Fin 512) (hv : Ordered m c (wrow t q)) :
    (prod (tiles (outsAt0 m c (t.val - 1) (Nat.lt_of_le_of_lt (Nat.sub_le _ _) t.isLt)).2) (iblk m c 2 t) (iblk m c 3 t) (iblk m c 4 t) (ix2 r q) : EReal)
      = dotAt m c r (wrow t q) := by
  have hX := scratch m c (t.val - 1) (Nat.lt_of_le_of_lt (Nat.sub_le _ _) t.isLt) r
  have hA : ∀ (k : Fin 6) (o : Fin 512), (tiles (outsAt0 m c (t.val - 1) (Nat.lt_of_le_of_lt (Nat.sub_le _ _) t.isLt)).2 k (ix2 r o) : EReal)
      = arow m c r (k.val * 512 + 4 * (o.val % 128) + o.val / 128) := by
    intro k o
    have e := ld_ix2 (Val := Elt Ideal) (e := .bf16) (outsAt0 m c (t.val - 1) (Nat.lt_of_le_of_lt (Nat.sub_le _ _) t.isLt)).2 0 (512 * k.val) (by revert k; decide) r o
    refine e.trans ?_
    simp only [Nat.zero_add]
    refine (hX ⟨512 * k.val + o.val, by have := k.isLt; have := o.isLt; omega⟩).trans ?_
    have := o.isLt
    unfold srcCol
    congr 1
    show (512 * k.val + o.val) / 512 * 512 + 4 * ((512 * k.val + o.val) % 512 % 128) + (512 * k.val + o.val) % 512 / 128 = _
    omega
  refine sum6_apply _ _ _ _ _ _ fun k => ?_
  exact loadTile_apply ev512 _ (iblk m c 2 t) _ (iblk m c 4 t) k.val _ _ r q _ _ _ _ (hA k)
    (fun G => (b2 m c t q G).trans (at2_eq (0 : BitVec 8) _ _ _))
    (fun p => (shapeCast_apply _ _ (ix2 p q) (ix2 p q) rfl).trans
      (loadMeta_apply _ k.val _ q _ (fun p => (b3 m c t p q).trans (at2_eq (0 : BitVec 16) _ _ _)) p))
    (fun b => (b4 m c t b q).trans (at2_eq (0 : EReal) _ _ _)) hv

/-- One head's columns of a product. -/
theorem headOf_apply (p : FVec Ideal S48x512 .f32) (h : Fin 4) (r : Fin 48) (d : Fin 128) (q : Fin 512) (hq : q.val = 128 * h.val + d.val) :
    headOf p h (ix2 r d) = p (ix2 r q) :=
  extractStridedSlice_apply _ _ _ _ _ (fun b => match b with | ⟨0, _⟩ => (Nat.zero_add _).symm | ⟨1, _⟩ => hq)

/-- The rotary combination at one place: the other column lies 64 away, around the end. -/
theorem roped_apply (v : FVec Ideal S48x128 .f32) (cs sn : Vec Ideal S48x128 .f32) (r : Fin 48) (d e : Fin 128) (he : e.val = (d.val + 64) % 128) :
    (roped v cs sn (ix2 r d) : EReal) = (v (ix2 r d) : EReal) * (cs (ix2 r d) : EReal) + (v (ix2 r e) : EReal) * (sn (ix2 r d) : EReal) := by
  have g : dynamicRotate 1 64#32 none v rotates_S48x128_d1 (ix2 r d) = v (ix2 r e) := dynamicRotate_apply 1 64#32 v _ (ix2 r d) (ix2 r e) (fun b => match b with
    | ⟨0, _⟩ => rfl
    | ⟨1, _⟩ => by show e.val = (d.val + 128 - 64 % 128) % 128; omega)
  have a : ∀ y : Vec Ideal S48x128 .f32, shapeCast S48x128 y shapeCasts_S48x128_S48x128 (ix2 r d) = y (ix2 r d) := fun y => shapeCast_apply _ _ _ _ rfl
  rw [← g, ← a cs, ← a sn]
  rfl

/-- A head's code at one place. -/
theorem codes_apply (v : FVec Ideal S48x128 .f32) (s : Ideal .f32) (i : S48x128.Idx) : (codes v s i : EReal) = code (v i) s := rfl

/-- The word of a table at an offset. -/
theorem word_apply (s : Vec Ideal S8 .f32) (o : Fin 1 → Nat) (h : ∀ a, o a + S1.size a ≤ S8.size a) (n : Fin 8) (ho : o = ![n.val]) : word s o h = s (ix1 n) := by
  subst ho
  unfold word
  refine congrArg s (funext fun a => ?_)
  match a with
  | ⟨0, _⟩ => exact Fin.ext (by show n.val + 1 * 0 = n.val; omega)

/-- Where a key point finds its scales. -/
theorem off1 : ∀ (t : Fin cfg0.N) (h : Fin 4), (6 ≤ t.val ∧ t.val ≤ 7) → k0_off1 (grid0.coords t) (BitVec.ofNat 32 h.val) = ![4 * (t.val - 6) + h.val] :=
  (by decide +kernel : ∀ (t : Fin grid0.N) (h : Fin 4), _)

/-- Where a value point finds its scales. -/
theorem off2 : ∀ (t : Fin cfg0.N) (h : Fin 4), 8 ≤ t.val → k0_off2 (grid0.coords t) (BitVec.ofNat 32 h.val) = ![4 * (t.val - 8) + h.val] :=
  (by decide +kernel : ∀ (t : Fin grid0.N) (h : Fin 4), _)

/-- The global head of a point's head. -/
def head8 (j : Fin 2) (h : Fin 4) : Fin 8 := ⟨4 * j.val + h.val, by have := j.isLt; have := h.isLt; omega⟩

/-- At a key point, at any place: the code of the rotated product. -/
theorem key_apply (c : Dev nD) (t : Fin cfg0.N) (j : Fin 2) (ht : t.val = 6 + j.val) (r : Fin 48) (h : Fin 4) (d e : Fin 128) (q p : Fin 512)
    (hq : q.val = 128 * h.val + d.val) (hp : p.val = 128 * h.val + e.val) (he : e.val = (d.val + 64) % 128) (hv : ∀ R, Ordered m c R) :
    ((outsAt0 m c t.val t.isLt).1 (ix2 r q) : EReal)
      = code (dotAt m c r (wrow t q) * (joined (m ((c : Thread nD τ).loc main_arg5)) (m ((c : Thread nD τ).loc main_arg5)) (ix2 r d) : EReal)
          + dotAt m c r (wrow t p) * (joined (Host.negf (m ((c : Thread nD τ).loc main_arg6))) (m ((c : Thread nD τ).loc main_arg6)) (ix2 r d) : EReal))
        (m ((c : Thread nD τ).loc main_arg7) (ix1 (head8 j h))) := by
  have hj := j.isLt
  have ho := off1 t
  rw [out_C m c t (by omega) (by omega) (by omega) (by omega) _ rfl (fun h a => by
    have hh := h.isLt
    rw [ho h (by omega)]
    match a with
    | ⟨0, _⟩ => show 4 * (t.val - 6) + h.val + 1 ≤ 8; omega) r h d q hq]
  rw [codes_apply, word_apply _ _ _ (head8 j h) ((ho h (by omega)).trans (by
    show ![4 * (t.val - 6) + h.val] = ![4 * j.val + h.val]
    rw [show t.val - 6 = j.val by omega])), b7, roped_apply _ _ _ r d e he, b5, b6, headOf_apply _ h r d q hq, headOf_apply _ h r e p hp,
    prod_apply m c t r q (hv _), prod_apply m c t r p (hv _)]

/-- At a value point, at any place: the code of the product. -/
theorem val_apply (c : Dev nD) (t : Fin cfg0.N) (j : Fin 2) (ht : t.val = 8 + j.val) (r : Fin 48) (h : Fin 4) (d : Fin 128) (q : Fin 512)
    (hq : q.val = 128 * h.val + d.val) (hv : ∀ R, Ordered m c R) :
    ((outsAt0 m c t.val t.isLt).1 (ix2 r q) : EReal) = code (dotAt m c r (wrow t q)) (m ((c : Thread nD τ).loc main_arg8) (ix1 (head8 j h))) := by
  have hj := j.isLt
  have ho := off2 t
  rw [out_D m c t (by omega) (by omega) (by omega) (by omega) _ rfl (fun h a => by
    have hh := h.isLt
    rw [ho h (by omega)]
    match a with
    | ⟨0, _⟩ => show 4 * (t.val - 8) + h.val + 1 ≤ 8; omega) r h d q hq]
  rw [codes_apply, word_apply _ _ _ (head8 j h) ((ho h (by omega)).trans (by
    show ![4 * (t.val - 8) + h.val] = ![4 * j.val + h.val]
    rw [show t.val - 8 = j.val by omega])), b8, headOf_apply _ h r d q hq, prod_apply m c t r q (hv _)]

/-- Two points that write the code window back write different blocks. -/
theorem idx_inj : ∀ t t' : Fin cfg0.N, win0_10.flush t = true → win0_10.flush t' = true → win0_10.index t = win0_10.index t' → t = t' :=
  (by decide +kernel : ∀ t t' : Fin grid0.N, win0_10.flush t = true → win0_10.flush t' = true → win0_10.index t = win0_10.index t' → t = t')

/-- The last four points write the code window back. -/
theorem flushes : ∀ t : Fin cfg0.N, 6 ≤ t.val → win0_10.flush t = true :=
  (by decide +kernel : ∀ t : Fin grid0.N, 6 ≤ t.val → win0_10.flush t = true)

/-- So their blocks are disjoint. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' h h' hne => (cfg0.win 10).disjoint_blk fun e => hne (idx_inj t t' h h' e)

/-- The code array at a place is what the point of its block left there. -/
theorem arr_apply (c : Dev nD) (t : Fin cfg0.N) (ht : 6 ≤ t.val) (r : Fin 48) (q : Fin 512) (C : Fin 2048) (hC : C.val = 512 * (t.val - 6) + q.val) :
    ((dats m 0 c).arrAt 10 cfg0.N (ix2 r C) : EReal) = (outsAt0 m c t.val t.isLt).1 (ix2 r q) := by
  have e := (dats m 0 c).read_blk_arrAt_eq_flushed 10 disjoint10 cfg0.N t t.isLt (flushes t ht)
  rw [Cert.KQkvIdeal.Value.flushed10] at e
  have g : ((cfg0.win 10).blk t).view.emb (ix2 r q) = ix2 r C := by
    have i1 : win0_10.index t = ![0, t.val - 6] := (idx t).2.2.2.2.2.2.2.2.2
    funext a
    match a with
    | ⟨0, _⟩ => exact Fin.ext (by show win0_10.index t (0 : Fin 2) * 48 + 1 * r.val = r.val; rw [i1]; show 0 * 48 + 1 * r.val = r.val; omega)
    | ⟨1, _⟩ => exact Fin.ext (by show win0_10.index t (1 : Fin 2) * 512 + 1 * q.val = C.val; rw [i1]; show (t.val - 6) * 512 + 1 * q.val = C.val; omega)
  rw [← g]
  exact congrFun e (ix2 r q)

end Cert.Qkv

end
-- ==== Proof.QkvEntry.lean ====
/- What the reference of the qkv projection casts to codes: its host operations, read in two parts. -/
module

public import proofs.«01_k».proof.Proof.QkvRef
public import Idealize.ShloMosaic.Lib.StableHlo.RunRead

@[expose] public section

set_option maxRecDepth 16384

noncomputable section

namespace Cert.Qkv

open Cert.RQkvIdeal Cert.RQkvIdeal.Gen Cert.Sparse Idealize.ShloMosaic Idealize.ShloMosaic.TcCoe Idealize.SL.Sem

/-- The host operations up to the fourth placed weights. -/
abbrev headOps : List (HloOp τ sig (Elt Ideal)) :=
  List.flatten [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17]

/-- The host operations after them. -/
abbrev tailOps : List (HloOp τ sig (Elt Ideal)) := List.flatten [hostOps0_18, hostOps0_19, hostOps0_20, hostOps0_21, hostOps0_22]

/-- Two halves of every head, joined. -/
def joinHalves (a b : FVec Ideal S48x1x8x64 .f32) : FVec Ideal S48x1x8x128 .f32 :=
  concatenate S48x1x8x128 3 [⟨S48x1x8x64, a⟩, ⟨S48x1x8x64, b⟩] concatenates_S48x1x8x64_S48x1x8x64_S48x1x8x128_d3

/-- Keys and values, joined. -/
def joinCodes (a b : FVec Ideal S48x1024 .f32) : FVec Ideal S48x2048 .f32 :=
  concatenate S48x2048 1 [⟨S48x1024, a⟩, ⟨S48x1024, b⟩] concatenates_S48x1024_S48x1024_S48x2048_d1

/-- The operation that joins the halves, by name. -/
theorem halves_op : (StableHlo.binary main_v101 main_v106 main_v107 ((fun a b => concatenate S48x1x8x128 3 [⟨S48x1x8x64, a⟩, ⟨S48x1x8x64, b⟩] concatenates_S48x1x8x64_S48x1x8x64_S48x1x8x128_d3) : (⟨S48x1x8x64, .f32⟩ : BufTy).Contents (Elt Ideal) → (⟨S48x1x8x64, .f32⟩ : BufTy).Contents (Elt Ideal) → (⟨S48x1x8x128, .f32⟩ : BufTy).Contents (Elt Ideal)) : HloOp τ sig (Elt Ideal))
    = StableHlo.binary main_v101 main_v106 main_v107 joinHalves := rfl

/-- The operation that joins keys and values, by name. -/
theorem codes_op : (StableHlo.binary main_v115 main_v121 main_v122 ((fun a b => concatenate S48x2048 1 [⟨S48x1024, a⟩, ⟨S48x1024, b⟩] concatenates_S48x1024_S48x1024_S48x2048_d1) : (⟨S48x1024, .f32⟩ : BufTy).Contents (Elt Ideal) → (⟨S48x1024, .f32⟩ : BufTy).Contents (Elt Ideal) → (⟨S48x2048, .f32⟩ : BufTy).Contents (Elt Ideal)) : HloOp τ sig (Elt Ideal))
    = StableHlo.binary main_v115 main_v121 main_v122 joinCodes := rfl

set_option maxHeartbeats 8000000 in
/-- The later operations make the codes of the product they complete. -/
theorem tail_eq (W : Valuation τ sig (Elt Ideal)) (p : FVec Ideal S48x5120 .f32) (v w : FVec Ideal S5120x768 .bf16) (a : FVec Ideal S48x3072 .bf16)
    (cs sn : FVec Ideal S48x1x64 .f32) (ks vs : FVec Ideal S8 .f32) (hp : W (Proc.devRef .tc main_v82) = p) (hv : W (Proc.devRef .tc main_v88) = v)
    (hw : W (Proc.devRef .tc main_v53) = w) (ha : W (Proc.devRef .tc main_v17) = a)
    (hc : W (Proc.devRef .tc main_v0) = broadcastInDim S48x1x1x64 ![0, 1, 3] bcast_S48x1x64_S48x1x1x64_0_1_3 cs)
    (hs : W (Proc.devRef .tc main_v1) = broadcastInDim S48x1x1x64 ![0, 1, 3] bcast_S48x1x64_S48x1x1x64_0_1_3 sn)
    (hk : W (Proc.devRef .tc main_arg7) = ks) (hl : W (Proc.devRef .tc main_arg8) = vs) :
    StableHlo.after tailOps W (Proc.devRef .tc main_v122)
      = refCodes (addf p (Host.dotGeneral dot_S48x768_S5120x768_S48x5120_1_1_0_0_n_n none (Host.slice S48x768 ![0, 3] ![1, 4] a slicesBy_S48x3072_S48x768_0s1_3s4)
          (mulf v w))) cs sn ks vs := by
  subst hp hv hw ha hk hl
  simp only [tailOps, hostOps0_18, hostOps0_19, hostOps0_20, hostOps0_21, hostOps0_22, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  rw [halves_op, codes_op]
  after_results_simp
  rw [hc, hs]
  rfl

/-- Opens a read down the earlier operations. -/
theorem head_lists : (headOps : List (HloOp τ sig (Elt Ideal))) = hostOps0 ++ (hostOps0_1 ++ (hostOps0_2 ++ (hostOps0_3 ++ (hostOps0_4 ++ (hostOps0_5 ++ (hostOps0_6
    ++ (hostOps0_7 ++ (hostOps0_8 ++ (hostOps0_9 ++ (hostOps0_10 ++ (hostOps0_11 ++ (hostOps0_12 ++ (hostOps0_13 ++ (hostOps0_14 ++ (hostOps0_15 ++ (hostOps0_16
    ++ hostOps0_17)))))))))))))))) := rfl

set_option maxHeartbeats 60800000 in
/-- The earlier operations leave every piece of the product. -/
theorem head_eq (W : Valuation τ sig (Elt Ideal)) :
    StableHlo.after headOps W (Proc.devRef .tc main_v0) = broadcastInDim S48x1x1x64 ![0, 1, 3] bcast_S48x1x64_S48x1x1x64_0_1_3 (W (Proc.devRef .tc main_arg5))
    ∧ StableHlo.after headOps W (Proc.devRef .tc main_v1) = broadcastInDim S48x1x1x64 ![0, 1, 3] bcast_S48x1x64_S48x1x1x64_0_1_3 (W (Proc.devRef .tc main_arg6))
    ∧ StableHlo.after headOps W (Proc.devRef .tc main_arg7) = W (Proc.devRef .tc main_arg7)
    ∧ StableHlo.after headOps W (Proc.devRef .tc main_arg8) = W (Proc.devRef .tc main_arg8)
    ∧ StableHlo.after headOps W (Proc.devRef .tc main_v17) = rNorm nrev (refAct (W (Proc.devRef .tc main_arg0))) (W (Proc.devRef .tc main_arg1))
    ∧ StableHlo.after headOps W (Proc.devRef .tc main_v53) = blockScales rev (W (Proc.devRef .tc main_arg4))
    ∧ StableHlo.after headOps W (Proc.devRef .tc main_v88)
      = select (cmpi .eq (andi (nibs rev (W (Proc.devRef .tc main_arg3))) (splat rev 3#32)) (splat rev 3#32)) (lows rev (W (Proc.devRef .tc main_arg2)))
        (select (cmpi .eq (Host.shrsi (nibs rev (W (Proc.devRef .tc main_arg3))) (splat rev 2#32)) (splat rev 3#32)) (highs rev (W (Proc.devRef .tc main_arg2)))
          (broadcastInDim (Sh 5120 768) ![] rev.sm (constant Sc .bf16 0x0000#16)))
    ∧ StableHlo.after headOps W (Proc.devRef .tc main_v82)
      = addf (addf
        (Host.dotGeneral (refDims rev) none (Host.slice (Sh 48 768) ![0, 0] ![1, 4] (rNorm nrev (refAct (W (Proc.devRef .tc main_arg0))) (W (Proc.devRef .tc main_arg1))) rev.s0)
          (placed rev (W (Proc.devRef .tc main_arg2)) (W (Proc.devRef .tc main_arg3)) (W (Proc.devRef .tc main_arg4)) 0#32))
        (Host.dotGeneral (refDims rev) none (Host.slice (Sh 48 768) ![0, 1] ![1, 4] (rNorm nrev (refAct (W (Proc.devRef .tc main_arg0))) (W (Proc.devRef .tc main_arg1))) rev.s1)
          (placed rev (W (Proc.devRef .tc main_arg2)) (W (Proc.devRef .tc main_arg3)) (W (Proc.devRef .tc main_arg4)) 1#32)))
        (Host.dotGeneral (refDims rev) none (Host.slice (Sh 48 768) ![0, 2] ![1, 4] (rNorm nrev (refAct (W (Proc.devRef .tc main_arg0))) (W (Proc.devRef .tc main_arg1))) rev.s2)
          (placed rev (W (Proc.devRef .tc main_arg2)) (W (Proc.devRef .tc main_arg3)) (W (Proc.devRef .tc main_arg4)) 2#32)) := by
  simp only [head_lists, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, List.cons_append, List.nil_append,
    StableHlo.TRef.binary, StableHlo.TRef.nullary, StableHlo.TRef.ternary, StableHlo.TRef.unary, StableHlo.TRef.toBuf, StableHlo.TRef.ofBuf, cast_eq]
  refine ⟨?_, ?_, ?_, ?_, ?_, ?_, ?_, ?_⟩ <;> after_reads_simp <;> rfl

variable (m : (ℓ : Loc nD τ sig) → Buf (Elt Ideal) ℓ)

/-- The host operations before the cast leave the reference's term. -/
theorem entry_eq (c : Dev nD) : V m c main_v122
    = refTerm (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) := by
  obtain ⟨h0, h1, h7, h8, h17, h53, h88, h82⟩ := head_eq (fun b => m (c, b))
  have e := tail_eq (StableHlo.after headOps (fun b => m (c, b))) _ _ _ _ _ _ _ _ h82 h88 h53 h17 h0 h1 h7 h8
  rw [← StableHlo.after_append] at e
  exact e

end Cert.Qkv

end
-- ==== Proof.QkvTie.lean ====
/- The qkv projection: the kernel's code array and the reference's are the same array. -/
module

public import proofs.«01_k».proof.Defs
public import proofs.«01_k».proof.Proof.QkvKernel
public import proofs.«01_k».proof.Proof.QkvEntry
public import proofs.«01_k».proof.Proof.Ordered

@[expose] public section

set_option maxRecDepth 16384

noncomputable section

namespace Cert.Qkv

open Cert.Sparse Idealize.ShloMosaic Idealize.ShloMosaic.TcCoe Idealize.SL.Sem
open Cert.Gu (nev)

/-- The shape facts of the precondition. -/
theorem preFacts : Cert.Pre_qkv_meta_ordered.Facts where
  natLt_16_32 := by decide
  bcast_S_S5120x192 := by decide
  reducesTo_S5120x192_S_d0_1 := by decide
  h_S_ := by decide

section Reference

open Cert.RQkvIdeal Cert.RQkvIdeal.Gen

variable (m' : (ℓ : Loc nD τ sig) → Buf (Elt Ideal) ℓ)

/-- The one point's windows are the whole arrays. -/
theorem ref_idx : ∀ t : Fin cfg0.N, win0_0.index t = ![0, 0] ∧ win0_1.index t = ![0, 0] ∧ win0_1.flush t = true :=
  (by decide +kernel : ∀ t : Fin grid0.N, win0_0.index t = ![0, 0] ∧ win0_1.index t = ![0, 0] ∧ win0_1.flush t = true)

/-- The cast to codes changes no number here. -/
theorem out_apply (x : Vec Ideal S48x2048 .f32) (r : Fin 48) (C : Fin 2048) : (out0_1 (F := Ideal) x (ix2 r C) : EReal) = x (ix2 r C) := by
  unfold out0_1
  refine (Cert.RQkvIdeal.Value.canon1_eq _ (ix2 r C)).trans ?_
  show (x _ : EReal) = x _
  refine congrArg x (funext fun a => ?_)
  match a with
  | ⟨0, _⟩ => exact Fin.ext (by show 0 + 1 * r.val = r.val; omega)
  | ⟨1, _⟩ => exact Fin.ext (by show 0 + 1 * C.val = C.val; omega)

/-- The result's block is the whole array. -/
theorem read1 (A : Vec Ideal S48x2048 .fp8e4m3) (t : Fin cfg0.N) (r : Fin 48) (C : Fin 2048) :
    (((cfg0.win 1).blk t).view.read (Elt Ideal) A (ix2 r C) : EReal) = A (ix2 r C) := by
  have i1 := (ref_idx t).2.1
  show (A (((cfg0.win 1).blk t).view.emb (ix2 r C)) : EReal) = A (ix2 r C)
  refine congrArg A (funext fun a => ?_)
  match a with
  | ⟨0, _⟩ => exact Fin.ext (by show win0_1.index t (0 : Fin 2) * 48 + 1 * r.val = r.val; rw [i1]; show 0 * 48 + 1 * r.val = r.val; omega)
  | ⟨1, _⟩ => exact Fin.ext (by show win0_1.index t (1 : Fin 2) * 2048 + 1 * C.val = C.val; rw [i1]; show 0 * 2048 + 1 * C.val = C.val; omega)

/-- The operand's block is the whole array. -/
theorem read0 (A : Vec Ideal S48x2048 .f32) (t : Fin cfg0.N) (r : Fin 48) (C : Fin 2048) :
    (((cfg0.win 0).blk t).view.read (Elt Ideal) A (ix2 r C) : EReal) = A (ix2 r C) := by
  have i0 := (ref_idx t).1
  show (A (((cfg0.win 0).blk t).view.emb (ix2 r C)) : EReal) = A (ix2 r C)
  refine congrArg A (funext fun a => ?_)
  match a with
  | ⟨0, _⟩ => exact Fin.ext (by show win0_0.index t (0 : Fin 2) * 48 + 1 * r.val = r.val; rw [i0]; show 0 * 48 + 1 * r.val = r.val; omega)
  | ⟨1, _⟩ => exact Fin.ext (by show win0_0.index t (1 : Fin 2) * 2048 + 1 * C.val = C.val; rw [i0]; show 0 * 2048 + 1 * C.val = C.val; omega)

/-- The reference's run ends at its term. -/
theorem ref_eq (c : Dev nD) : (dats m' 0 c).arrAt 1 cfg0.N
    = refTerm (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7))
      (m' ((c : Thread nD τ).loc main_arg8)) := by
  have z : 0 < cfg0.N := by decide
  have e := Cert.RQkvIdeal.Value.blocks1 m' c ⟨0, z⟩ (ref_idx ⟨0, z⟩).2.2
  rw [Cert.RQkvIdeal.Value.flushed1] at e
  rw [← entry_eq]
  generalize (dats m' 0 c).arrAt 1 cfg0.N = A at e
  unfold iblk at e
  change ((cfg0.win 1).blk ⟨0, z⟩).view.read (Elt Ideal) A
    = (cfg0.win 1).cut (grid0.coords ⟨0, z⟩) (out0_1 (((cfg0.win 0).blk ⟨0, z⟩).view.read (Elt Ideal) (V m' c main_v122))) at e
  generalize V m' c main_v122 = B at e
  funext i
  rw [show i = ix2 (i 0) (i 1) from eq_ix2 i]
  exact (read1 A ⟨0, z⟩ (i 0) (i 1)).symm.trans ((congrFun e (ix2 (i 0) (i 1))).trans ((out_apply _ (i 0) (i 1)).trans (read0 B ⟨0, z⟩ (i 0) (i 1))))

end Reference

section Kernel

open Cert.KQkvIdeal Cert.KQkvIdeal.Gen

variable (m : (ℓ : Loc nD τ sig) → Buf (Elt Ideal) ℓ)

/-- The precondition is the predicate on the metadata alone. -/
theorem pre_eq [hP : Cert.Pre_qkv_meta_ordered.Facts] (a : FVec Ideal S48x1x3072 .bf16) (x : FVec Ideal (Ve 3072) .f32) (V : IVec (Sh 5120 768) 8) (M : IVec (Sh 5120 192) 16)
    (S : FVec Ideal (Sh 5120 24) .f32) (cs sn : FVec Ideal S48x1x64 .f32) (ks vs : FVec Ideal S8 .f32) : Cert.Pre_qkv_meta_ordered.fn (F := Ideal) a x V M S cs sn ks vs
      = orderedAll (N := 5120) (P := 192) hP.natLt_16_32 hP.bcast_S_S5120x192 hP.reducesTo_S5120x192_S_d0_1 hP.h_S_ M := by
  unfold Cert.Pre_qkv_meta_ordered.fn Cert.Pre_qkv_meta_ordered.fn_part1 Cert.Pre_qkv_meta_ordered.fn_part2 orderedAll orderedWords field
  rfl

/-- The precondition orders every nibble the kernel reads. -/
theorem ordered [hP : Cert.Pre_qkv_meta_ordered.Facts] (h : Cert.Pre_KQkvIdeal_qkv_meta_ordered m) (c : Dev nD) (R : Fin 5120) : Ordered m c R := by
  intro G hG
  have e := h c
  rw [pre_eq] at e
  exact ordered_of_all _ _ _ _ _ e R G hG

/-- The kernel's normalised activations are the reference's. -/
theorem normed_ref (c : Dev nD) : normed m c = rNorm nrev (refAct (m ((c : Thread nD τ).loc main_arg0))) (m ((c : Thread nD τ).loc main_arg1)) :=
  kNorm_eq nev nrev _ _ _ fun _ => rfl

/-- The reference's product of the kernel's arguments. -/
def refProd (c : Dev nD) : FVec Ideal (Sh 48 5120) .f32 :=
  refDot rev (rNorm nrev (refAct (m ((c : Thread nD τ).loc main_arg0))) (m ((c : Thread nD τ).loc main_arg1))) (m ((c : Thread nD τ).loc main_arg2))
    (m ((c : Thread nD τ).loc main_arg3)) (m ((c : Thread nD τ).loc main_arg4))

/-- The kernel's product at a place is the reference's. -/
theorem dot_ref (c : Dev nD) (r : Fin 48) (R : Fin 5120) : dotAt m c r R = (refProd m c (ix2 r R) : EReal) := by
  unfold refProd
  rw [refDot_apply rev (by decide) (by decide) (by decide) (by decide), ← normed_ref]
  rfl

/-- The codes the reference makes of the kernel's arguments. -/
def refOut (c : Dev nD) : FVec Ideal S48x2048 .f32 :=
  refCodes (refProd m c) (m ((c : Thread nD τ).loc main_arg5)) (m ((c : Thread nD τ).loc main_arg6)) (m ((c : Thread nD τ).loc main_arg7)) (m ((c : Thread nD τ).loc main_arg8))

/-- A key's code is the reference's. -/
theorem key_tie (c : Dev nD) (hv : ∀ R, Ordered m c R) (r : Fin 48) (j : Fin 2) (h : Fin 4) (d : Fin 128) (C : Fin 2048)
    (hC : C.val = 512 * j.val + (128 * h.val + d.val)) : ((dats m 0 c).arrAt 10 cfg0.N (ix2 r C) : EReal) = refOut m c (ix2 r C) := by
  have hj := j.isLt; have hh := h.isLt; have hd := d.isLt
  have ht : 6 + j.val < cfg0.N := by show 6 + j.val < 10; omega
  let t : Fin cfg0.N := ⟨6 + j.val, ht⟩
  let e : Fin 128 := ⟨(d.val + 64) % 128, Nat.mod_lt _ (by decide)⟩
  let q : Fin 512 := ⟨128 * h.val + d.val, by omega⟩
  let p : Fin 512 := ⟨128 * h.val + e.val, by have := e.isLt; omega⟩
  refine (arr_apply m c t (by show 6 ≤ 6 + j.val; omega) r q C (by show C.val = 512 * (6 + j.val - 6) + (128 * h.val + d.val); omega)).trans ?_
  refine (key_apply m c t j rfl r h d e q p rfl rfl rfl hv).trans ?_
  refine Eq.trans ?_ (refCodes_key (refProd m c) _ _ _ _ r (head8 j h) d C (by show C.val = 128 * (4 * j.val + h.val) + d.val; omega)).symm
  refine congrArg (fun x => code x _) ?_
  rw [dot_ref, dot_ref, ← keys_apply (refProd m c) r (head8 j h) d (wrow t q) (by show 512 * (6 + j.val) + (128 * h.val + d.val) = 3072 + (128 * (4 * j.val + h.val) + d.val); omega),
    ← keys_apply (refProd m c) r (head8 j h) e (wrow t p) (by show 512 * (6 + j.val) + (128 * h.val + e.val) = 3072 + (128 * (4 * j.val + h.val) + e.val); omega)]
  by_cases hl : d.val < 64
  · rw [rotary_lo (keys (refProd m c)) _ _ r (head8 j h) ⟨d.val, hl⟩ d e rfl (by show (d.val + 64) % 128 = 64 + d.val; omega),
      joined_lo _ _ r ⟨d.val, hl⟩ d rfl, joined_lo _ _ r ⟨d.val, hl⟩ d rfl, sub_eq_add_neg, ← mul_neg]
    rfl
  · have hu : d.val - 64 < 64 := by omega
    rw [rotary_hi (keys (refProd m c)) _ _ r (head8 j h) ⟨d.val - 64, hu⟩ e d (by show (d.val + 64) % 128 = d.val - 64; omega) (by show d.val = 64 + (d.val - 64); omega),
      joined_hi _ _ r ⟨d.val - 64, hu⟩ d (by show d.val = 64 + (d.val - 64); omega), joined_hi _ _ r ⟨d.val - 64, hu⟩ d (by show d.val = 64 + (d.val - 64); omega)]

/-- A value's code is the reference's. -/
theorem val_tie (c : Dev nD) (hv : ∀ R, Ordered m c R) (r : Fin 48) (j : Fin 2) (h : Fin 4) (d : Fin 128) (C : Fin 2048)
    (hC : C.val = 1024 + (512 * j.val + (128 * h.val + d.val))) : ((dats m 0 c).arrAt 10 cfg0.N (ix2 r C) : EReal) = refOut m c (ix2 r C) := by
  have hj := j.isLt; have hh := h.isLt; have hd := d.isLt
  have ht : 8 + j.val < cfg0.N := by show 8 + j.val < 10; omega
  let t : Fin cfg0.N := ⟨8 + j.val, ht⟩
  let q : Fin 512 := ⟨128 * h.val + d.val, by omega⟩
  refine (arr_apply m c t (by show 6 ≤ 8 + j.val; omega) r q C (by show C.val = 512 * (8 + j.val - 6) + (128 * h.val + d.val); omega)).trans ?_
  refine (val_apply m c t j rfl r h d q rfl hv).trans ?_
  refine Eq.trans ?_ (refCodes_val (refProd m c) _ _ _ _ r (head8 j h) d C (by show C.val = 1024 + (128 * (4 * j.val + h.val) + d.val); omega)).symm
  refine congrArg (fun x => code x _) ?_
  rw [dot_ref, ← vals_apply (refProd m c) r (head8 j h) d (wrow t q) (by show 512 * (8 + j.val) + (128 * h.val + d.val) = 4096 + (128 * (4 * j.val + h.val) + d.val); omega)]

/-- On memories that agree on the arguments the two results are the same array. -/
theorem tie [Cert.Pre_qkv_meta_ordered.Facts] (h : Cert.Pre_KQkvIdeal_qkv_meta_ordered m) (c : Dev nD) : (dats m 0 c).arrAt 10 cfg0.N
    = refTerm (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) := by
  funext i
  rw [show i = ix2 (i 0) (i 1) from eq_ix2 i]
  generalize i 0 = r
  have hC : (i 1).val < 2048 := (i 1).isLt
  generalize i 1 = C at hC
  by_cases hk : C.val < 1024
  · exact key_tie m c (fun R => ordered m h c R) r ⟨C.val / 512, by omega⟩ ⟨C.val % 512 / 128, by omega⟩ ⟨C.val % 128, by omega⟩ C
      (by show C.val = 512 * (C.val / 512) + (128 * (C.val % 512 / 128) + C.val % 128); omega)
  · exact val_tie m c (fun R => ordered m h c R) r ⟨C.val / 512 - 2, by omega⟩ ⟨C.val % 512 / 128, by omega⟩ ⟨C.val % 128, by omega⟩ C
      (by show C.val = 1024 + (512 * (C.val / 512 - 2) + (128 * (C.val % 512 / 128) + C.val % 128)); omega)

end Kernel

end Cert.Qkv

end
-- ==== Proof.Attn.lean ====
/- The side conditions of the attention call from its precondition: a cache length of at most 1280 makes at most ten trips of
   1024 rows, and each trip's rows lie inside the 10240 rows of the cache. -/
module

public import proofs.«01_k».proof.Defs
public import proofs.«01_k».proof.Proof.Gen.KAttn.Frame
public import proofs.«01_k».proof.Proof.Gen.KAttnIdeal.Frame
public import proofs.«01_k».proof.Proof.Gen.Pre_cache_len_within

@[expose] public section

noncomputable section

namespace Cert.Attn

open Idealize.ShloMosaic Idealize.ShloMosaic.TcCoe

/-- The bound of the rows' loop: the cache length over 128, rounded up (for a length below -127, toward zero). -/
def bound (v : BitVec 32) : BitVec 32 := Scalar.divsi (Scalar.addi v 127#32) 128#32

theorem divsi_one (x : BitVec 32) : Scalar.divsi x 1#32 = x := by
  have hc : ¬ IntOp.SDivCorner x 1#32 := by
    unfold IntOp.SDivCorner
    rintro (h | ⟨_, h⟩)
    · exact absurd h (by decide)
    · exact absurd h (by decide)
  show IntOp.divsi .scalar x 1#32 = x
  unfold IntOp.divsi
  rw [if_neg hc]
  simp

theorem bound_le (v : BitVec 32) (h : v.toInt ≤ 1280) : (bound v).toInt ≤ 10 := by
  have hc : ¬ IntOp.SDivCorner (Scalar.addi v 127#32) 128#32 := by
    unfold IntOp.SDivCorner
    rintro (h | ⟨_, h⟩)
    · exact absurd h (by decide)
    · exact absurd h (by decide)
  have e : bound v = (v + 127#32).sdiv 128#32 := by
    show IntOp.divsi .scalar (v + 127#32) 128#32 = _
    unfold IntOp.divsi
    exact if_neg hc
  have hadd : (v + 127#32).toInt = v.toInt + 127 := by
    rw [BitVec.toInt_add]
    have h1 := BitVec.le_toInt v
    have h127 : (127#32 : BitVec 32).toInt = 127 := by decide
    rw [h127]
    apply Int.bmod_eq_of_le <;> omega
  rw [e, BitVec.toInt_sdiv_of_ne_or_ne _ _ (Or.inr (by decide)), hadd]
  have h128 : (128#32 : BitVec 32).toInt = 128 := by decide
  rw [h128]
  rcases Int.lt_or_le (v.toInt + 127) 0 with hn | hp
  · have e' : (v.toInt + 127).tdiv 128 = -((-(v.toInt + 127)).tdiv 128) := by
      rw [Int.neg_tdiv, Int.neg_neg]
    rw [e', Int.tdiv_eq_ediv_of_nonneg (by omega : 0 ≤ -(v.toInt + 127))]
    omega
  · rw [Int.tdiv_eq_ediv_of_nonneg hp]; omega

/-- The first trip's offset in rows and its divisibility, at a trip below ten. -/
theorem iv_mul (k : Nat) (hk : k < 10) :
    (Scalar.muli (Scf.iv 0#32 1#32 k) 1024#32).toNat = k * 1024 := by
  show ((0#32 + BitVec.ofNat 32 k * 1#32) * 1024#32).toNat = k * 1024
  interval_cases k <;> decide

/-- The trips of the loop from 0 to `b` by 1. -/
theorem trips_le (b : BitVec 32) (h : b.toInt ≤ 10) : Scf.trips 0#32 b 1#32 ≤ 10 := by
  unfold Scf.trips
  have h0 : (0#32 : BitVec 32).toInt = 0 := by decide
  have h1 : (1#32 : BitVec 32).toInt = 1 := by decide
  rw [h0, h1]; omega

theorem ok_first (b : BitVec 32) (h : b.toInt ≤ 10) : Scf.OK 0#32 b 1#32 := by
  have := trips_le b h
  refine ⟨by decide, ?_⟩
  have h0 : (0#32 : BitVec 32).toInt = 0 := by decide
  have h1 : (1#32 : BitVec 32).toInt = 1 := by decide
  rw [h0, h1]; omega

theorem trips_self (b : BitVec 32) : Scf.trips b b 1#32 = 0 := by
  unfold Scf.trips
  have h1 : (1#32 : BitVec 32).toInt = 1 := by decide
  rw [h1]; omega

theorem ok_self (b : BitVec 32) : Scf.OK b b 1#32 := by
  refine ⟨by decide, ?_⟩
  rw [trips_self]
  have := BitVec.toInt_lt (x := b)
  omega

theorem sub_zero (x : BitVec 32) : Scalar.subi x 0#32 = x := BitVec.sub_zero x
theorem mul_one (x : BitVec 32) : Scalar.muli x 1#32 = x := BitVec.mul_one x
theorem zero_add (x : BitVec 32) : Scalar.addi 0#32 x = x := BitVec.zero_add x

theorem loop1 (v : BitVec 32) : Cert.KAttn.k0_t1_loop v = ⟨0#32, bound v, 1#32⟩ := by
  simp only [Cert.KAttn.k0_t1_loop, divsi_one, sub_zero, mul_one, zero_add, bound]

theorem loop2 (v : BitVec 32) : Cert.KAttn.k0_t2_loop v = ⟨bound v, bound v, 1#32⟩ := by
  simp only [Cert.KAttn.k0_t2_loop, divsi_one, sub_zero, mul_one, zero_add, bound]

/-- The body's side condition of a cache length of at most 1280. -/
theorem chk (v : BitVec 32) (h : v.toInt ≤ 1280) : Cert.KAttn.k0_chk1 v := by
  have hb := bound_le v h
  have t1 : (Cert.KAttn.k0_t1_loop v).trips ≤ 10 := by rw [loop1]; exact trips_le _ hb
  have t2 : (Cert.KAttn.k0_t2_loop v).trips = 0 := by rw [loop2]; exact trips_self _
  unfold Cert.KAttn.k0_chk1
  refine ⟨?_, fun k => ?_, fun k a => ?_, ?_, fun k => ?_, fun k => ?_⟩
  · rw [loop1]; exact ok_first _ hb
  · have hk : k.val < 10 := lt_of_lt_of_le k.isLt t1
    show 1024 ∣ (Scalar.muli (Scf.iv 0#32 1#32 k.val) 1024#32).toNat
    rw [iv_mul _ hk]; exact Dvd.intro_left _ rfl
  · have hk : k.val < 10 := lt_of_lt_of_le k.isLt t1
    have e := iv_mul _ hk
    fin_cases a
    · show 0 + 1 ≤ 1; omega
    · show (Scalar.indexCast (Scalar.muli (Scf.iv 0#32 1#32 k.val) 1024#32)).toNat + 1024 ≤ 10240
      have e' : (Scalar.indexCast (Scalar.muli (Scf.iv 0#32 1#32 k.val) 1024#32)).toNat = k.val * 1024 := by
        rw [← e]; rfl
      omega
    · show 0 + 128 ≤ 128; omega
  · rw [loop2]; exact ok_self _
  · exact absurd k.isLt (by omega)
  · exact absurd k.isLt (by omega)

theorem chkIdeal (v : BitVec 32) (h : v.toInt ≤ 1280) : Cert.KAttnIdeal.k0_chk1 v := chk v h

theorem sle_of (v : BitVec 32) (h : IntOp.cmpi .sle v 1280#32 = 1#1) : v.toInt ≤ 1280 := by
  have h' : BitVec.ofBool (v.sle 1280#32) = 1#1 := h
  have h2 : v.sle 1280#32 = true := by
    cases hs : v.sle 1280#32
    · rw [hs] at h'; exact absurd h' (by decide)
    · rfl
  have h3 := of_decide_eq_true h2
  have h1280 : (1280#32 : BitVec 32).toInt = 1280 := by decide
  omega

theorem hyps (m : (ℓ : Loc Cert.KAttn.nD Cert.KAttn.τ Cert.KAttn.sig) → Buf (Elt Bits) ℓ)
    (h : Cert.Pre_KAttn m) (hO : Cert.KAttn.Gen.Ok m) : Cert.KAttn.Gen.Hyps m hO :=
  Cert.KAttn.Gen.Hyps.of (fun c t => by
    obtain rfl : c = 0 := Subsingleton.elim _ _
    exact chk _ (sle_of _ (congrFun (h 0) _)))

theorem hypsIdeal (m : (ℓ : Loc Cert.KAttnIdeal.nD Cert.KAttnIdeal.τ Cert.KAttnIdeal.sig) → Buf (Elt Ideal) ℓ)
    (h : Cert.Pre_KAttnIdeal m) (hO : Cert.KAttnIdeal.Gen.Ok m) : Cert.KAttnIdeal.Gen.Hyps m hO :=
  Cert.KAttnIdeal.Gen.Hyps.of (fun c t => by
    obtain rfl : c = 0 := Subsingleton.elim _ _
    exact chkIdeal _ (sle_of _ (congrFun (h 0) _)))

end Cert.Attn

end
-- ==== Proof.lean ====
module

public import proofs.«01_k».proof.Defs
public import proofs.«01_k».proof.Proof.Gen.KWo.Frame
public import proofs.«01_k».proof.Proof.Gen.KWoIdeal.Value
public import proofs.«01_k».proof.Proof.Gen.RWoIdeal.Run
public import proofs.«01_k».proof.Proof.Gen.KGu.Frame
public import proofs.«01_k».proof.Proof.Gen.KGuIdeal.Value
public import proofs.«01_k».proof.Proof.Gen.RGuIdeal.Run
public import proofs.«01_k».proof.Proof.Gen.KWd.Frame
public import proofs.«01_k».proof.Proof.Gen.KWdIdeal.Value
public import proofs.«01_k».proof.Proof.Gen.RWdIdeal.Run
public import proofs.«01_k».proof.Proof.Gen.KQkv.Launch
public import proofs.«01_k».proof.Proof.Gen.KQkv.Skeleton
public import proofs.«01_k».proof.Proof.Gen.KQkv.Points
public import proofs.«01_k».proof.Proof.Gen.KQkvIdeal.Launch
public import proofs.«01_k».proof.Proof.Gen.KQkvIdeal.Skeleton
public import proofs.«01_k».proof.Proof.Gen.KQkvIdeal.Points
public import proofs.«01_k».proof.Proof.Gen.RQkvIdeal.Value
public import proofs.«01_k».proof.Proof.KQkv.Frame
public import proofs.«01_k».proof.Proof.KQkvIdeal.Value
public import proofs.«01_k».proof.Proof.WoTie
public import proofs.«01_k».proof.Proof.GuTie
public import proofs.«01_k».proof.Proof.WdTie
public import proofs.«01_k».proof.Proof.QkvTie
public import proofs.«01_k».proof.Proof.Gen.KAttn.Frame
public import proofs.«01_k».proof.Proof.Gen.KAttnIdeal.Frame
public import proofs.«01_k».proof.Proof.Gen.Pre_cache_len_within
public import proofs.«01_k».proof.Proof.Attn
public import Idealize.ShloMosaic.Adequacy
public import Idealize.ShloMosaic.Init
public import Idealize.ShloMosaic.Lib.Quiescent

@[expose] public section

noncomputable section

namespace Cert.Proof

open Idealize.ShloMosaic Idealize.SL.Sem

/-- The reference of the output projection runs to completion, keeps its arguments and leaves every counter at zero. -/
theorem quiescent_RWoIdeal : quiescent_RWoIdeal := fun m ρ _ =>
  (θ_run Cert.RWoIdeal.defs _ _).mono (fun r h => ⟨fun c => (h c).2, sem_eq_zero_of_no_sems (by decide) r.2⟩)
    (Cert.RWoIdeal.Value.run (F := Ideal) m ρ)

/-- On ordered metadata the idealized result of the output projection is its reference's. -/
theorem algebraic_KWoIdeal_RWoIdeal [Cert.Pre_wo_meta_ordered.Facts] : algebraic_KWoIdeal_RWoIdeal_pre_wo_meta_ordered := by
  intro m ρ m' ρ' hpre hagree
  refine ⟨_, Cert.KWoIdeal.Value.run (F := Ideal) m ρ, ?_⟩
  refine (θ_run Cert.RWoIdeal.defs _ _).mono (fun _ h c => ⟨?_, (h c).2⟩) (Cert.RWoIdeal.Value.run (F := Ideal) m' ρ')
  rw [(h c).1, Cert.Wo.tie m hpre c, Cert.Wo.ref_eq m' c (by decide)]
  simp only [hagree c]

/-- The reference of the gate-and-up projection runs to completion, keeps its arguments and leaves every counter at zero. -/
theorem quiescent_RGuIdeal : quiescent_RGuIdeal := fun m ρ _ =>
  (θ_run Cert.RGuIdeal.defs _ _).mono (fun r h => ⟨fun c => (h c).2, sem_eq_zero_of_no_sems (by decide) r.2⟩)
    (Cert.RGuIdeal.Value.run (F := Ideal) m ρ)

/-- On ordered metadata the idealized result of the gate-and-up projection is its reference's. -/
theorem algebraic_KGuIdeal_RGuIdeal [Cert.Pre_gu_meta_ordered.Facts] : algebraic_KGuIdeal_RGuIdeal_pre_gu_meta_ordered := by
  intro m ρ m' ρ' hpre hagree
  refine ⟨_, Cert.KGuIdeal.Value.run (F := Ideal) m ρ, ?_⟩
  refine (θ_run Cert.RGuIdeal.defs _ _).mono (fun _ h c => ⟨?_, (h c).2⟩) (Cert.RGuIdeal.Value.run (F := Ideal) m' ρ')
  rw [(h c).1, Cert.Gu.tie m hpre c, Cert.Gu.ref_eq m' c]
  simp only [hagree c]

/-- The reference of the down projection runs to completion, keeps its arguments and leaves every counter at zero. -/
theorem quiescent_RWdIdeal : quiescent_RWdIdeal := fun m ρ _ =>
  (θ_run Cert.RWdIdeal.defs _ _).mono (fun r h => ⟨fun c => (h c).2, sem_eq_zero_of_no_sems (by decide) r.2⟩)
    (Cert.RWdIdeal.Value.run (F := Ideal) m ρ)

/-- On ordered metadata the idealized result of the down projection is its reference's. -/
theorem algebraic_KWdIdeal_RWdIdeal [Cert.Pre_wd_meta_ordered.Facts] : algebraic_KWdIdeal_RWdIdeal_pre_wd_meta_ordered := by
  intro m ρ m' ρ' hpre hagree
  refine ⟨_, Cert.KWdIdeal.Value.run (F := Ideal) m ρ, ?_⟩
  refine (θ_run Cert.RWdIdeal.defs _ _).mono (fun _ h c => ⟨?_, (h c).2⟩) (Cert.RWdIdeal.Value.run (F := Ideal) m' ρ')
  rw [(h c).1, Cert.Wd.tie m hpre c, Cert.Wd.ref_eq m' c]
  simp only [hagree c]

/-- On ordered metadata the idealized code array of the qkv projection is its reference's. -/
theorem algebraic_KQkvIdeal_RQkvIdeal [Cert.Pre_qkv_meta_ordered.Facts] : algebraic_KQkvIdeal_RQkvIdeal_pre_qkv_meta_ordered := by
  intro m ρ m' ρ' hpre hagree
  refine ⟨_, Cert.KQkvIdeal.Value.run_blocks (F := Ideal) m ρ, ?_⟩
  refine (θ_run Cert.RQkvIdeal.defs _ _).mono (fun _ h c => ⟨?_, (h c).2⟩) (Cert.RQkvIdeal.Value.run_blocks (F := Ideal) m' ρ')
  rw [(h c).1, Cert.Qkv.tie m hpre c, Cert.Qkv.ref_eq m' c]
  simp only [hagree c]

/-- Every claim of the certificate. -/
theorem claim : Cert.Claim :=
  haveI := Cert.Wo.preFacts
  haveI := Cert.Gu.preFacts
  haveI := Cert.Wd.preFacts
  haveI := Cert.Qkv.preFacts
  ⟨Cert.KWo.Gen.facts, Cert.KWoIdeal.Gen.facts, Cert.RWoIdeal.Gen.facts, Cert.KGu.Gen.facts, Cert.KGuIdeal.Gen.facts, Cert.RGuIdeal.Gen.facts, Cert.KWd.Gen.facts, Cert.KWdIdeal.Gen.facts, Cert.RWdIdeal.Gen.facts,
    Cert.KQkv.Gen.facts, Cert.KQkvIdeal.Gen.facts, Cert.RQkvIdeal.Gen.facts,
    Cert.KAttn.Gen.facts, Cert.KAttnIdeal.Gen.facts,
    Cert.Wo.preFacts, Cert.Gu.preFacts, Cert.Wd.preFacts, Cert.Qkv.preFacts, Cert.Pre_cache_len_within.Gen.facts,
    fun m ρ _ => Cert.KWo.Gen.frame m ρ, fun m ρ _ => Cert.KWoIdeal.Gen.frame m ρ, fun m ρ _ => Cert.KWoIdeal.Gen.frame m ρ,
    quiescent_RWoIdeal, fun m ρ _ => quiescent_RWoIdeal m ρ trivial,
    fun m ρ _ => Cert.KGu.Gen.frame m ρ, fun m ρ _ => Cert.KGuIdeal.Gen.frame m ρ, fun m ρ _ => Cert.KGuIdeal.Gen.frame m ρ,
    quiescent_RGuIdeal, fun m ρ _ => quiescent_RGuIdeal m ρ trivial,
    fun m ρ _ => Cert.KWd.Gen.frame m ρ, fun m ρ _ => Cert.KWdIdeal.Gen.frame m ρ, fun m ρ _ => Cert.KWdIdeal.Gen.frame m ρ,
    quiescent_RWdIdeal, fun m ρ _ => quiescent_RWdIdeal m ρ trivial,
    fun m ρ _ => Cert.KQkv.Gen.frame m ρ, fun m ρ _ => Cert.KQkvIdeal.Gen.frame m ρ, fun m ρ _ => Cert.KQkvIdeal.Gen.frame m ρ,
    fun m ρ _ => Cert.RQkvIdeal.Gen.frame m ρ, fun m ρ _ => Cert.RQkvIdeal.Gen.frame m ρ,
    fun m ρ h => Cert.KAttn.Gen.frame m ρ trivial (Cert.Attn.hyps m h trivial),
    fun m ρ h => Cert.KAttnIdeal.Gen.frame m ρ trivial (Cert.Attn.hypsIdeal m h trivial),
    (trivial : preserves_KWo_KWoIdeal), algebraic_KWoIdeal_RWoIdeal,
    (trivial : preserves_KGu_KGuIdeal), algebraic_KGuIdeal_RGuIdeal,
    (trivial : preserves_KWd_KWdIdeal), algebraic_KWdIdeal_RWdIdeal,
    (trivial : preserves_KQkv_KQkvIdeal), algebraic_KQkvIdeal_RQkvIdeal,
    (trivial : preserves_KAttn_KAttnIdeal)⟩

end Cert.Proof

end
